-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_inputs [hPre_unit_inputs : Cert.Pre_unit_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_unit_inputs.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_inputs [hPre_unit_inputs : Cert.Pre_unit_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_inputs.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_unit_inputs [hKernelIdeal : Cert.KernelIdeal.Facts] [hPre_unit_inputs : Cert.Pre_unit_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_unit_inputs [hReferenceIdeal : Cert.ReferenceIdeal.Facts] [hPre_unit_inputs : Cert.Pre_unit_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_unit_inputs [hKernelIdeal : Cert.KernelIdeal.Facts] [hReferenceIdeal : Cert.ReferenceIdeal.Facts] [hPre_unit_inputs : Cert.Pre_unit_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v571) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_unit_inputs : Cert.Pre_unit_inputs.Facts),
    quiescent_Kernel (hKernel := hKernel)
    ∧ quiescent_KernelIdeal (hKernelIdeal := hKernelIdeal)
    ∧ quiescent_KernelIdeal_pre_unit_inputs (hKernelIdeal := hKernelIdeal) (hPre_unit_inputs := hPre_unit_inputs)
    ∧ quiescent_ReferenceIdeal (hReferenceIdeal := hReferenceIdeal)
    ∧ quiescent_ReferenceIdeal_pre_unit_inputs (hReferenceIdeal := hReferenceIdeal) (hPre_unit_inputs := hPre_unit_inputs)
    ∧ preserves_Kernel_KernelIdeal
    ∧ algebraic_KernelIdeal_ReferenceIdeal_pre_unit_inputs (hKernelIdeal := hKernelIdeal) (hReferenceIdeal := hReferenceIdeal) (hPre_unit_inputs := hPre_unit_inputs)
-- ==== Pre_unit_inputs.lean ====
abbrev S64x1024 : Shape := ⟨2, ![64, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel

variable [Facts]

def fn {F : FTy → Type} [FloatOps F] (main_arg0 : FVec F S64x1024 .f32) : IVec S_ 1 :=
  let main_cst : FVec F S_ .f32 := constant S_ .f32 0x00000000#32
  let main_v0 : FVec F S64x1024 .f32 := broadcastInDim S64x1024 ![] bcast_S_S64x1024 main_cst
  let main_v1 : IVec S64x1024 1 := cmpf .oge main_arg0 main_v0
  let main_cst_0 : FVec F S_ .f32 := constant S_ .f32 0x3F800000#32
  let main_v2 : FVec F S64x1024 .f32 := broadcastInDim S64x1024 ![] bcast_S_S64x1024 main_cst_0
  let main_v3 : IVec S64x1024 1 := cmpf .ole main_arg0 main_v2
  let main_v4 : IVec S64x1024 1 := andi main_v1 main_v3
  let main_c : IVec S_ 1 := constantI S_ 1 1#1
  let main_v5 : IVec S_ 1 := (fun x v => Host.reduce IntOp.andi x v reducesTo_S64x1024_S_d0_1 h_S_) main_v4 main_c
  main_v5
-- ==== Kernel.lean ====
abbrev S64x1024 : Shape := ⟨2, ![64, 1024]⟩
abbrev S24x4 : Shape := ⟨2, ![24, 4]⟩
abbrev S_ : Shape := ⟨0, ![]⟩
abbrev S1x65536 : Shape := ⟨2, ![1, 65536]⟩
abbrev S32x1x1 : Shape := ⟨3, ![32, 1, 1]⟩
abbrev S1x2048 : Shape := ⟨2, ![1, 2048]⟩
abbrev S1x1x1 : Shape := ⟨3, ![1, 1, 1]⟩
abbrev S8x2048 : Shape := ⟨2, ![8, 2048]⟩
abbrev S1x8x2048 : Shape := ⟨3, ![1, 8, 2048]⟩
abbrev S1 : Shape := ⟨1, ![1]⟩
abbrev S1x1 : Shape := ⟨2, ![1, 1]⟩
abbrev S200x65536 : Shape := ⟨2, ![200, 65536]⟩
abbrev S200x2048 : Shape := ⟨2, ![200, 2048]⟩
abbrev S1x1x2048 : Shape := ⟨3, ![1, 1, 2048]⟩
abbrev S200x64x1024 : Shape := ⟨3, ![200, 64, 1024]⟩

abbrev nBuf : Space → Nat
  | .hbm => 79
  | .vmem => 28
  | .smem => 5
  | _ => 0

abbrev bufTy : (tb : Table) → Fin (tcTables nBuf tb) → BufTy
  | .hbm, ⟨0, _⟩ => ⟨S64x1024, .f32⟩
  | .hbm, ⟨1, _⟩ => ⟨S24x4, .i32⟩
  | .hbm, ⟨2, _⟩ => ⟨S_, .f32⟩
  | .hbm, ⟨3, _⟩ => ⟨S64x1024, .f32⟩
  | .hbm, ⟨4, _⟩ => ⟨S64x1024, .f32⟩
  | .hbm, ⟨5, _⟩ => ⟨S_, .f32⟩
  | .hbm, ⟨6, _⟩ => ⟨S64x1024, .f32⟩
  | .hbm, ⟨7, _⟩ => ⟨S64x1024, .f32⟩
  | .hbm, ⟨8, _⟩ => ⟨S_, .f32⟩
  | .hbm, ⟨9, _⟩ => ⟨S_, .f32⟩
  | .hbm, ⟨10, _⟩ => ⟨S64x1024, .i1⟩
  | .hbm, ⟨11, _⟩ => ⟨S_, .f32⟩
  | .hbm, ⟨12, _⟩ => ⟨S64x1024, .f32⟩
  | .hbm, ⟨13, _⟩ => ⟨S64x1024, .f32⟩
  | .hbm, ⟨14, _⟩ => ⟨S_, .f32⟩
  | .hbm, ⟨15, _⟩ => ⟨S64x1024, .f32⟩
  | .hbm, ⟨16, _⟩ => ⟨S64x1024, .i1⟩
  | .hbm, ⟨17, _⟩ => ⟨S_, .f32⟩
  | .hbm, ⟨18, _⟩ => ⟨S64x1024, .f32⟩
  | .hbm, ⟨19, _⟩ => ⟨S64x1024, .f32⟩
  | .hbm, ⟨20, _⟩ => ⟨S_, .f32⟩
  | .hbm, ⟨21, _⟩ => ⟨S64x1024, .f32⟩
  | .hbm, ⟨22, _⟩ => ⟨S64x1024, .i1⟩
  | .hbm, ⟨23, _⟩ => ⟨S_, .f32⟩
  | .hbm, ⟨24, _⟩ => ⟨S64x1024, .f32⟩
  | .hbm, ⟨25, _⟩ => ⟨S64x1024, .f32⟩
  | .hbm, ⟨26, _⟩ => ⟨S_, .f32⟩
  | .hbm, ⟨27, _⟩ => ⟨S64x1024, .f32⟩
  | .hbm, ⟨28, _⟩ => ⟨S64x1024, .f32⟩
  | .hbm, ⟨29, _⟩ => ⟨S1x65536, .f32⟩
  | .hbm, ⟨30, _⟩ => ⟨S1x65536, .i1⟩
  | .hbm, ⟨31, _⟩ => ⟨S_, .f32⟩
  | .hbm, ⟨32, _⟩ => ⟨S1x65536, .f32⟩
  | .hbm, ⟨33, _⟩ => ⟨S1x65536, .i1⟩
  | .hbm, ⟨34, _⟩ => ⟨S1x65536, .i1⟩
  | .hbm, ⟨35, _⟩ => ⟨S_, .f32⟩
  | .hbm, ⟨36, _⟩ => ⟨S1x65536, .f32⟩
  | .hbm, ⟨37, _⟩ => ⟨S1x65536, .f32⟩
  | .hbm, ⟨38, _⟩ => ⟨S1x65536, .f32⟩
  | .hbm, ⟨39, _⟩ => ⟨S1x65536, .f32⟩
  | .hbm, ⟨40, _⟩ => ⟨S_, .f32⟩
  | .hbm, ⟨41, _⟩ => ⟨S1x65536, .f32⟩
  | .hbm, ⟨42, _⟩ => ⟨S1x65536, .f32⟩
  | .hbm, ⟨43, _⟩ => ⟨S_, .f32⟩
  | .hbm, ⟨44, _⟩ => ⟨S1x65536, .f32⟩
  | .hbm, ⟨45, _⟩ => ⟨S1x65536, .f32⟩
  | .hbm, ⟨46, _⟩ => ⟨S_, .f32⟩
  | .hbm, ⟨47, _⟩ => ⟨S1x65536, .f32⟩
  | .hbm, ⟨48, _⟩ => ⟨S1x65536, .f32⟩
  | .hbm, ⟨49, _⟩ => ⟨S_, .f32⟩
  | .hbm, ⟨50, _⟩ => ⟨S1x65536, .f32⟩
  | .hbm, ⟨51, _⟩ => ⟨S1x65536, .f32⟩
  | .hbm, ⟨52, _⟩ => ⟨S_, .f32⟩
  | .hbm, ⟨53, _⟩ => ⟨S1x65536, .f32⟩
  | .hbm, ⟨54, _⟩ => ⟨S1x65536, .f32⟩
  | .hbm, ⟨55, _⟩ => ⟨S_, .f32⟩
  | .hbm, ⟨56, _⟩ => ⟨S1x65536, .f32⟩
  | .hbm, ⟨57, _⟩ => ⟨S1x65536, .f32⟩
  | .hbm, ⟨58, _⟩ => ⟨S_, .f32⟩
  | .hbm, ⟨59, _⟩ => ⟨S1x65536, .f32⟩
  | .hbm, ⟨60, _⟩ => ⟨S1x65536, .f32⟩
  | .hbm, ⟨61, _⟩ => ⟨S_, .f32⟩
  | .hbm, ⟨62, _⟩ => ⟨S1x65536, .f32⟩
  | .hbm, ⟨63, _⟩ => ⟨S1x65536, .f32⟩
  | .hbm, ⟨64, _⟩ => ⟨S_, .f32⟩
  | .hbm, ⟨65, _⟩ => ⟨S1x65536, .f32⟩
  | .hbm, ⟨66, _⟩ => ⟨S1x65536, .f32⟩
  | .hbm, ⟨67, _⟩ => ⟨S_, .f32⟩
  | .hbm, ⟨68, _⟩ => ⟨S1x65536, .f32⟩
  | .hbm, ⟨69, _⟩ => ⟨S1x65536, .f32⟩
  | .hbm, ⟨70, _⟩ => ⟨S1x65536, .i1⟩
  | .hbm, ⟨71, _⟩ => ⟨S1x65536, .i32⟩
  | .hbm, ⟨72, _⟩ => ⟨S32x1x1, .i32⟩
  | .hbm, ⟨73, _⟩ => ⟨S200x65536, .i32⟩
  | .hbm, ⟨74, _⟩ => ⟨S_, .i32⟩
  | .hbm, ⟨75, _⟩ => ⟨S200x65536, .i32⟩
  | .hbm, ⟨76, _⟩ => ⟨S200x65536, .i1⟩
  | .hbm, ⟨77, _⟩ => ⟨S200x65536, .i1⟩
  | .hbm, ⟨78, _⟩ => ⟨S200x64x1024, .i1⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S1x2048, .i32⟩
  | .local _ .vmem, ⟨25, _⟩ => ⟨S1x2048, .i32⟩
  | .local _ .vmem, ⟨26, _⟩ => ⟨S200x2048, .i32⟩
  | .local _ .vmem, ⟨27, _⟩ => ⟨S200x2048, .i32⟩
  | .local _ .smem, ⟨0, _⟩ => ⟨S24x4, .i32⟩
  | .local _ .smem, ⟨1, _⟩ => ⟨S1x1x1, .i32⟩
  | .local _ .smem, ⟨2, _⟩ => ⟨S1x1x1, .i32⟩
  | .local _ .smem, ⟨3, _⟩ => ⟨S24x4, .i32⟩
  | .local _ .smem, ⟨4, _⟩ => ⟨S32x1x1, .i32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_cst : Ref sig .tc := ⟨.hbm, 11, rfl⟩
abbrev main_call0_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_call1_v0 : Ref sig .tc := ⟨.hbm, 18, rfl⟩
abbrev main_call0_v5 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_call2_v0 : Ref sig .tc := ⟨.hbm, 24, rfl⟩
abbrev main_v4 : Ref sig .tc := ⟨.hbm, 25, rfl⟩
abbrev main_cst_3 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_4 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_5 : Ref sig .tc := ⟨.hbm, 35, rfl⟩
abbrev main_call1_v0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_6 : Ref sig .tc := ⟨.hbm, 40, rfl⟩
abbrev main_v15 : Ref sig .tc := ⟨.hbm, 41, rfl⟩
abbrev main_v16 : Ref sig .tc := ⟨.hbm, 42, rfl⟩
abbrev main_cst_7 : Ref sig .tc := ⟨.hbm, 43, rfl⟩
abbrev main_v17 : Ref sig .tc := ⟨.hbm, 44, rfl⟩
abbrev main_v18 : Ref sig .tc := ⟨.hbm, 45, rfl⟩
abbrev main_cst_8 : Ref sig .tc := ⟨.hbm, 46, rfl⟩
abbrev main_v19 : Ref sig .tc := ⟨.hbm, 47, rfl⟩
abbrev main_v20 : Ref sig .tc := ⟨.hbm, 48, rfl⟩
abbrev main_cst_9 : Ref sig .tc := ⟨.hbm, 49, rfl⟩
abbrev main_v21 : Ref sig .tc := ⟨.hbm, 50, rfl⟩
abbrev main_v22 : Ref sig .tc := ⟨.hbm, 51, rfl⟩
abbrev main_cst_10 : Ref sig .tc := ⟨.hbm, 52, rfl⟩
abbrev main_v23 : Ref sig .tc := ⟨.hbm, 53, rfl⟩
abbrev main_v24 : Ref sig .tc := ⟨.hbm, 54, rfl⟩
abbrev main_cst_11 : Ref sig .tc := ⟨.hbm, 55, rfl⟩
abbrev main_v25 : Ref sig .tc := ⟨.hbm, 56, rfl⟩
abbrev main_v26 : Ref sig .tc := ⟨.hbm, 57, rfl⟩
abbrev main_cst_12 : Ref sig .tc := ⟨.hbm, 58, rfl⟩
abbrev main_v27 : Ref sig .tc := ⟨.hbm, 59, rfl⟩
abbrev main_v28 : Ref sig .tc := ⟨.hbm, 60, rfl⟩
abbrev main_cst_13 : Ref sig .tc := ⟨.hbm, 61, rfl⟩
abbrev main_v29 : Ref sig .tc := ⟨.hbm, 62, rfl⟩
abbrev main_v30 : Ref sig .tc := ⟨.hbm, 63, rfl⟩
abbrev main_cst_14 : Ref sig .tc := ⟨.hbm, 64, rfl⟩
abbrev main_v31 : Ref sig .tc := ⟨.hbm, 65, rfl⟩
abbrev main_v32 : Ref sig .tc := ⟨.hbm, 66, rfl⟩
abbrev main_cst_15 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_16 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg9_0 : Ref sig .tc := ⟨.vmem, 26, rfl⟩
abbrev cc1_stg9_1 : Ref sig .tc := ⟨.vmem, 27, rfl⟩
abbrev cc0_stg6_0 : Ref sig .tc := ⟨.smem, 0, rfl⟩
abbrev cc0_stg7_0 : Ref sig .tc := ⟨.smem, 1, rfl⟩
abbrev cc0_stg7_1 : Ref sig .tc := ⟨.smem, 2, rfl⟩
abbrev cc1_stg7_0 : Ref sig .tc := ⟨.smem, 3, rfl⟩
abbrev cc1_stg8_0 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem8_0 : DmaSem sig := 30
abbrev cc1_sem9_0 : DmaSem sig := 31
abbrev cc1_sem9_1 : DmaSem sig := 32

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_12 : BitVec 32 := 0#32
  let c26_i32 : BitVec 32 := 26#32
  let v30 : BitVec 32 := Scalar.addi c0_i32_12 c26_i32
  let c1_i32 : BitVec 32 := 1#32
  ⟨c0_i32_12, v30, c1_i32⟩
def k0_off1 (arg11 : BitVec 32) : Fin 2 → Nat :=
  let v46 : Index := Scalar.indexCast arg11
  let c0_19 : Index := 0#32
  ![v46.toNat, 0]

def k0_off2 (arg11 : BitVec 32) : Fin 2 → Nat :=
  let v48 : Index := Scalar.indexCast arg11
  let c1 : Index := 1#32
  ![v48.toNat, 1]
def k0_off3 (arg11 : BitVec 32) : Fin 2 → Nat :=
  let v50 : Index := Scalar.indexCast arg11
  let c2 : Index := 2#32
  ![v50.toNat, 2]
def k0_off4 (arg11 : BitVec 32) : Fin 2 → Nat :=
  let v52 : Index := Scalar.indexCast arg11
  let c3 : Index := 3#32
  ![v52.toNat, 3]

def k0_chk1 (arg11 : BitVec 32) : Prop :=
  (∀ a, (k0_off1 arg11) a + S1x1.size a ≤ S24x4.size a) ∧
  (∀ a, (k0_off2 arg11) a + S1x1.size a ≤ S24x4.size a) ∧
  (∀ a, (k0_off3 arg11) a + S1x1.size a ≤ S24x4.size a) ∧
  (∀ a, (k0_off4 arg11) a + S1x1.size a ≤ S24x4.size a)
theorem k0_off1_inb : ∀ (arg11 : BitVec 32) (k0_hw1 : k0_chk1 arg11), ∀ a, (k0_off1 arg11) a + S1x1.size a ≤ S24x4.size a := fun arg11 k0_hw1 => k0_hw1.1
theorem k0_off2_inb : ∀ (arg11 : BitVec 32) (k0_hw1 : k0_chk1 arg11), ∀ a, (k0_off2 arg11) a + S1x1.size a ≤ S24x4.size a := fun arg11 k0_hw1 => k0_hw1.2.1
theorem k0_off3_inb : ∀ (arg11 : BitVec 32) (k0_hw1 : k0_chk1 arg11), ∀ a, (k0_off3 arg11) a + S1x1.size a ≤ S24x4.size a := fun arg11 k0_hw1 => k0_hw1.2.2.1
theorem k0_off4_inb : ∀ (arg11 : BitVec 32) (k0_hw1 : k0_chk1 arg11), ∀ a, (k0_off4 arg11) a + S1x1.size a ≤ S24x4.size a := fun arg11 k0_hw1 => k0_hw1.2.2.2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S24x4 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .smem S1x1x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

@[reducible] def k1_t1_loop : Scf.Loop 32 :=
  let c0_i32_0 : BitVec 32 := 0#32
  let c32_i32 : BitVec 32 := 32#32
  let v0 : BitVec 32 := Scalar.addi c0_i32_0 c32_i32
  let c1_i32 : BitVec 32 := 1#32
  ⟨c0_i32_0, v0, c1_i32⟩
def k1_off1 (k1_t1 : Fin k1_t1_loop.trips) : Fin 3 → Nat :=
  let c0_i32_0 : BitVec 32 := 0#32
  let c1_i32 : BitVec 32 := 1#32
  let arg11 : BitVec 32 := Scf.iv c0_i32_0 c1_i32 k1_t1
  let v50 : Index := Scalar.indexCast arg11
  let c0_26 : Index := 0#32
  let c0_27 : Index := 0#32
  ![v50.toNat, 0, 0]
def k1_off2 (arg14 : BitVec 32) : Fin 2 → Nat :=
  let v126 : Index := Scalar.indexCast arg14
  let c0_39 : Index := 0#32
  ![v126.toNat, 0]

def k1_off3 (arg14 : BitVec 32) : Fin 2 → Nat :=
  let v128 : Index := Scalar.indexCast arg14
  let c1 : Index := 1#32
  ![v128.toNat, 1]
def k1_off4 (arg14 : BitVec 32) : Fin 2 → Nat :=
  let v130 : Index := Scalar.indexCast arg14
  let c2 : Index := 2#32
  ![v130.toNat, 2]
def k1_off5 (arg14 : BitVec 32) : Fin 2 → Nat :=
  let v132 : Index := Scalar.indexCast arg14
  let c3 : Index := 3#32
  ![v132.toNat, 3]

def k1_chk1 (arg14 : BitVec 32) : Prop :=
  (∀ a, (k1_off2 arg14) a + S1x1.size a ≤ S24x4.size a) ∧
  (∀ a, (k1_off3 arg14) a + S1x1.size a ≤ S24x4.size a) ∧
  (∀ a, (k1_off4 arg14) a + S1x1.size a ≤ S24x4.size a) ∧
  (∀ a, (k1_off5 arg14) a + S1x1.size a ≤ S24x4.size a)
theorem k1_off2_inb : ∀ (arg14 : BitVec 32) (k1_hw1 : k1_chk1 arg14), ∀ a, (k1_off2 arg14) a + S1x1.size a ≤ S24x4.size a := fun arg14 k1_hw1 => k1_hw1.1
theorem k1_off3_inb : ∀ (arg14 : BitVec 32) (k1_hw1 : k1_chk1 arg14), ∀ a, (k1_off3 arg14) a + S1x1.size a ≤ S24x4.size a := fun arg14 k1_hw1 => k1_hw1.2.1
theorem k1_off4_inb : ∀ (arg14 : BitVec 32) (k1_hw1 : k1_chk1 arg14), ∀ a, (k1_off4 arg14) a + S1x1.size a ≤ S24x4.size a := fun arg14 k1_hw1 => k1_hw1.2.2.1
theorem k1_off5_inb : ∀ (arg14 : BitVec 32) (k1_hw1 : k1_chk1 arg14), ∀ a, (k1_off5 arg14) a + S1x1.size a ≤ S24x4.size a := fun arg14 k1_hw1 => k1_hw1.2.2.2

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2048 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .smem S24x4 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .smem S32x1x1 .i32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S200x2048 .i32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S64x1024 : Shape := ⟨2, ![64, 1024]⟩
abbrev S24x4 : Shape := ⟨2, ![24, 4]⟩
abbrev S_ : Shape := ⟨0, ![]⟩
abbrev S24x201x64x1024 : Shape := ⟨4, ![24, 201, 64, 1024]⟩
abbrev S24x1 : Shape := ⟨2, ![24, 1]⟩
abbrev S24 : Shape := ⟨1, ![24]⟩
abbrev S201x64x1024 : Shape := ⟨3, ![201, 64, 1024]⟩
abbrev S1x201x64x1024 : Shape := ⟨4, ![1, 201, 64, 1024]⟩
abbrev S1x64x1024 : Shape := ⟨3, ![1, 64, 1024]⟩
abbrev S201x65536 : Shape := ⟨2, ![201, 65536]⟩
abbrev S65536 : Shape := ⟨1, ![65536]⟩
abbrev S201x65536x1 : Shape := ⟨3, ![201, 65536, 1]⟩
abbrev S201x65536x2 : Shape := ⟨3, ![201, 65536, 2]⟩
abbrev S200x64x1024 : Shape := ⟨3, ![200, 64, 1024]⟩

abbrev nBuf : Space → Nat
  | .hbm => 771
  | .vmem => 0
  | .smem => 0
  | _ => 0

abbrev hbmTy0_0 (i : Nat) : BufTy := match i % 128 with
  | 0 => ⟨S64x1024, .f32⟩
  | 1 => ⟨S24x4, .i32⟩
  | 2 => ⟨S_, .f32⟩
  | 3 => ⟨S64x1024, .f32⟩
  | 4 => ⟨S64x1024, .f32⟩
  | 5 => ⟨S_, .f32⟩
  | 6 => ⟨S64x1024, .f32⟩
  | 7 => ⟨S64x1024, .f32⟩
  | 8 => ⟨S_, .f32⟩
  | 9 => ⟨S_, .f32⟩
  | 10 => ⟨S64x1024, .i1⟩
  | 11 => ⟨S_, .f32⟩
  | 12 => ⟨S64x1024, .f32⟩
  | 13 => ⟨S64x1024, .f32⟩
  | 14 => ⟨S_, .f32⟩
  | 15 => ⟨S64x1024, .f32⟩
  | 16 => ⟨S64x1024, .i1⟩
  | 17 => ⟨S_, .f32⟩
  | 18 => ⟨S64x1024, .f32⟩
  | 19 => ⟨S64x1024, .f32⟩
  | 20 => ⟨S_, .f32⟩
  | 21 => ⟨S64x1024, .f32⟩
  | 22 => ⟨S64x1024, .i1⟩
  | 23 => ⟨S_, .f32⟩
  | 24 => ⟨S64x1024, .f32⟩
  | 25 => ⟨S64x1024, .f32⟩
  | 26 => ⟨S_, .f32⟩
  | 27 => ⟨S64x1024, .f32⟩
  | 28 => ⟨S64x1024, .f32⟩
  | 29 => ⟨S64x1024, .i1⟩
  | 30 => ⟨S_, .f32⟩
  | 31 => ⟨S64x1024, .f32⟩
  | 32 => ⟨S64x1024, .i1⟩
  | 33 => ⟨S64x1024, .i1⟩
  | 34 => ⟨S_, .f32⟩
  | 35 => ⟨S64x1024, .f32⟩
  | 36 => ⟨S64x1024, .f32⟩
  | 37 => ⟨S64x1024, .f32⟩
  | 38 => ⟨S64x1024, .f32⟩
  | 39 => ⟨S_, .f32⟩
  | 40 => ⟨S64x1024, .f32⟩
  | 41 => ⟨S64x1024, .f32⟩
  | 42 => ⟨S_, .f32⟩
  | 43 => ⟨S64x1024, .f32⟩
  | 44 => ⟨S64x1024, .f32⟩
  | 45 => ⟨S_, .f32⟩
  | 46 => ⟨S64x1024, .f32⟩
  | 47 => ⟨S64x1024, .f32⟩
  | 48 => ⟨S_, .f32⟩
  | 49 => ⟨S64x1024, .f32⟩
  | 50 => ⟨S64x1024, .f32⟩
  | 51 => ⟨S_, .f32⟩
  | 52 => ⟨S64x1024, .f32⟩
  | 53 => ⟨S64x1024, .f32⟩
  | 54 => ⟨S_, .f32⟩
  | 55 => ⟨S64x1024, .f32⟩
  | 56 => ⟨S64x1024, .f32⟩
  | 57 => ⟨S_, .f32⟩
  | 58 => ⟨S64x1024, .f32⟩
  | 59 => ⟨S64x1024, .f32⟩
  | 60 => ⟨S_, .f32⟩
  | 61 => ⟨S64x1024, .f32⟩
  | 62 => ⟨S64x1024, .f32⟩
  | 63 => ⟨S_, .f32⟩
  | 64 => ⟨S64x1024, .f32⟩
  | 65 => ⟨S64x1024, .f32⟩
  | 66 => ⟨S_, .f32⟩
  | 67 => ⟨S64x1024, .f32⟩
  | 68 => ⟨S64x1024, .f32⟩
  | 69 => ⟨S24x201x64x1024, .i32⟩
  | 70 => ⟨S_, .i32⟩
  | 71 => ⟨S24x201x64x1024, .i32⟩
  | 72 => ⟨S24x201x64x1024, .i32⟩
  | 73 => ⟨S24x201x64x1024, .i32⟩
  | 74 => ⟨S_, .i32⟩
  | 75 => ⟨S24x201x64x1024, .i32⟩
  | 76 => ⟨S24x201x64x1024, .i32⟩
  | 77 => ⟨S24x201x64x1024, .i32⟩
  | 78 => ⟨S24x201x64x1024, .i32⟩
  | 79 => ⟨S24x201x64x1024, .i32⟩
  | 80 => ⟨S24x1, .i32⟩
  | 81 => ⟨S24, .i32⟩
  | 82 => ⟨S24x201x64x1024, .i32⟩
  | 83 => ⟨S24x1, .i32⟩
  | 84 => ⟨S24, .i32⟩
  | 85 => ⟨S24x201x64x1024, .i32⟩
  | 86 => ⟨S24x1, .i32⟩
  | 87 => ⟨S24, .i32⟩
  | 88 => ⟨S24x201x64x1024, .i32⟩
  | 89 => ⟨S24x1, .i32⟩
  | 90 => ⟨S24, .i32⟩
  | 91 => ⟨S24x201x64x1024, .i32⟩
  | 92 => ⟨S24x201x64x1024, .f32⟩
  | 93 => ⟨S24x201x64x1024, .f32⟩
  | 94 => ⟨S24x201x64x1024, .f32⟩
  | 95 => ⟨S24x201x64x1024, .f32⟩
  | 96 => ⟨S24x201x64x1024, .f32⟩
  | 97 => ⟨S24x201x64x1024, .f32⟩
  | 98 => ⟨S24x201x64x1024, .i32⟩
  | 99 => ⟨S_, .i32⟩
  | 100 => ⟨S24x201x64x1024, .i32⟩
  | 101 => ⟨S24x201x64x1024, .i32⟩
  | 102 => ⟨S_, .i32⟩
  | 103 => ⟨S24x201x64x1024, .i32⟩
  | 104 => ⟨S24x201x64x1024, .i32⟩
  | 105 => ⟨S24x201x64x1024, .i32⟩
  | 106 => ⟨S24x201x64x1024, .i32⟩
  | 107 => ⟨S_, .i32⟩
  | 108 => ⟨S24x201x64x1024, .i32⟩
  | 109 => ⟨S24x201x64x1024, .i32⟩
  | 110 => ⟨S_, .i32⟩
  | 111 => ⟨S24x201x64x1024, .i32⟩
  | 112 => ⟨S24x201x64x1024, .i32⟩
  | 113 => ⟨S24x201x64x1024, .i32⟩
  | 114 => ⟨S24x201x64x1024, .i32⟩
  | 115 => ⟨S24x201x64x1024, .i32⟩
  | 116 => ⟨S_, .i32⟩
  | 117 => ⟨S24x201x64x1024, .i32⟩
  | 118 => ⟨S24x201x64x1024, .i32⟩
  | 119 => ⟨S_, .i32⟩
  | 120 => ⟨S24x201x64x1024, .i32⟩
  | 121 => ⟨S24x201x64x1024, .i32⟩
  | 122 => ⟨S24x201x64x1024, .i32⟩
  | 123 => ⟨S24x201x64x1024, .i32⟩
  | 124 => ⟨S24x201x64x1024, .i32⟩
  | 125 => ⟨S_, .i32⟩
  | 126 => ⟨S24x201x64x1024, .i32⟩
  | 127 => ⟨S24x201x64x1024, .i32⟩
  | _ => ⟨S64x1024, .f32⟩

abbrev hbmTy0_1 (i : Nat) : BufTy := match i % 128 with
  | 0 => ⟨S_, .i32⟩
  | 1 => ⟨S24x201x64x1024, .i32⟩
  | 2 => ⟨S24x201x64x1024, .i32⟩
  | 3 => ⟨S24x201x64x1024, .i32⟩
  | 4 => ⟨S24x201x64x1024, .i32⟩
  | 5 => ⟨S24x201x64x1024, .i32⟩
  | 6 => ⟨S_, .i32⟩
  | 7 => ⟨S24x201x64x1024, .i32⟩
  | 8 => ⟨S24x201x64x1024, .i32⟩
  | 9 => ⟨S_, .i32⟩
  | 10 => ⟨S24x201x64x1024, .i32⟩
  | 11 => ⟨S24x201x64x1024, .i32⟩
  | 12 => ⟨S24x201x64x1024, .i32⟩
  | 13 => ⟨S24x201x64x1024, .i32⟩
  | 14 => ⟨S24x201x64x1024, .i32⟩
  | 15 => ⟨S24x201x64x1024, .i32⟩
  | 16 => ⟨S_, .i32⟩
  | 17 => ⟨S24x201x64x1024, .i32⟩
  | 18 => ⟨S24x201x64x1024, .i32⟩
  | 19 => ⟨S24x201x64x1024, .i32⟩
  | 20 => ⟨S_, .i32⟩
  | 21 => ⟨S24x201x64x1024, .i32⟩
  | 22 => ⟨S24x201x64x1024, .i32⟩
  | 23 => ⟨S_, .i32⟩
  | 24 => ⟨S24x201x64x1024, .i32⟩
  | 25 => ⟨S24x201x64x1024, .i32⟩
  | 26 => ⟨S24x201x64x1024, .i32⟩
  | 27 => ⟨S24x201x64x1024, .i32⟩
  | 28 => ⟨S24x201x64x1024, .i32⟩
  | 29 => ⟨S_, .i32⟩
  | 30 => ⟨S24x201x64x1024, .i32⟩
  | 31 => ⟨S24x201x64x1024, .i32⟩
  | 32 => ⟨S_, .i32⟩
  | 33 => ⟨S24x201x64x1024, .i32⟩
  | 34 => ⟨S24x201x64x1024, .i32⟩
  | 35 => ⟨S24x201x64x1024, .i32⟩
  | 36 => ⟨S24x201x64x1024, .i32⟩
  | 37 => ⟨S24x201x64x1024, .i32⟩
  | 38 => ⟨S_, .i32⟩
  | 39 => ⟨S24x201x64x1024, .i32⟩
  | 40 => ⟨S24x201x64x1024, .i32⟩
  | 41 => ⟨S_, .i32⟩
  | 42 => ⟨S24x201x64x1024, .i32⟩
  | 43 => ⟨S24x201x64x1024, .i32⟩
  | 44 => ⟨S24x201x64x1024, .i32⟩
  | 45 => ⟨S24x201x64x1024, .i32⟩
  | 46 => ⟨S24x201x64x1024, .i32⟩
  | 47 => ⟨S_, .i32⟩
  | 48 => ⟨S24x201x64x1024, .i32⟩
  | 49 => ⟨S24x201x64x1024, .i32⟩
  | 50 => ⟨S_, .i32⟩
  | 51 => ⟨S24x201x64x1024, .i32⟩
  | 52 => ⟨S24x201x64x1024, .i32⟩
  | 53 => ⟨S24x201x64x1024, .i32⟩
  | 54 => ⟨S24x201x64x1024, .i32⟩
  | 55 => ⟨S24x201x64x1024, .i32⟩
  | 56 => ⟨S24x201x64x1024, .i32⟩
  | 57 => ⟨S_, .i32⟩
  | 58 => ⟨S24x201x64x1024, .i32⟩
  | 59 => ⟨S24x201x64x1024, .i32⟩
  | 60 => ⟨S24x201x64x1024, .i32⟩
  | 61 => ⟨S_, .i32⟩
  | 62 => ⟨S24x201x64x1024, .i32⟩
  | 63 => ⟨S24x201x64x1024, .i32⟩
  | 64 => ⟨S_, .i32⟩
  | 65 => ⟨S24x201x64x1024, .i32⟩
  | 66 => ⟨S24x201x64x1024, .i32⟩
  | 67 => ⟨S24x201x64x1024, .i32⟩
  | 68 => ⟨S24x201x64x1024, .i32⟩
  | 69 => ⟨S24x201x64x1024, .i32⟩
  | 70 => ⟨S_, .i32⟩
  | 71 => ⟨S24x201x64x1024, .i32⟩
  | 72 => ⟨S24x201x64x1024, .i32⟩
  | 73 => ⟨S_, .i32⟩
  | 74 => ⟨S24x201x64x1024, .i32⟩
  | 75 => ⟨S24x201x64x1024, .i32⟩
  | 76 => ⟨S24x201x64x1024, .i32⟩
  | 77 => ⟨S24x201x64x1024, .i32⟩
  | 78 => ⟨S24x201x64x1024, .i32⟩
  | 79 => ⟨S_, .i32⟩
  | 80 => ⟨S24x201x64x1024, .i32⟩
  | 81 => ⟨S24x201x64x1024, .i32⟩
  | 82 => ⟨S_, .i32⟩
  | 83 => ⟨S24x201x64x1024, .i32⟩
  | 84 => ⟨S24x201x64x1024, .i32⟩
  | 85 => ⟨S24x201x64x1024, .i32⟩
  | 86 => ⟨S24x201x64x1024, .i32⟩
  | 87 => ⟨S24x201x64x1024, .i32⟩
  | 88 => ⟨S_, .i32⟩
  | 89 => ⟨S24x201x64x1024, .i32⟩
  | 90 => ⟨S24x201x64x1024, .i32⟩
  | 91 => ⟨S_, .i32⟩
  | 92 => ⟨S24x201x64x1024, .i32⟩
  | 93 => ⟨S24x201x64x1024, .i32⟩
  | 94 => ⟨S24x201x64x1024, .i32⟩
  | 95 => ⟨S24x201x64x1024, .i32⟩
  | 96 => ⟨S24x201x64x1024, .i32⟩
  | 97 => ⟨S24x201x64x1024, .i32⟩
  | 98 => ⟨S_, .i32⟩
  | 99 => ⟨S24x201x64x1024, .i32⟩
  | 100 => ⟨S24x201x64x1024, .i32⟩
  | 101 => ⟨S24x201x64x1024, .i32⟩
  | 102 => ⟨S_, .i32⟩
  | 103 => ⟨S24x201x64x1024, .i32⟩
  | 104 => ⟨S24x201x64x1024, .i32⟩
  | 105 => ⟨S_, .i32⟩
  | 106 => ⟨S24x201x64x1024, .i32⟩
  | 107 => ⟨S24x201x64x1024, .i32⟩
  | 108 => ⟨S24x201x64x1024, .i32⟩
  | 109 => ⟨S24x201x64x1024, .i32⟩
  | 110 => ⟨S24x201x64x1024, .i32⟩
  | 111 => ⟨S_, .i32⟩
  | 112 => ⟨S24x201x64x1024, .i32⟩
  | 113 => ⟨S24x201x64x1024, .i32⟩
  | 114 => ⟨S_, .i32⟩
  | 115 => ⟨S24x201x64x1024, .i32⟩
  | 116 => ⟨S24x201x64x1024, .i32⟩
  | 117 => ⟨S24x201x64x1024, .i32⟩
  | 118 => ⟨S24x201x64x1024, .i32⟩
  | 119 => ⟨S24x201x64x1024, .i32⟩
  | 120 => ⟨S_, .i32⟩
  | 121 => ⟨S24x201x64x1024, .i32⟩
  | 122 => ⟨S24x201x64x1024, .i32⟩
  | 123 => ⟨S_, .i32⟩
  | 124 => ⟨S24x201x64x1024, .i32⟩
  | 125 => ⟨S24x201x64x1024, .i32⟩
  | 126 => ⟨S24x201x64x1024, .i32⟩
  | 127 => ⟨S24x201x64x1024, .i32⟩
  | _ => ⟨S64x1024, .f32⟩

abbrev hbmTy0_2 (i : Nat) : BufTy := match i % 128 with
  | 0 => ⟨S24x201x64x1024, .i32⟩
  | 1 => ⟨S_, .i32⟩
  | 2 => ⟨S24x201x64x1024, .i32⟩
  | 3 => ⟨S24x201x64x1024, .i32⟩
  | 4 => ⟨S_, .i32⟩
  | 5 => ⟨S24x201x64x1024, .i32⟩
  | 6 => ⟨S24x201x64x1024, .i32⟩
  | 7 => ⟨S24x201x64x1024, .i32⟩
  | 8 => ⟨S24x201x64x1024, .i32⟩
  | 9 => ⟨S24x201x64x1024, .i32⟩
  | 10 => ⟨S24x201x64x1024, .i32⟩
  | 11 => ⟨S_, .i32⟩
  | 12 => ⟨S24x201x64x1024, .i32⟩
  | 13 => ⟨S24x201x64x1024, .i32⟩
  | 14 => ⟨S24x201x64x1024, .i32⟩
  | 15 => ⟨S_, .i32⟩
  | 16 => ⟨S24x201x64x1024, .i32⟩
  | 17 => ⟨S24x201x64x1024, .i32⟩
  | 18 => ⟨S_, .i32⟩
  | 19 => ⟨S24x201x64x1024, .i32⟩
  | 20 => ⟨S24x201x64x1024, .i32⟩
  | 21 => ⟨S24x201x64x1024, .i32⟩
  | 22 => ⟨S24x201x64x1024, .i32⟩
  | 23 => ⟨S24x201x64x1024, .i32⟩
  | 24 => ⟨S_, .i32⟩
  | 25 => ⟨S24x201x64x1024, .i32⟩
  | 26 => ⟨S24x201x64x1024, .i32⟩
  | 27 => ⟨S_, .i32⟩
  | 28 => ⟨S24x201x64x1024, .i32⟩
  | 29 => ⟨S24x201x64x1024, .i32⟩
  | 30 => ⟨S24x201x64x1024, .i32⟩
  | 31 => ⟨S24x201x64x1024, .i32⟩
  | 32 => ⟨S24x201x64x1024, .i32⟩
  | 33 => ⟨S_, .i32⟩
  | 34 => ⟨S24x201x64x1024, .i32⟩
  | 35 => ⟨S24x201x64x1024, .i32⟩
  | 36 => ⟨S_, .i32⟩
  | 37 => ⟨S24x201x64x1024, .i32⟩
  | 38 => ⟨S24x201x64x1024, .i32⟩
  | 39 => ⟨S24x201x64x1024, .i32⟩
  | 40 => ⟨S24x201x64x1024, .i32⟩
  | 41 => ⟨S24x201x64x1024, .i32⟩
  | 42 => ⟨S_, .i32⟩
  | 43 => ⟨S24x201x64x1024, .i32⟩
  | 44 => ⟨S24x201x64x1024, .i32⟩
  | 45 => ⟨S_, .i32⟩
  | 46 => ⟨S24x201x64x1024, .i32⟩
  | 47 => ⟨S24x201x64x1024, .i32⟩
  | 48 => ⟨S24x201x64x1024, .i32⟩
  | 49 => ⟨S24x201x64x1024, .i32⟩
  | 50 => ⟨S24x201x64x1024, .i32⟩
  | 51 => ⟨S24x201x64x1024, .i32⟩
  | 52 => ⟨S_, .i32⟩
  | 53 => ⟨S24x201x64x1024, .i32⟩
  | 54 => ⟨S24x201x64x1024, .i32⟩
  | 55 => ⟨S24x201x64x1024, .i32⟩
  | 56 => ⟨S_, .i32⟩
  | 57 => ⟨S24x201x64x1024, .i32⟩
  | 58 => ⟨S24x201x64x1024, .i32⟩
  | 59 => ⟨S_, .i32⟩
  | 60 => ⟨S24x201x64x1024, .i32⟩
  | 61 => ⟨S24x201x64x1024, .i32⟩
  | 62 => ⟨S24x201x64x1024, .f32⟩
  | 63 => ⟨S_, .f32⟩
  | 64 => ⟨S24x201x64x1024, .f32⟩
  | 65 => ⟨S24x201x64x1024, .f32⟩
  | 66 => ⟨S_, .f32⟩
  | 67 => ⟨S24x201x64x1024, .f32⟩
  | 68 => ⟨S24x201x64x1024, .f32⟩
  | 69 => ⟨S_, .f32⟩
  | 70 => ⟨S24x201x64x1024, .f32⟩
  | 71 => ⟨S24x201x64x1024, .f32⟩
  | 72 => ⟨S24x201x64x1024, .i32⟩
  | 73 => ⟨S_, .i32⟩
  | 74 => ⟨S24x201x64x1024, .i32⟩
  | 75 => ⟨S24x201x64x1024, .i32⟩
  | 76 => ⟨S_, .i32⟩
  | 77 => ⟨S24x201x64x1024, .i32⟩
  | 78 => ⟨S24x201x64x1024, .i32⟩
  | 79 => ⟨S24x201x64x1024, .i32⟩
  | 80 => ⟨S24x201x64x1024, .i32⟩
  | 81 => ⟨S_, .i32⟩
  | 82 => ⟨S24x201x64x1024, .i32⟩
  | 83 => ⟨S24x201x64x1024, .i32⟩
  | 84 => ⟨S_, .i32⟩
  | 85 => ⟨S24x201x64x1024, .i32⟩
  | 86 => ⟨S24x201x64x1024, .i32⟩
  | 87 => ⟨S24x201x64x1024, .i32⟩
  | 88 => ⟨S24x201x64x1024, .i32⟩
  | 89 => ⟨S24x201x64x1024, .i32⟩
  | 90 => ⟨S_, .i32⟩
  | 91 => ⟨S24x201x64x1024, .i32⟩
  | 92 => ⟨S24x201x64x1024, .i32⟩
  | 93 => ⟨S_, .i32⟩
  | 94 => ⟨S24x201x64x1024, .i32⟩
  | 95 => ⟨S24x201x64x1024, .i32⟩
  | 96 => ⟨S24x201x64x1024, .i32⟩
  | 97 => ⟨S24x201x64x1024, .i32⟩
  | 98 => ⟨S24x201x64x1024, .i32⟩
  | 99 => ⟨S_, .i32⟩
  | 100 => ⟨S24x201x64x1024, .i32⟩
  | 101 => ⟨S24x201x64x1024, .i32⟩
  | 102 => ⟨S_, .i32⟩
  | 103 => ⟨S24x201x64x1024, .i32⟩
  | 104 => ⟨S24x201x64x1024, .i32⟩
  | 105 => ⟨S24x201x64x1024, .i32⟩
  | 106 => ⟨S24x201x64x1024, .i32⟩
  | 107 => ⟨S24x201x64x1024, .i32⟩
  | 108 => ⟨S_, .i32⟩
  | 109 => ⟨S24x201x64x1024, .i32⟩
  | 110 => ⟨S24x201x64x1024, .i32⟩
  | 111 => ⟨S_, .i32⟩
  | 112 => ⟨S24x201x64x1024, .i32⟩
  | 113 => ⟨S24x201x64x1024, .i32⟩
  | 114 => ⟨S24x201x64x1024, .i32⟩
  | 115 => ⟨S24x201x64x1024, .i32⟩
  | 116 => ⟨S24x201x64x1024, .i32⟩
  | 117 => ⟨S24x201x64x1024, .i32⟩
  | 118 => ⟨S_, .i32⟩
  | 119 => ⟨S24x201x64x1024, .i32⟩
  | 120 => ⟨S24x201x64x1024, .i32⟩
  | 121 => ⟨S24x201x64x1024, .i32⟩
  | 122 => ⟨S_, .i32⟩
  | 123 => ⟨S24x201x64x1024, .i32⟩
  | 124 => ⟨S24x201x64x1024, .i32⟩
  | 125 => ⟨S_, .i32⟩
  | 126 => ⟨S24x201x64x1024, .i32⟩
  | 127 => ⟨S24x201x64x1024, .i32⟩
  | _ => ⟨S64x1024, .f32⟩

abbrev hbmTy0_3 (i : Nat) : BufTy := match i % 128 with
  | 0 => ⟨S24x201x64x1024, .i32⟩
  | 1 => ⟨S24x201x64x1024, .i32⟩
  | 2 => ⟨S24x201x64x1024, .i32⟩
  | 3 => ⟨S_, .i32⟩
  | 4 => ⟨S24x201x64x1024, .i32⟩
  | 5 => ⟨S24x201x64x1024, .i32⟩
  | 6 => ⟨S_, .i32⟩
  | 7 => ⟨S24x201x64x1024, .i32⟩
  | 8 => ⟨S24x201x64x1024, .i32⟩
  | 9 => ⟨S24x201x64x1024, .i32⟩
  | 10 => ⟨S24x201x64x1024, .i32⟩
  | 11 => ⟨S24x201x64x1024, .i32⟩
  | 12 => ⟨S_, .i32⟩
  | 13 => ⟨S24x201x64x1024, .i32⟩
  | 14 => ⟨S24x201x64x1024, .i32⟩
  | 15 => ⟨S_, .i32⟩
  | 16 => ⟨S24x201x64x1024, .i32⟩
  | 17 => ⟨S24x201x64x1024, .i32⟩
  | 18 => ⟨S24x201x64x1024, .i32⟩
  | 19 => ⟨S24x201x64x1024, .i32⟩
  | 20 => ⟨S24x201x64x1024, .i32⟩
  | 21 => ⟨S_, .i32⟩
  | 22 => ⟨S24x201x64x1024, .i32⟩
  | 23 => ⟨S24x201x64x1024, .i32⟩
  | 24 => ⟨S_, .i32⟩
  | 25 => ⟨S24x201x64x1024, .i32⟩
  | 26 => ⟨S24x201x64x1024, .i32⟩
  | 27 => ⟨S24x201x64x1024, .i32⟩
  | 28 => ⟨S24x201x64x1024, .i32⟩
  | 29 => ⟨S24x201x64x1024, .i32⟩
  | 30 => ⟨S24x201x64x1024, .i32⟩
  | 31 => ⟨S_, .i32⟩
  | 32 => ⟨S24x201x64x1024, .i32⟩
  | 33 => ⟨S24x201x64x1024, .i32⟩
  | 34 => ⟨S24x201x64x1024, .i32⟩
  | 35 => ⟨S_, .i32⟩
  | 36 => ⟨S24x201x64x1024, .i32⟩
  | 37 => ⟨S24x201x64x1024, .i32⟩
  | 38 => ⟨S_, .i32⟩
  | 39 => ⟨S24x201x64x1024, .i32⟩
  | 40 => ⟨S24x201x64x1024, .i32⟩
  | 41 => ⟨S24x201x64x1024, .i32⟩
  | 42 => ⟨S24x201x64x1024, .i32⟩
  | 43 => ⟨S24x201x64x1024, .i32⟩
  | 44 => ⟨S_, .i32⟩
  | 45 => ⟨S24x201x64x1024, .i32⟩
  | 46 => ⟨S24x201x64x1024, .i32⟩
  | 47 => ⟨S_, .i32⟩
  | 48 => ⟨S24x201x64x1024, .i32⟩
  | 49 => ⟨S24x201x64x1024, .i32⟩
  | 50 => ⟨S24x201x64x1024, .i32⟩
  | 51 => ⟨S24x201x64x1024, .i32⟩
  | 52 => ⟨S24x201x64x1024, .i32⟩
  | 53 => ⟨S_, .i32⟩
  | 54 => ⟨S24x201x64x1024, .i32⟩
  | 55 => ⟨S24x201x64x1024, .i32⟩
  | 56 => ⟨S_, .i32⟩
  | 57 => ⟨S24x201x64x1024, .i32⟩
  | 58 => ⟨S24x201x64x1024, .i32⟩
  | 59 => ⟨S24x201x64x1024, .i32⟩
  | 60 => ⟨S24x201x64x1024, .i32⟩
  | 61 => ⟨S24x201x64x1024, .i32⟩
  | 62 => ⟨S_, .i32⟩
  | 63 => ⟨S24x201x64x1024, .i32⟩
  | 64 => ⟨S24x201x64x1024, .i32⟩
  | 65 => ⟨S_, .i32⟩
  | 66 => ⟨S24x201x64x1024, .i32⟩
  | 67 => ⟨S24x201x64x1024, .i32⟩
  | 68 => ⟨S24x201x64x1024, .i32⟩
  | 69 => ⟨S24x201x64x1024, .i32⟩
  | 70 => ⟨S24x201x64x1024, .i32⟩
  | 71 => ⟨S24x201x64x1024, .i32⟩
  | 72 => ⟨S_, .i32⟩
  | 73 => ⟨S24x201x64x1024, .i32⟩
  | 74 => ⟨S24x201x64x1024, .i32⟩
  | 75 => ⟨S24x201x64x1024, .i32⟩
  | 76 => ⟨S_, .i32⟩
  | 77 => ⟨S24x201x64x1024, .i32⟩
  | 78 => ⟨S24x201x64x1024, .i32⟩
  | 79 => ⟨S_, .i32⟩
  | 80 => ⟨S24x201x64x1024, .i32⟩
  | 81 => ⟨S24x201x64x1024, .i32⟩
  | 82 => ⟨S24x201x64x1024, .i32⟩
  | 83 => ⟨S24x201x64x1024, .i32⟩
  | 84 => ⟨S24x201x64x1024, .i32⟩
  | 85 => ⟨S_, .i32⟩
  | 86 => ⟨S24x201x64x1024, .i32⟩
  | 87 => ⟨S24x201x64x1024, .i32⟩
  | 88 => ⟨S_, .i32⟩
  | 89 => ⟨S24x201x64x1024, .i32⟩
  | 90 => ⟨S24x201x64x1024, .i32⟩
  | 91 => ⟨S24x201x64x1024, .i32⟩
  | 92 => ⟨S24x201x64x1024, .i32⟩
  | 93 => ⟨S24x201x64x1024, .i32⟩
  | 94 => ⟨S_, .i32⟩
  | 95 => ⟨S24x201x64x1024, .i32⟩
  | 96 => ⟨S24x201x64x1024, .i32⟩
  | 97 => ⟨S_, .i32⟩
  | 98 => ⟨S24x201x64x1024, .i32⟩
  | 99 => ⟨S24x201x64x1024, .i32⟩
  | 100 => ⟨S24x201x64x1024, .i32⟩
  | 101 => ⟨S24x201x64x1024, .i32⟩
  | 102 => ⟨S24x201x64x1024, .i32⟩
  | 103 => ⟨S_, .i32⟩
  | 104 => ⟨S24x201x64x1024, .i32⟩
  | 105 => ⟨S24x201x64x1024, .i32⟩
  | 106 => ⟨S_, .i32⟩
  | 107 => ⟨S24x201x64x1024, .i32⟩
  | 108 => ⟨S24x201x64x1024, .i32⟩
  | 109 => ⟨S24x201x64x1024, .i32⟩
  | 110 => ⟨S24x201x64x1024, .i32⟩
  | 111 => ⟨S24x201x64x1024, .i32⟩
  | 112 => ⟨S24x201x64x1024, .i32⟩
  | 113 => ⟨S_, .i32⟩
  | 114 => ⟨S24x201x64x1024, .i32⟩
  | 115 => ⟨S24x201x64x1024, .i32⟩
  | 116 => ⟨S24x201x64x1024, .i32⟩
  | 117 => ⟨S_, .i32⟩
  | 118 => ⟨S24x201x64x1024, .i32⟩
  | 119 => ⟨S24x201x64x1024, .i32⟩
  | 120 => ⟨S_, .i32⟩
  | 121 => ⟨S24x201x64x1024, .i32⟩
  | 122 => ⟨S24x201x64x1024, .i32⟩
  | 123 => ⟨S24x201x64x1024, .i32⟩
  | 124 => ⟨S24x201x64x1024, .i32⟩
  | 125 => ⟨S24x201x64x1024, .i32⟩
  | 126 => ⟨S_, .i32⟩
  | 127 => ⟨S24x201x64x1024, .i32⟩
  | _ => ⟨S64x1024, .f32⟩

abbrev hbmTy0_4 (i : Nat) : BufTy := match i % 128 with
  | 0 => ⟨S24x201x64x1024, .i32⟩
  | 1 => ⟨S_, .i32⟩
  | 2 => ⟨S24x201x64x1024, .i32⟩
  | 3 => ⟨S24x201x64x1024, .i32⟩
  | 4 => ⟨S24x201x64x1024, .i32⟩
  | 5 => ⟨S24x201x64x1024, .i32⟩
  | 6 => ⟨S24x201x64x1024, .i32⟩
  | 7 => ⟨S_, .i32⟩
  | 8 => ⟨S24x201x64x1024, .i32⟩
  | 9 => ⟨S24x201x64x1024, .i32⟩
  | 10 => ⟨S_, .i32⟩
  | 11 => ⟨S24x201x64x1024, .i32⟩
  | 12 => ⟨S24x201x64x1024, .i32⟩
  | 13 => ⟨S24x201x64x1024, .i32⟩
  | 14 => ⟨S24x201x64x1024, .i32⟩
  | 15 => ⟨S24x201x64x1024, .i32⟩
  | 16 => ⟨S_, .i32⟩
  | 17 => ⟨S24x201x64x1024, .i32⟩
  | 18 => ⟨S24x201x64x1024, .i32⟩
  | 19 => ⟨S_, .i32⟩
  | 20 => ⟨S24x201x64x1024, .i32⟩
  | 21 => ⟨S24x201x64x1024, .i32⟩
  | 22 => ⟨S24x201x64x1024, .i32⟩
  | 23 => ⟨S24x201x64x1024, .i32⟩
  | 24 => ⟨S24x201x64x1024, .i32⟩
  | 25 => ⟨S24x201x64x1024, .i32⟩
  | 26 => ⟨S_, .i32⟩
  | 27 => ⟨S24x201x64x1024, .i32⟩
  | 28 => ⟨S24x201x64x1024, .i32⟩
  | 29 => ⟨S24x201x64x1024, .i32⟩
  | 30 => ⟨S_, .i32⟩
  | 31 => ⟨S24x201x64x1024, .i32⟩
  | 32 => ⟨S24x201x64x1024, .i32⟩
  | 33 => ⟨S_, .i32⟩
  | 34 => ⟨S24x201x64x1024, .i32⟩
  | 35 => ⟨S24x201x64x1024, .i32⟩
  | 36 => ⟨S24x201x64x1024, .f32⟩
  | 37 => ⟨S_, .f32⟩
  | 38 => ⟨S24x201x64x1024, .f32⟩
  | 39 => ⟨S24x201x64x1024, .f32⟩
  | 40 => ⟨S_, .f32⟩
  | 41 => ⟨S24x201x64x1024, .f32⟩
  | 42 => ⟨S24x201x64x1024, .f32⟩
  | 43 => ⟨S24x201x64x1024, .f32⟩
  | 44 => ⟨S_, .f32⟩
  | 45 => ⟨S24x201x64x1024, .f32⟩
  | 46 => ⟨S24x201x64x1024, .f32⟩
  | 47 => ⟨S_, .f32⟩
  | 48 => ⟨S24x201x64x1024, .f32⟩
  | 49 => ⟨S24x201x64x1024, .f32⟩
  | 50 => ⟨S24x201x64x1024, .f32⟩
  | 51 => ⟨S24x201x64x1024, .f32⟩
  | 52 => ⟨S24x201x64x1024, .f32⟩
  | 53 => ⟨S24x201x64x1024, .f32⟩
  | 54 => ⟨S_, .f32⟩
  | 55 => ⟨S24x201x64x1024, .f32⟩
  | 56 => ⟨S24x201x64x1024, .f32⟩
  | 57 => ⟨S24x201x64x1024, .f32⟩
  | 58 => ⟨S24x201x64x1024, .f32⟩
  | 59 => ⟨S24x201x64x1024, .f32⟩
  | 60 => ⟨S24x201x64x1024, .f32⟩
  | 61 => ⟨S24x201x64x1024, .f32⟩
  | 62 => ⟨S24x201x64x1024, .f32⟩
  | 63 => ⟨S24x201x64x1024, .f32⟩
  | 64 => ⟨S24x201x64x1024, .f32⟩
  | 65 => ⟨S24x201x64x1024, .f32⟩
  | 66 => ⟨S24x201x64x1024, .f32⟩
  | 67 => ⟨S_, .f32⟩
  | 68 => ⟨S24x201x64x1024, .f32⟩
  | 69 => ⟨S24x201x64x1024, .f32⟩
  | 70 => ⟨S_, .f32⟩
  | 71 => ⟨S24x201x64x1024, .f32⟩
  | 72 => ⟨S24x201x64x1024, .f32⟩
  | 73 => ⟨S_, .f32⟩
  | 74 => ⟨S24x201x64x1024, .f32⟩
  | 75 => ⟨S24x201x64x1024, .f32⟩
  | 76 => ⟨S24x201x64x1024, .f32⟩
  | 77 => ⟨S_, .f32⟩
  | 78 => ⟨S24x201x64x1024, .f32⟩
  | 79 => ⟨S24x201x64x1024, .f32⟩
  | 80 => ⟨S_, .f32⟩
  | 81 => ⟨S24x201x64x1024, .f32⟩
  | 82 => ⟨S24x201x64x1024, .f32⟩
  | 83 => ⟨S_, .f32⟩
  | 84 => ⟨S24x201x64x1024, .f32⟩
  | 85 => ⟨S24x201x64x1024, .f32⟩
  | 86 => ⟨S_, .f32⟩
  | 87 => ⟨S24x201x64x1024, .f32⟩
  | 88 => ⟨S24x201x64x1024, .f32⟩
  | 89 => ⟨S_, .f32⟩
  | 90 => ⟨S24x201x64x1024, .f32⟩
  | 91 => ⟨S24x201x64x1024, .f32⟩
  | 92 => ⟨S_, .f32⟩
  | 93 => ⟨S24x201x64x1024, .f32⟩
  | 94 => ⟨S24x201x64x1024, .f32⟩
  | 95 => ⟨S24x201x64x1024, .f32⟩
  | 96 => ⟨S_, .f32⟩
  | 97 => ⟨S24x201x64x1024, .f32⟩
  | 98 => ⟨S24x201x64x1024, .f32⟩
  | 99 => ⟨S_, .f32⟩
  | 100 => ⟨S24x201x64x1024, .f32⟩
  | 101 => ⟨S24x201x64x1024, .f32⟩
  | 102 => ⟨S24x201x64x1024, .f32⟩
  | 103 => ⟨S_, .f32⟩
  | 104 => ⟨S24x201x64x1024, .f32⟩
  | 105 => ⟨S24x201x64x1024, .f32⟩
  | 106 => ⟨S_, .f32⟩
  | 107 => ⟨S24x201x64x1024, .f32⟩
  | 108 => ⟨S24x201x64x1024, .f32⟩
  | 109 => ⟨S24x201x64x1024, .f32⟩
  | 110 => ⟨S_, .f32⟩
  | 111 => ⟨S24x201x64x1024, .f32⟩
  | 112 => ⟨S24x201x64x1024, .f32⟩
  | 113 => ⟨S_, .f32⟩
  | 114 => ⟨S24x201x64x1024, .f32⟩
  | 115 => ⟨S24x201x64x1024, .f32⟩
  | 116 => ⟨S24x201x64x1024, .f32⟩
  | 117 => ⟨S_, .f32⟩
  | 118 => ⟨S24x201x64x1024, .f32⟩
  | 119 => ⟨S24x201x64x1024, .f32⟩
  | 120 => ⟨S_, .f32⟩
  | 121 => ⟨S24x201x64x1024, .f32⟩
  | 122 => ⟨S24x201x64x1024, .f32⟩
  | 123 => ⟨S24x201x64x1024, .f32⟩
  | 124 => ⟨S_, .f32⟩
  | 125 => ⟨S24x201x64x1024, .f32⟩
  | 126 => ⟨S24x201x64x1024, .f32⟩
  | 127 => ⟨S_, .f32⟩
  | _ => ⟨S64x1024, .f32⟩

abbrev hbmTy0_5 (i : Nat) : BufTy := match i % 128 with
  | 0 => ⟨S24x201x64x1024, .f32⟩
  | 1 => ⟨S24x201x64x1024, .f32⟩
  | 2 => ⟨S24x201x64x1024, .f32⟩
  | 3 => ⟨S_, .f32⟩
  | 4 => ⟨S24x201x64x1024, .f32⟩
  | 5 => ⟨S24x201x64x1024, .f32⟩
  | 6 => ⟨S_, .f32⟩
  | 7 => ⟨S24x201x64x1024, .f32⟩
  | 8 => ⟨S24x201x64x1024, .f32⟩
  | 9 => ⟨S24x201x64x1024, .f32⟩
  | 10 => ⟨S_, .f32⟩
  | 11 => ⟨S24x201x64x1024, .f32⟩
  | 12 => ⟨S24x201x64x1024, .f32⟩
  | 13 => ⟨S_, .f32⟩
  | 14 => ⟨S24x201x64x1024, .f32⟩
  | 15 => ⟨S24x201x64x1024, .f32⟩
  | 16 => ⟨S24x201x64x1024, .f32⟩
  | 17 => ⟨S24x201x64x1024, .f32⟩
  | 18 => ⟨S24x201x64x1024, .f32⟩
  | 19 => ⟨S_, .f32⟩
  | 20 => ⟨S24x201x64x1024, .f32⟩
  | 21 => ⟨S24x201x64x1024, .f32⟩
  | 22 => ⟨S24x201x64x1024, .f32⟩
  | 23 => ⟨S24x201x64x1024, .f32⟩
  | 24 => ⟨S24x201x64x1024, .f32⟩
  | 25 => ⟨S_, .f32⟩
  | 26 => ⟨S24x201x64x1024, .f32⟩
  | 27 => ⟨S24x201x64x1024, .i1⟩
  | 28 => ⟨S24x201x64x1024, .i1⟩
  | 29 => ⟨S24x201x64x1024, .i1⟩
  | 30 => ⟨S_, .f32⟩
  | 31 => ⟨S24x201x64x1024, .f32⟩
  | 32 => ⟨S24x201x64x1024, .i1⟩
  | 33 => ⟨S_, .f32⟩
  | 34 => ⟨S24x201x64x1024, .f32⟩
  | 35 => ⟨S24x201x64x1024, .i1⟩
  | 36 => ⟨S24x201x64x1024, .i1⟩
  | 37 => ⟨S24x201x64x1024, .i1⟩
  | 38 => ⟨S24x201x64x1024, .i1⟩
  | 39 => ⟨S24x201x64x1024, .i1⟩
  | 40 => ⟨S24x201x64x1024, .i1⟩
  | 41 => ⟨S24x201x64x1024, .i1⟩
  | 42 => ⟨S24x201x64x1024, .i1⟩
  | 43 => ⟨S24x201x64x1024, .i32⟩
  | 44 => ⟨S_, .i32⟩
  | 45 => ⟨S24x201x64x1024, .i32⟩
  | 46 => ⟨S24x201x64x1024, .i32⟩
  | 47 => ⟨S_, .i32⟩
  | 48 => ⟨S201x64x1024, .i32⟩
  | 49 => ⟨S_, .i32⟩
  | 50 => ⟨S_, .i32⟩
  | 51 => ⟨S24x201x64x1024, .i32⟩
  | 52 => ⟨S24x201x64x1024, .i1⟩
  | 53 => ⟨S24x201x64x1024, .i1⟩
  | 54 => ⟨S_, .i32⟩
  | 55 => ⟨S24x201x64x1024, .i32⟩
  | 56 => ⟨S24x201x64x1024, .i32⟩
  | 57 => ⟨S_, .i32⟩
  | 58 => ⟨S201x64x1024, .i32⟩
  | 59 => ⟨S1x201x64x1024, .i32⟩
  | 60 => ⟨S24x201x64x1024, .i32⟩
  | 61 => ⟨S24x201x64x1024, .i1⟩
  | 62 => ⟨S_, .f32⟩
  | 63 => ⟨S24x201x64x1024, .f32⟩
  | 64 => ⟨S24x201x64x1024, .f32⟩
  | 65 => ⟨S_, .f32⟩
  | 66 => ⟨S201x64x1024, .f32⟩
  | 67 => ⟨S1x64x1024, .f32⟩
  | 68 => ⟨S_, .f32⟩
  | 69 => ⟨S1x64x1024, .f32⟩
  | 70 => ⟨S1x64x1024, .i1⟩
  | 71 => ⟨S_, .f32⟩
  | 72 => ⟨S_, .f32⟩
  | 73 => ⟨S201x64x1024, .i1⟩
  | 74 => ⟨S201x64x1024, .f32⟩
  | 75 => ⟨S201x64x1024, .f32⟩
  | 76 => ⟨S_, .f32⟩
  | 77 => ⟨S64x1024, .f32⟩
  | 78 => ⟨S64x1024, .i1⟩
  | 79 => ⟨S1x64x1024, .i1⟩
  | 80 => ⟨S_, .f32⟩
  | 81 => ⟨S201x64x1024, .f32⟩
  | 82 => ⟨S201x64x1024, .i1⟩
  | 83 => ⟨S201x64x1024, .i1⟩
  | 84 => ⟨S201x64x1024, .i1⟩
  | 85 => ⟨S_, .f32⟩
  | 86 => ⟨S_, .f32⟩
  | 87 => ⟨S201x64x1024, .f32⟩
  | 88 => ⟨S201x64x1024, .f32⟩
  | 89 => ⟨S_, .f32⟩
  | 90 => ⟨S_, .f32⟩
  | 91 => ⟨S201x64x1024, .f32⟩
  | 92 => ⟨S_, .f32⟩
  | 93 => ⟨S201x64x1024, .f32⟩
  | 94 => ⟨S201x64x1024, .i1⟩
  | 95 => ⟨S_, .f32⟩
  | 96 => ⟨S_, .f32⟩
  | 97 => ⟨S201x64x1024, .f32⟩
  | 98 => ⟨S201x64x1024, .f32⟩
  | 99 => ⟨S201x65536, .f32⟩
  | 100 => ⟨S201x65536, .i32⟩
  | 101 => ⟨S65536, .i32⟩
  | 102 => ⟨S201x65536, .i32⟩
  | 103 => ⟨S_, .f32⟩
  | 104 => ⟨S201x65536, .f32⟩
  | 105 => ⟨S_, .i32⟩
  | 106 => ⟨S201x65536, .i32⟩
  | 107 => ⟨S201x65536, .i1⟩
  | 108 => ⟨S_, .i32⟩
  | 109 => ⟨S201x65536, .i32⟩
  | 110 => ⟨S201x65536, .i32⟩
  | 111 => ⟨S201x65536, .i32⟩
  | 112 => ⟨S_, .i32⟩
  | 113 => ⟨S201x65536, .i32⟩
  | 114 => ⟨S201x65536, .i1⟩
  | 115 => ⟨S_, .i32⟩
  | 116 => ⟨S201x65536, .i32⟩
  | 117 => ⟨S201x65536, .i32⟩
  | 118 => ⟨S201x65536, .i32⟩
  | 119 => ⟨S201x65536x1, .i32⟩
  | 120 => ⟨S201x65536x1, .i32⟩
  | 121 => ⟨S201x65536x2, .i32⟩
  | 122 => ⟨S_, .f32⟩
  | 123 => ⟨S201x65536, .f32⟩
  | 124 => ⟨S201x65536, .f32⟩
  | 125 => ⟨S201x64x1024, .f32⟩
  | 126 => ⟨S200x64x1024, .f32⟩
  | 127 => ⟨S_, .f32⟩
  | _ => ⟨S64x1024, .f32⟩

abbrev hbmTy0_6 (i : Nat) : BufTy := match i % 128 with
  | 0 => ⟨S200x64x1024, .f32⟩
  | 1 => ⟨S200x64x1024, .i1⟩
  | 2 => ⟨S200x64x1024, .i1⟩
  | _ => ⟨S64x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S64x1024, .f32⟩

abbrev bufTy : (tb : Table) → Fin (tcTables nBuf tb) → BufTy
  | .hbm, ⟨i, _⟩ => hbmTy i
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_cst : Ref sig .tc := ⟨.hbm, 11, rfl⟩
abbrev main_call0_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_call1_v0 : Ref sig .tc := ⟨.hbm, 18, rfl⟩
abbrev main_call0_v5 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_call2_v0 : Ref sig .tc := ⟨.hbm, 24, rfl⟩
abbrev main_v4 : Ref sig .tc := ⟨.hbm, 25, rfl⟩
abbrev main_cst_3 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_4 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_5 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_6 : Ref sig .tc := ⟨.hbm, 39, rfl⟩
abbrev main_v15 : Ref sig .tc := ⟨.hbm, 40, rfl⟩
abbrev main_v16 : Ref sig .tc := ⟨.hbm, 41, rfl⟩
abbrev main_cst_7 : Ref sig .tc := ⟨.hbm, 42, rfl⟩
abbrev main_v17 : Ref sig .tc := ⟨.hbm, 43, rfl⟩
abbrev main_v18 : Ref sig .tc := ⟨.hbm, 44, rfl⟩
abbrev main_cst_8 : Ref sig .tc := ⟨.hbm, 45, rfl⟩
abbrev main_v19 : Ref sig .tc := ⟨.hbm, 46, rfl⟩
abbrev main_v20 : Ref sig .tc := ⟨.hbm, 47, rfl⟩
abbrev main_cst_9 : Ref sig .tc := ⟨.hbm, 48, rfl⟩
abbrev main_v21 : Ref sig .tc := ⟨.hbm, 49, rfl⟩
abbrev main_v22 : Ref sig .tc := ⟨.hbm, 50, rfl⟩
abbrev main_cst_10 : Ref sig .tc := ⟨.hbm, 51, rfl⟩
abbrev main_v23 : Ref sig .tc := ⟨.hbm, 52, rfl⟩
abbrev main_v24 : Ref sig .tc := ⟨.hbm, 53, rfl⟩
abbrev main_cst_11 : Ref sig .tc := ⟨.hbm, 54, rfl⟩
abbrev main_v25 : Ref sig .tc := ⟨.hbm, 55, rfl⟩
abbrev main_v26 : Ref sig .tc := ⟨.hbm, 56, rfl⟩
abbrev main_cst_12 : Ref sig .tc := ⟨.hbm, 57, rfl⟩
abbrev main_v27 : Ref sig .tc := ⟨.hbm, 58, rfl⟩
abbrev main_v28 : Ref sig .tc := ⟨.hbm, 59, rfl⟩
abbrev main_cst_13 : Ref sig .tc := ⟨.hbm, 60, rfl⟩
abbrev main_v29 : Ref sig .tc := ⟨.hbm, 61, rfl⟩
abbrev main_v30 : Ref sig .tc := ⟨.hbm, 62, rfl⟩
abbrev main_cst_14 : Ref sig .tc := ⟨.hbm, 63, rfl⟩
abbrev main_v31 : Ref sig .tc := ⟨.hbm, 64, rfl⟩
abbrev main_v32 : Ref sig .tc := ⟨.hbm, 65, rfl⟩
abbrev main_cst_15 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_16 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_17 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_18 : Ref sig .tc := ⟨.hbm, 99, rfl⟩
abbrev main_v63 : Ref sig .tc := ⟨.hbm, 100, rfl⟩
abbrev main_v64 : Ref sig .tc := ⟨.hbm, 101, rfl⟩
abbrev main_c_19 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_20 : Ref sig .tc := ⟨.hbm, 107, rfl⟩
abbrev main_v69 : Ref sig .tc := ⟨.hbm, 108, rfl⟩
abbrev main_v70 : Ref sig .tc := ⟨.hbm, 109, rfl⟩
abbrev main_c_21 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_22 : Ref sig .tc := ⟨.hbm, 116, rfl⟩
abbrev main_v76 : Ref sig .tc := ⟨.hbm, 117, rfl⟩
abbrev main_v77 : Ref sig .tc := ⟨.hbm, 118, rfl⟩
abbrev main_c_23 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_24 : Ref sig .tc := ⟨.hbm, 125, rfl⟩
abbrev main_v83 : Ref sig .tc := ⟨.hbm, 126, rfl⟩
abbrev main_v84 : Ref sig .tc := ⟨.hbm, 127, rfl⟩
abbrev main_c_25 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_26 : Ref sig .tc := ⟨.hbm, 134, rfl⟩
abbrev main_v90 : Ref sig .tc := ⟨.hbm, 135, rfl⟩
abbrev main_v91 : Ref sig .tc := ⟨.hbm, 136, rfl⟩
abbrev main_c_27 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_28 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_c_29 : Ref sig .tc := ⟨.hbm, 148, rfl⟩
abbrev main_v101 : Ref sig .tc := ⟨.hbm, 149, rfl⟩
abbrev main_v102 : Ref sig .tc := ⟨.hbm, 150, rfl⟩
abbrev main_c_30 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_c_31 : Ref sig .tc := ⟨.hbm, 157, rfl⟩
abbrev main_v108 : Ref sig .tc := ⟨.hbm, 158, rfl⟩
abbrev main_v109 : Ref sig .tc := ⟨.hbm, 159, rfl⟩
abbrev main_c_32 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_c_33 : Ref sig .tc := ⟨.hbm, 166, rfl⟩
abbrev main_v115 : Ref sig .tc := ⟨.hbm, 167, rfl⟩
abbrev main_v116 : Ref sig .tc := ⟨.hbm, 168, rfl⟩
abbrev main_c_34 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_c_35 : Ref sig .tc := ⟨.hbm, 175, rfl⟩
abbrev main_v122 : Ref sig .tc := ⟨.hbm, 176, rfl⟩
abbrev main_v123 : Ref sig .tc := ⟨.hbm, 177, rfl⟩
abbrev main_c_36 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_c_37 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_c_38 : Ref sig .tc := ⟨.hbm, 189, rfl⟩
abbrev main_v133 : Ref sig .tc := ⟨.hbm, 190, rfl⟩
abbrev main_v134 : Ref sig .tc := ⟨.hbm, 191, rfl⟩
abbrev main_c_39 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_c_40 : Ref sig .tc := ⟨.hbm, 198, rfl⟩
abbrev main_v140 : Ref sig .tc := ⟨.hbm, 199, rfl⟩
abbrev main_v141 : Ref sig .tc := ⟨.hbm, 200, rfl⟩
abbrev main_c_41 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_c_42 : Ref sig .tc := ⟨.hbm, 207, rfl⟩
abbrev main_v147 : Ref sig .tc := ⟨.hbm, 208, rfl⟩
abbrev main_v148 : Ref sig .tc := ⟨.hbm, 209, rfl⟩
abbrev main_c_43 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_c_44 : Ref sig .tc := ⟨.hbm, 216, rfl⟩
abbrev main_v154 : Ref sig .tc := ⟨.hbm, 217, rfl⟩
abbrev main_v155 : Ref sig .tc := ⟨.hbm, 218, rfl⟩
abbrev main_c_45 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_c_46 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_c_47 : Ref sig .tc := ⟨.hbm, 230, rfl⟩
abbrev main_v165 : Ref sig .tc := ⟨.hbm, 231, rfl⟩
abbrev main_v166 : Ref sig .tc := ⟨.hbm, 232, rfl⟩
abbrev main_c_48 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_c_49 : Ref sig .tc := ⟨.hbm, 239, rfl⟩
abbrev main_v172 : Ref sig .tc := ⟨.hbm, 240, rfl⟩
abbrev main_v173 : Ref sig .tc := ⟨.hbm, 241, rfl⟩
abbrev main_c_50 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_c_51 : Ref sig .tc := ⟨.hbm, 248, rfl⟩
abbrev main_v179 : Ref sig .tc := ⟨.hbm, 249, rfl⟩
abbrev main_v180 : Ref sig .tc := ⟨.hbm, 250, rfl⟩
abbrev main_c_52 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_c_53 : Ref sig .tc := ⟨.hbm, 257, rfl⟩
abbrev main_v186 : Ref sig .tc := ⟨.hbm, 258, rfl⟩
abbrev main_v187 : Ref sig .tc := ⟨.hbm, 259, rfl⟩
abbrev main_c_54 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_c_55 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_c_56 : Ref sig .tc := ⟨.hbm, 271, rfl⟩
abbrev main_v197 : Ref sig .tc := ⟨.hbm, 272, rfl⟩
abbrev main_v198 : Ref sig .tc := ⟨.hbm, 273, rfl⟩
abbrev main_c_57 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_c_58 : Ref sig .tc := ⟨.hbm, 280, rfl⟩
abbrev main_v204 : Ref sig .tc := ⟨.hbm, 281, rfl⟩
abbrev main_v205 : Ref sig .tc := ⟨.hbm, 282, rfl⟩
abbrev main_c_59 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_c_60 : Ref sig .tc := ⟨.hbm, 289, rfl⟩
abbrev main_v211 : Ref sig .tc := ⟨.hbm, 290, rfl⟩
abbrev main_v212 : Ref sig .tc := ⟨.hbm, 291, rfl⟩
abbrev main_c_61 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_c_62 : Ref sig .tc := ⟨.hbm, 298, rfl⟩
abbrev main_v218 : Ref sig .tc := ⟨.hbm, 299, rfl⟩
abbrev main_v219 : Ref sig .tc := ⟨.hbm, 300, rfl⟩
abbrev main_c_63 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_c_64 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_c_65 : Ref sig .tc := ⟨.hbm, 312, rfl⟩
abbrev main_v229 : Ref sig .tc := ⟨.hbm, 313, rfl⟩
abbrev main_v230 : Ref sig .tc := ⟨.hbm, 314, rfl⟩
abbrev main_c_66 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_cst_67 : Ref sig .tc := ⟨.hbm, 319, rfl⟩
abbrev main_v234 : Ref sig .tc := ⟨.hbm, 320, rfl⟩
abbrev main_v235 : Ref sig .tc := ⟨.hbm, 321, rfl⟩
abbrev main_cst_68 : Ref sig .tc := ⟨.hbm, 322, rfl⟩
abbrev main_v236 : Ref sig .tc := ⟨.hbm, 323, rfl⟩
abbrev main_v237 : Ref sig .tc := ⟨.hbm, 324, rfl⟩
abbrev main_cst_69 : Ref sig .tc := ⟨.hbm, 325, rfl⟩
abbrev main_v238 : Ref sig .tc := ⟨.hbm, 326, rfl⟩
abbrev main_v239 : Ref sig .tc := ⟨.hbm, 327, rfl⟩
abbrev main_v240 : Ref sig .tc := ⟨.hbm, 328, rfl⟩
abbrev main_c_70 : Ref sig .tc := ⟨.hbm, 329, rfl⟩
abbrev main_v241 : Ref sig .tc := ⟨.hbm, 330, rfl⟩
abbrev main_v242 : Ref sig .tc := ⟨.hbm, 331, rfl⟩
abbrev main_c_71 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_c_72 : Ref sig .tc := ⟨.hbm, 337, rfl⟩
abbrev main_v247 : Ref sig .tc := ⟨.hbm, 338, rfl⟩
abbrev main_v248 : Ref sig .tc := ⟨.hbm, 339, rfl⟩
abbrev main_c_73 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_c_74 : Ref sig .tc := ⟨.hbm, 346, rfl⟩
abbrev main_v254 : Ref sig .tc := ⟨.hbm, 347, rfl⟩
abbrev main_v255 : Ref sig .tc := ⟨.hbm, 348, rfl⟩
abbrev main_c_75 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_c_76 : Ref sig .tc := ⟨.hbm, 355, rfl⟩
abbrev main_v261 : Ref sig .tc := ⟨.hbm, 356, rfl⟩
abbrev main_v262 : Ref sig .tc := ⟨.hbm, 357, rfl⟩
abbrev main_c_77 : Ref sig .tc := ⟨.hbm, 358, rfl⟩
abbrev main_v263 : Ref sig .tc := ⟨.hbm, 359, rfl⟩
abbrev main_v264 : Ref sig .tc := ⟨.hbm, 360, rfl⟩
abbrev main_v265 : Ref sig .tc := ⟨.hbm, 361, rfl⟩
abbrev main_v266 : Ref sig .tc := ⟨.hbm, 362, rfl⟩
abbrev main_v267 : Ref sig .tc := ⟨.hbm, 363, rfl⟩
abbrev main_c_78 : Ref sig .tc := ⟨.hbm, 364, rfl⟩
abbrev main_v268 : Ref sig .tc := ⟨.hbm, 365, rfl⟩
abbrev main_v269 : Ref sig .tc := ⟨.hbm, 366, rfl⟩
abbrev main_c_79 : Ref sig .tc := ⟨.hbm, 367, rfl⟩
abbrev main_v270 : Ref sig .tc := ⟨.hbm, 368, rfl⟩
abbrev main_v271 : Ref sig .tc := ⟨.hbm, 369, rfl⟩
abbrev main_v272 : Ref sig .tc := ⟨.hbm, 370, rfl⟩
abbrev main_v273 : Ref sig .tc := ⟨.hbm, 371, rfl⟩
abbrev main_v274 : Ref sig .tc := ⟨.hbm, 372, rfl⟩
abbrev main_v275 : Ref sig .tc := ⟨.hbm, 373, rfl⟩
abbrev main_c_80 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_c_81 : Ref sig .tc := ⟨.hbm, 378, rfl⟩
abbrev main_v279 : Ref sig .tc := ⟨.hbm, 379, rfl⟩
abbrev main_v280 : Ref sig .tc := ⟨.hbm, 380, rfl⟩
abbrev main_c_82 : Ref sig .tc := ⟨.hbm, 381, rfl⟩
abbrev main_v281 : Ref sig .tc := ⟨.hbm, 382, rfl⟩
abbrev main_v282 : Ref sig .tc := ⟨.hbm, 383, rfl⟩
abbrev main_v283 : Ref sig .tc := ⟨.hbm, 384, rfl⟩
abbrev main_v284 : Ref sig .tc := ⟨.hbm, 385, rfl⟩
abbrev main_v285 : Ref sig .tc := ⟨.hbm, 386, rfl⟩
abbrev main_c_83 : Ref sig .tc := ⟨.hbm, 387, rfl⟩
abbrev main_v286 : Ref sig .tc := ⟨.hbm, 388, rfl⟩
abbrev main_v287 : Ref sig .tc := ⟨.hbm, 389, rfl⟩
abbrev main_c_84 : Ref sig .tc := ⟨.hbm, 390, rfl⟩
abbrev main_v288 : Ref sig .tc := ⟨.hbm, 391, rfl⟩
abbrev main_v289 : Ref sig .tc := ⟨.hbm, 392, rfl⟩
abbrev main_v290 : Ref sig .tc := ⟨.hbm, 393, rfl⟩
abbrev main_v291 : Ref sig .tc := ⟨.hbm, 394, rfl⟩
abbrev main_v292 : Ref sig .tc := ⟨.hbm, 395, rfl⟩
abbrev main_c_85 : Ref sig .tc := ⟨.hbm, 396, rfl⟩
abbrev main_v293 : Ref sig .tc := ⟨.hbm, 397, rfl⟩
abbrev main_v294 : Ref sig .tc := ⟨.hbm, 398, rfl⟩
abbrev main_c_86 : Ref sig .tc := ⟨.hbm, 399, rfl⟩
abbrev main_v295 : Ref sig .tc := ⟨.hbm, 400, rfl⟩
abbrev main_v296 : Ref sig .tc := ⟨.hbm, 401, rfl⟩
abbrev main_v297 : Ref sig .tc := ⟨.hbm, 402, rfl⟩
abbrev main_v298 : Ref sig .tc := ⟨.hbm, 403, rfl⟩
abbrev main_v299 : Ref sig .tc := ⟨.hbm, 404, rfl⟩
abbrev main_c_87 : Ref sig .tc := ⟨.hbm, 405, rfl⟩
abbrev main_v300 : Ref sig .tc := ⟨.hbm, 406, rfl⟩
abbrev main_v301 : Ref sig .tc := ⟨.hbm, 407, rfl⟩
abbrev main_c_88 : Ref sig .tc := ⟨.hbm, 408, rfl⟩
abbrev main_v302 : Ref sig .tc := ⟨.hbm, 409, rfl⟩
abbrev main_v303 : Ref sig .tc := ⟨.hbm, 410, rfl⟩
abbrev main_v304 : Ref sig .tc := ⟨.hbm, 411, rfl⟩
abbrev main_v305 : Ref sig .tc := ⟨.hbm, 412, rfl⟩
abbrev main_v306 : Ref sig .tc := ⟨.hbm, 413, rfl⟩
abbrev main_v307 : Ref sig .tc := ⟨.hbm, 414, rfl⟩
abbrev main_c_89 : Ref sig .tc := ⟨.hbm, 415, rfl⟩
abbrev main_v308 : Ref sig .tc := ⟨.hbm, 416, rfl⟩
abbrev main_v309 : Ref sig .tc := ⟨.hbm, 417, rfl⟩
abbrev main_v310 : Ref sig .tc := ⟨.hbm, 418, rfl⟩
abbrev main_c_90 : Ref sig .tc := ⟨.hbm, 419, rfl⟩
abbrev main_v311 : Ref sig .tc := ⟨.hbm, 420, rfl⟩
abbrev main_v312 : Ref sig .tc := ⟨.hbm, 421, rfl⟩
abbrev main_c_91 : Ref sig .tc := ⟨.hbm, 422, rfl⟩
abbrev main_v313 : Ref sig .tc := ⟨.hbm, 423, rfl⟩
abbrev main_v314 : Ref sig .tc := ⟨.hbm, 424, rfl⟩
abbrev main_v315 : Ref sig .tc := ⟨.hbm, 425, rfl⟩
abbrev main_v316 : Ref sig .tc := ⟨.hbm, 426, rfl⟩
abbrev main_v317 : Ref sig .tc := ⟨.hbm, 427, rfl⟩
abbrev main_c_92 : Ref sig .tc := ⟨.hbm, 428, rfl⟩
abbrev main_v318 : Ref sig .tc := ⟨.hbm, 429, rfl⟩
abbrev main_v319 : Ref sig .tc := ⟨.hbm, 430, rfl⟩
abbrev main_c_93 : Ref sig .tc := ⟨.hbm, 431, rfl⟩
abbrev main_v320 : Ref sig .tc := ⟨.hbm, 432, rfl⟩
abbrev main_v321 : Ref sig .tc := ⟨.hbm, 433, rfl⟩
abbrev main_v322 : Ref sig .tc := ⟨.hbm, 434, rfl⟩
abbrev main_v323 : Ref sig .tc := ⟨.hbm, 435, rfl⟩
abbrev main_v324 : Ref sig .tc := ⟨.hbm, 436, rfl⟩
abbrev main_c_94 : Ref sig .tc := ⟨.hbm, 437, rfl⟩
abbrev main_v325 : Ref sig .tc := ⟨.hbm, 438, rfl⟩
abbrev main_v326 : Ref sig .tc := ⟨.hbm, 439, rfl⟩
abbrev main_c_95 : Ref sig .tc := ⟨.hbm, 440, rfl⟩
abbrev main_v327 : Ref sig .tc := ⟨.hbm, 441, rfl⟩
abbrev main_v328 : Ref sig .tc := ⟨.hbm, 442, rfl⟩
abbrev main_v329 : Ref sig .tc := ⟨.hbm, 443, rfl⟩
abbrev main_v330 : Ref sig .tc := ⟨.hbm, 444, rfl⟩
abbrev main_v331 : Ref sig .tc := ⟨.hbm, 445, rfl⟩
abbrev main_c_96 : Ref sig .tc := ⟨.hbm, 446, rfl⟩
abbrev main_v332 : Ref sig .tc := ⟨.hbm, 447, rfl⟩
abbrev main_v333 : Ref sig .tc := ⟨.hbm, 448, rfl⟩
abbrev main_c_97 : Ref sig .tc := ⟨.hbm, 449, rfl⟩
abbrev main_v334 : Ref sig .tc := ⟨.hbm, 450, rfl⟩
abbrev main_v335 : Ref sig .tc := ⟨.hbm, 451, rfl⟩
abbrev main_v336 : Ref sig .tc := ⟨.hbm, 452, rfl⟩
abbrev main_v337 : Ref sig .tc := ⟨.hbm, 453, rfl⟩
abbrev main_v338 : Ref sig .tc := ⟨.hbm, 454, rfl⟩
abbrev main_v339 : Ref sig .tc := ⟨.hbm, 455, rfl⟩
abbrev main_c_98 : Ref sig .tc := ⟨.hbm, 456, rfl⟩
abbrev main_v340 : Ref sig .tc := ⟨.hbm, 457, rfl⟩
abbrev main_v341 : Ref sig .tc := ⟨.hbm, 458, rfl⟩
abbrev main_v342 : Ref sig .tc := ⟨.hbm, 459, rfl⟩
abbrev main_c_99 : Ref sig .tc := ⟨.hbm, 460, rfl⟩
abbrev main_v343 : Ref sig .tc := ⟨.hbm, 461, rfl⟩
abbrev main_v344 : Ref sig .tc := ⟨.hbm, 462, rfl⟩
abbrev main_c_100 : Ref sig .tc := ⟨.hbm, 463, rfl⟩
abbrev main_v345 : Ref sig .tc := ⟨.hbm, 464, rfl⟩
abbrev main_v346 : Ref sig .tc := ⟨.hbm, 465, rfl⟩
abbrev main_v347 : Ref sig .tc := ⟨.hbm, 466, rfl⟩
abbrev main_v348 : Ref sig .tc := ⟨.hbm, 467, rfl⟩
abbrev main_v349 : Ref sig .tc := ⟨.hbm, 468, rfl⟩
abbrev main_c_101 : Ref sig .tc := ⟨.hbm, 469, rfl⟩
abbrev main_v350 : Ref sig .tc := ⟨.hbm, 470, rfl⟩
abbrev main_v351 : Ref sig .tc := ⟨.hbm, 471, rfl⟩
abbrev main_c_102 : Ref sig .tc := ⟨.hbm, 472, rfl⟩
abbrev main_v352 : Ref sig .tc := ⟨.hbm, 473, rfl⟩
abbrev main_v353 : Ref sig .tc := ⟨.hbm, 474, rfl⟩
abbrev main_v354 : Ref sig .tc := ⟨.hbm, 475, rfl⟩
abbrev main_v355 : Ref sig .tc := ⟨.hbm, 476, rfl⟩
abbrev main_v356 : Ref sig .tc := ⟨.hbm, 477, rfl⟩
abbrev main_c_103 : Ref sig .tc := ⟨.hbm, 478, rfl⟩
abbrev main_v357 : Ref sig .tc := ⟨.hbm, 479, rfl⟩
abbrev main_v358 : Ref sig .tc := ⟨.hbm, 480, rfl⟩
abbrev main_c_104 : Ref sig .tc := ⟨.hbm, 481, rfl⟩
abbrev main_v359 : Ref sig .tc := ⟨.hbm, 482, rfl⟩
abbrev main_v360 : Ref sig .tc := ⟨.hbm, 483, rfl⟩
abbrev main_v361 : Ref sig .tc := ⟨.hbm, 484, rfl⟩
abbrev main_v362 : Ref sig .tc := ⟨.hbm, 485, rfl⟩
abbrev main_v363 : Ref sig .tc := ⟨.hbm, 486, rfl⟩
abbrev main_c_105 : Ref sig .tc := ⟨.hbm, 487, rfl⟩
abbrev main_v364 : Ref sig .tc := ⟨.hbm, 488, rfl⟩
abbrev main_v365 : Ref sig .tc := ⟨.hbm, 489, rfl⟩
abbrev main_c_106 : Ref sig .tc := ⟨.hbm, 490, rfl⟩
abbrev main_v366 : Ref sig .tc := ⟨.hbm, 491, rfl⟩
abbrev main_v367 : Ref sig .tc := ⟨.hbm, 492, rfl⟩
abbrev main_v368 : Ref sig .tc := ⟨.hbm, 493, rfl⟩
abbrev main_v369 : Ref sig .tc := ⟨.hbm, 494, rfl⟩
abbrev main_v370 : Ref sig .tc := ⟨.hbm, 495, rfl⟩
abbrev main_v371 : Ref sig .tc := ⟨.hbm, 496, rfl⟩
abbrev main_c_107 : Ref sig .tc := ⟨.hbm, 497, rfl⟩
abbrev main_v372 : Ref sig .tc := ⟨.hbm, 498, rfl⟩
abbrev main_v373 : Ref sig .tc := ⟨.hbm, 499, rfl⟩
abbrev main_v374 : Ref sig .tc := ⟨.hbm, 500, rfl⟩
abbrev main_c_108 : Ref sig .tc := ⟨.hbm, 501, rfl⟩
abbrev main_v375 : Ref sig .tc := ⟨.hbm, 502, rfl⟩
abbrev main_v376 : Ref sig .tc := ⟨.hbm, 503, rfl⟩
abbrev main_c_109 : Ref sig .tc := ⟨.hbm, 504, rfl⟩
abbrev main_v377 : Ref sig .tc := ⟨.hbm, 505, rfl⟩
abbrev main_v378 : Ref sig .tc := ⟨.hbm, 506, rfl⟩
abbrev main_v379 : Ref sig .tc := ⟨.hbm, 507, rfl⟩
abbrev main_v380 : Ref sig .tc := ⟨.hbm, 508, rfl⟩
abbrev main_v381 : Ref sig .tc := ⟨.hbm, 509, rfl⟩
abbrev main_c_110 : Ref sig .tc := ⟨.hbm, 510, rfl⟩
abbrev main_v382 : Ref sig .tc := ⟨.hbm, 511, rfl⟩
abbrev main_v383 : Ref sig .tc := ⟨.hbm, 512, rfl⟩
abbrev main_c_111 : Ref sig .tc := ⟨.hbm, 513, rfl⟩
abbrev main_v384 : Ref sig .tc := ⟨.hbm, 514, rfl⟩
abbrev main_v385 : Ref sig .tc := ⟨.hbm, 515, rfl⟩
abbrev main_v386 : Ref sig .tc := ⟨.hbm, 516, rfl⟩
abbrev main_v387 : Ref sig .tc := ⟨.hbm, 517, rfl⟩
abbrev main_v388 : Ref sig .tc := ⟨.hbm, 518, rfl⟩
abbrev main_c_112 : Ref sig .tc := ⟨.hbm, 519, rfl⟩
abbrev main_v389 : Ref sig .tc := ⟨.hbm, 520, rfl⟩
abbrev main_v390 : Ref sig .tc := ⟨.hbm, 521, rfl⟩
abbrev main_c_113 : Ref sig .tc := ⟨.hbm, 522, rfl⟩
abbrev main_v391 : Ref sig .tc := ⟨.hbm, 523, rfl⟩
abbrev main_v392 : Ref sig .tc := ⟨.hbm, 524, rfl⟩
abbrev main_v393 : Ref sig .tc := ⟨.hbm, 525, rfl⟩
abbrev main_v394 : Ref sig .tc := ⟨.hbm, 526, rfl⟩
abbrev main_v395 : Ref sig .tc := ⟨.hbm, 527, rfl⟩
abbrev main_c_114 : Ref sig .tc := ⟨.hbm, 528, rfl⟩
abbrev main_v396 : Ref sig .tc := ⟨.hbm, 529, rfl⟩
abbrev main_v397 : Ref sig .tc := ⟨.hbm, 530, rfl⟩
abbrev main_c_115 : Ref sig .tc := ⟨.hbm, 531, rfl⟩
abbrev main_v398 : Ref sig .tc := ⟨.hbm, 532, rfl⟩
abbrev main_v399 : Ref sig .tc := ⟨.hbm, 533, rfl⟩
abbrev main_v400 : Ref sig .tc := ⟨.hbm, 534, rfl⟩
abbrev main_v401 : Ref sig .tc := ⟨.hbm, 535, rfl⟩
abbrev main_v402 : Ref sig .tc := ⟨.hbm, 536, rfl⟩
abbrev main_v403 : Ref sig .tc := ⟨.hbm, 537, rfl⟩
abbrev main_c_116 : Ref sig .tc := ⟨.hbm, 538, rfl⟩
abbrev main_v404 : Ref sig .tc := ⟨.hbm, 539, rfl⟩
abbrev main_v405 : Ref sig .tc := ⟨.hbm, 540, rfl⟩
abbrev main_v406 : Ref sig .tc := ⟨.hbm, 541, rfl⟩
abbrev main_c_117 : Ref sig .tc := ⟨.hbm, 542, rfl⟩
abbrev main_v407 : Ref sig .tc := ⟨.hbm, 543, rfl⟩
abbrev main_v408 : Ref sig .tc := ⟨.hbm, 544, rfl⟩
abbrev main_c_118 : Ref sig .tc := ⟨.hbm, 545, rfl⟩
abbrev main_v409 : Ref sig .tc := ⟨.hbm, 546, rfl⟩
abbrev main_v410 : Ref sig .tc := ⟨.hbm, 547, rfl⟩
abbrev main_v411 : Ref sig .tc := ⟨.hbm, 548, rfl⟩
abbrev main_cst_119 : Ref sig .tc := ⟨.hbm, 549, rfl⟩
abbrev main_v412 : Ref sig .tc := ⟨.hbm, 550, rfl⟩
abbrev main_v413 : Ref sig .tc := ⟨.hbm, 551, rfl⟩
abbrev main_cst_120 : Ref sig .tc := ⟨.hbm, 552, rfl⟩
abbrev main_v414 : Ref sig .tc := ⟨.hbm, 553, rfl⟩
abbrev main_v415 : Ref sig .tc := ⟨.hbm, 554, rfl⟩
abbrev main_v416 : Ref sig .tc := ⟨.hbm, 555, rfl⟩
abbrev main_cst_121 : Ref sig .tc := ⟨.hbm, 556, rfl⟩
abbrev main_v417 : Ref sig .tc := ⟨.hbm, 557, rfl⟩
abbrev main_v418 : Ref sig .tc := ⟨.hbm, 558, rfl⟩
abbrev main_cst_122 : Ref sig .tc := ⟨.hbm, 559, rfl⟩
abbrev main_v419 : Ref sig .tc := ⟨.hbm, 560, rfl⟩
abbrev main_v420 : Ref sig .tc := ⟨.hbm, 561, rfl⟩
abbrev main_v421 : Ref sig .tc := ⟨.hbm, 562, rfl⟩
abbrev main_v422 : Ref sig .tc := ⟨.hbm, 563, rfl⟩
abbrev main_v423 : Ref sig .tc := ⟨.hbm, 564, rfl⟩
abbrev main_v424 : Ref sig .tc := ⟨.hbm, 565, rfl⟩
abbrev main_cst_123 : Ref sig .tc := ⟨.hbm, 566, rfl⟩
abbrev main_v425 : Ref sig .tc := ⟨.hbm, 567, rfl⟩
abbrev main_v426 : Ref sig .tc := ⟨.hbm, 568, rfl⟩
abbrev main_v427 : Ref sig .tc := ⟨.hbm, 569, rfl⟩
abbrev main_v428 : Ref sig .tc := ⟨.hbm, 570, rfl⟩
abbrev main_v429 : Ref sig .tc := ⟨.hbm, 571, rfl⟩
abbrev main_v430 : Ref sig .tc := ⟨.hbm, 572, rfl⟩
abbrev main_v431 : Ref sig .tc := ⟨.hbm, 573, rfl⟩
abbrev main_v432 : Ref sig .tc := ⟨.hbm, 574, rfl⟩
abbrev main_v433 : Ref sig .tc := ⟨.hbm, 575, rfl⟩
abbrev main_v434 : Ref sig .tc := ⟨.hbm, 576, rfl⟩
abbrev main_v435 : Ref sig .tc := ⟨.hbm, 577, rfl⟩
abbrev main_v436 : Ref sig .tc := ⟨.hbm, 578, rfl⟩
abbrev main_cst_124 : Ref sig .tc := ⟨.hbm, 579, rfl⟩
abbrev main_v437 : Ref sig .tc := ⟨.hbm, 580, rfl⟩
abbrev main_v438 : Ref sig .tc := ⟨.hbm, 581, rfl⟩
abbrev main_cst_125 : Ref sig .tc := ⟨.hbm, 582, rfl⟩
abbrev main_v439 : Ref sig .tc := ⟨.hbm, 583, rfl⟩
abbrev main_v440 : Ref sig .tc := ⟨.hbm, 584, rfl⟩
abbrev main_cst_126 : Ref sig .tc := ⟨.hbm, 585, rfl⟩
abbrev main_v441 : Ref sig .tc := ⟨.hbm, 586, rfl⟩
abbrev main_v442 : Ref sig .tc := ⟨.hbm, 587, rfl⟩
abbrev main_v443 : Ref sig .tc := ⟨.hbm, 588, rfl⟩
abbrev main_cst_127 : Ref sig .tc := ⟨.hbm, 589, rfl⟩
abbrev main_v444 : Ref sig .tc := ⟨.hbm, 590, rfl⟩
abbrev main_v445 : Ref sig .tc := ⟨.hbm, 591, rfl⟩
abbrev main_cst_128 : Ref sig .tc := ⟨.hbm, 592, rfl⟩
abbrev main_v446 : Ref sig .tc := ⟨.hbm, 593, rfl⟩
abbrev main_v447 : Ref sig .tc := ⟨.hbm, 594, rfl⟩
abbrev main_cst_129 : Ref sig .tc := ⟨.hbm, 595, rfl⟩
abbrev main_v448 : Ref sig .tc := ⟨.hbm, 596, rfl⟩
abbrev main_v449 : Ref sig .tc := ⟨.hbm, 597, rfl⟩
abbrev main_cst_130 : Ref sig .tc := ⟨.hbm, 598, rfl⟩
abbrev main_v450 : Ref sig .tc := ⟨.hbm, 599, rfl⟩
abbrev main_v451 : Ref sig .tc := ⟨.hbm, 600, rfl⟩
abbrev main_cst_131 : Ref sig .tc := ⟨.hbm, 601, rfl⟩
abbrev main_v452 : Ref sig .tc := ⟨.hbm, 602, rfl⟩
abbrev main_v453 : Ref sig .tc := ⟨.hbm, 603, rfl⟩
abbrev main_cst_132 : Ref sig .tc := ⟨.hbm, 604, rfl⟩
abbrev main_v454 : Ref sig .tc := ⟨.hbm, 605, rfl⟩
abbrev main_v455 : Ref sig .tc := ⟨.hbm, 606, rfl⟩
abbrev main_v456 : Ref sig .tc := ⟨.hbm, 607, rfl⟩
abbrev main_cst_133 : Ref sig .tc := ⟨.hbm, 608, rfl⟩
abbrev main_v457 : Ref sig .tc := ⟨.hbm, 609, rfl⟩
abbrev main_v458 : Ref sig .tc := ⟨.hbm, 610, rfl⟩
abbrev main_cst_134 : Ref sig .tc := ⟨.hbm, 611, rfl⟩
abbrev main_v459 : Ref sig .tc := ⟨.hbm, 612, rfl⟩
abbrev main_v460 : Ref sig .tc := ⟨.hbm, 613, rfl⟩
abbrev main_v461 : Ref sig .tc := ⟨.hbm, 614, rfl⟩
abbrev main_cst_135 : Ref sig .tc := ⟨.hbm, 615, rfl⟩
abbrev main_v462 : Ref sig .tc := ⟨.hbm, 616, rfl⟩
abbrev main_v463 : Ref sig .tc := ⟨.hbm, 617, rfl⟩
abbrev main_cst_136 : Ref sig .tc := ⟨.hbm, 618, rfl⟩
abbrev main_v464 : Ref sig .tc := ⟨.hbm, 619, rfl⟩
abbrev main_v465 : Ref sig .tc := ⟨.hbm, 620, rfl⟩
abbrev main_v466 : Ref sig .tc := ⟨.hbm, 621, rfl⟩
abbrev main_cst_137 : Ref sig .tc := ⟨.hbm, 622, rfl⟩
abbrev main_v467 : Ref sig .tc := ⟨.hbm, 623, rfl⟩
abbrev main_v468 : Ref sig .tc := ⟨.hbm, 624, rfl⟩
abbrev main_cst_138 : Ref sig .tc := ⟨.hbm, 625, rfl⟩
abbrev main_v469 : Ref sig .tc := ⟨.hbm, 626, rfl⟩
abbrev main_v470 : Ref sig .tc := ⟨.hbm, 627, rfl⟩
abbrev main_v471 : Ref sig .tc := ⟨.hbm, 628, rfl⟩
abbrev main_cst_139 : Ref sig .tc := ⟨.hbm, 629, rfl⟩
abbrev main_v472 : Ref sig .tc := ⟨.hbm, 630, rfl⟩
abbrev main_v473 : Ref sig .tc := ⟨.hbm, 631, rfl⟩
abbrev main_cst_140 : Ref sig .tc := ⟨.hbm, 632, rfl⟩
abbrev main_v474 : Ref sig .tc := ⟨.hbm, 633, rfl⟩
abbrev main_v475 : Ref sig .tc := ⟨.hbm, 634, rfl⟩
abbrev main_v476 : Ref sig .tc := ⟨.hbm, 635, rfl⟩
abbrev main_cst_141 : Ref sig .tc := ⟨.hbm, 636, rfl⟩
abbrev main_v477 : Ref sig .tc := ⟨.hbm, 637, rfl⟩
abbrev main_v478 : Ref sig .tc := ⟨.hbm, 638, rfl⟩
abbrev main_cst_142 : Ref sig .tc := ⟨.hbm, 639, rfl⟩
abbrev main_v479 : Ref sig .tc := ⟨.hbm, 640, rfl⟩
abbrev main_v480 : Ref sig .tc := ⟨.hbm, 641, rfl⟩
abbrev main_v481 : Ref sig .tc := ⟨.hbm, 642, rfl⟩
abbrev main_cst_143 : Ref sig .tc := ⟨.hbm, 643, rfl⟩
abbrev main_v482 : Ref sig .tc := ⟨.hbm, 644, rfl⟩
abbrev main_v483 : Ref sig .tc := ⟨.hbm, 645, rfl⟩
abbrev main_cst_144 : Ref sig .tc := ⟨.hbm, 646, rfl⟩
abbrev main_v484 : Ref sig .tc := ⟨.hbm, 647, rfl⟩
abbrev main_v485 : Ref sig .tc := ⟨.hbm, 648, rfl⟩
abbrev main_v486 : Ref sig .tc := ⟨.hbm, 649, rfl⟩
abbrev main_cst_145 : Ref sig .tc := ⟨.hbm, 650, rfl⟩
abbrev main_v487 : Ref sig .tc := ⟨.hbm, 651, rfl⟩
abbrev main_v488 : Ref sig .tc := ⟨.hbm, 652, rfl⟩
abbrev main_cst_146 : Ref sig .tc := ⟨.hbm, 653, rfl⟩
abbrev main_v489 : Ref sig .tc := ⟨.hbm, 654, rfl⟩
abbrev main_v490 : Ref sig .tc := ⟨.hbm, 655, rfl⟩
abbrev main_v491 : Ref sig .tc := ⟨.hbm, 656, rfl⟩
abbrev main_v492 : Ref sig .tc := ⟨.hbm, 657, rfl⟩
abbrev main_v493 : Ref sig .tc := ⟨.hbm, 658, rfl⟩
abbrev main_cst_147 : Ref sig .tc := ⟨.hbm, 659, rfl⟩
abbrev main_v494 : Ref sig .tc := ⟨.hbm, 660, rfl⟩
abbrev main_v495 : Ref sig .tc := ⟨.hbm, 661, rfl⟩
abbrev main_v496 : Ref sig .tc := ⟨.hbm, 662, rfl⟩
abbrev main_v497 : Ref sig .tc := ⟨.hbm, 663, rfl⟩
abbrev main_v498 : Ref sig .tc := ⟨.hbm, 664, rfl⟩
abbrev main_cst_148 : Ref sig .tc := ⟨.hbm, 665, rfl⟩
abbrev main_v499 : Ref sig .tc := ⟨.hbm, 666, rfl⟩
abbrev main_v500 : Ref sig .tc := ⟨.hbm, 667, rfl⟩
abbrev main_v501 : Ref sig .tc := ⟨.hbm, 668, rfl⟩
abbrev main_v502 : Ref sig .tc := ⟨.hbm, 669, rfl⟩
abbrev main_cst_149 : Ref sig .tc := ⟨.hbm, 670, rfl⟩
abbrev main_v503 : Ref sig .tc := ⟨.hbm, 671, rfl⟩
abbrev main_v504 : Ref sig .tc := ⟨.hbm, 672, rfl⟩
abbrev main_cst_150 : Ref sig .tc := ⟨.hbm, 673, rfl⟩
abbrev main_v505 : Ref sig .tc := ⟨.hbm, 674, rfl⟩
abbrev main_v506 : Ref sig .tc := ⟨.hbm, 675, rfl⟩
abbrev main_v507 : Ref sig .tc := ⟨.hbm, 676, rfl⟩
abbrev main_v508 : Ref sig .tc := ⟨.hbm, 677, rfl⟩
abbrev main_v509 : Ref sig .tc := ⟨.hbm, 678, rfl⟩
abbrev main_v510 : Ref sig .tc := ⟨.hbm, 679, rfl⟩
abbrev main_v511 : Ref sig .tc := ⟨.hbm, 680, rfl⟩
abbrev main_v512 : Ref sig .tc := ⟨.hbm, 681, rfl⟩
abbrev main_v513 : Ref sig .tc := ⟨.hbm, 682, rfl⟩
abbrev main_v514 : Ref sig .tc := ⟨.hbm, 683, rfl⟩
abbrev main_c_151 : Ref sig .tc := ⟨.hbm, 684, rfl⟩
abbrev main_v515 : Ref sig .tc := ⟨.hbm, 685, rfl⟩
abbrev main_v516 : Ref sig .tc := ⟨.hbm, 686, rfl⟩
abbrev main_c_152 : Ref sig .tc := ⟨.hbm, 687, rfl⟩
abbrev main_v517 : Ref sig .tc := ⟨.hbm, 688, rfl⟩
abbrev main_c_153 : Ref sig .tc := ⟨.hbm, 689, rfl⟩
abbrev main_v518 : Ref sig .tc := ⟨.hbm, 690, rfl⟩
abbrev main_v519 : Ref sig .tc := ⟨.hbm, 691, rfl⟩
abbrev main_v520 : Ref sig .tc := ⟨.hbm, 692, rfl⟩
abbrev main_v521 : Ref sig .tc := ⟨.hbm, 693, rfl⟩
abbrev main_c_154 : Ref sig .tc := ⟨.hbm, 694, rfl⟩
abbrev main_v522 : Ref sig .tc := ⟨.hbm, 695, rfl⟩
abbrev main_v523 : Ref sig .tc := ⟨.hbm, 696, rfl⟩
abbrev main_c_155 : Ref sig .tc := ⟨.hbm, 697, rfl⟩
abbrev main_v524 : Ref sig .tc := ⟨.hbm, 698, rfl⟩
abbrev main_v525 : Ref sig .tc := ⟨.hbm, 699, rfl⟩
abbrev main_v526 : Ref sig .tc := ⟨.hbm, 700, rfl⟩
abbrev main_v527 : Ref sig .tc := ⟨.hbm, 701, rfl⟩
abbrev main_cst_156 : Ref sig .tc := ⟨.hbm, 702, rfl⟩
abbrev main_v528 : Ref sig .tc := ⟨.hbm, 703, rfl⟩
abbrev main_v529 : Ref sig .tc := ⟨.hbm, 704, rfl⟩
abbrev main_cst_157 : Ref sig .tc := ⟨.hbm, 705, rfl⟩
abbrev main_v530 : Ref sig .tc := ⟨.hbm, 706, rfl⟩
abbrev main_v531 : Ref sig .tc := ⟨.hbm, 707, rfl⟩
abbrev main_cst_158 : Ref sig .tc := ⟨.hbm, 708, rfl⟩
abbrev main_v532 : Ref sig .tc := ⟨.hbm, 709, rfl⟩
abbrev main_v533 : Ref sig .tc := ⟨.hbm, 710, rfl⟩
abbrev main_cst_159 : Ref sig .tc := ⟨.hbm, 711, rfl⟩
abbrev main_call1_v0 : Ref sig .tc := ⟨.hbm, 712, rfl⟩
abbrev main_call1_v1 : Ref sig .tc := ⟨.hbm, 713, rfl⟩
abbrev main_call1_v2 : Ref sig .tc := ⟨.hbm, 714, rfl⟩
abbrev main_v534 : Ref sig .tc := ⟨.hbm, 715, rfl⟩
abbrev main_cst_160 : Ref sig .tc := ⟨.hbm, 716, rfl⟩
abbrev main_v535 : Ref sig .tc := ⟨.hbm, 717, rfl⟩
abbrev main_v536 : Ref sig .tc := ⟨.hbm, 718, rfl⟩
abbrev main_v537 : Ref sig .tc := ⟨.hbm, 719, rfl⟩
abbrev main_cst_161 : Ref sig .tc := ⟨.hbm, 720, rfl⟩
abbrev main_v538 : Ref sig .tc := ⟨.hbm, 721, rfl⟩
abbrev main_v539 : Ref sig .tc := ⟨.hbm, 722, rfl⟩
abbrev main_v540 : Ref sig .tc := ⟨.hbm, 723, rfl⟩
abbrev main_v541 : Ref sig .tc := ⟨.hbm, 724, rfl⟩
abbrev main_cst_162 : Ref sig .tc := ⟨.hbm, 725, rfl⟩
abbrev main_call2_v0 : Ref sig .tc := ⟨.hbm, 726, rfl⟩
abbrev main_call2_v1 : Ref sig .tc := ⟨.hbm, 727, rfl⟩
abbrev main_v542 : Ref sig .tc := ⟨.hbm, 728, rfl⟩
abbrev main_call3_call0_cst : Ref sig .tc := ⟨.hbm, 729, rfl⟩
abbrev main_call3_call0_v0 : Ref sig .tc := ⟨.hbm, 730, rfl⟩
abbrev main_v543 : Ref sig .tc := ⟨.hbm, 731, rfl⟩
abbrev main_cst_163 : Ref sig .tc := ⟨.hbm, 732, rfl⟩
abbrev main_v544 : Ref sig .tc := ⟨.hbm, 733, rfl⟩
abbrev main_v545 : Ref sig .tc := ⟨.hbm, 734, rfl⟩
abbrev main_cst_164 : Ref sig .tc := ⟨.hbm, 735, rfl⟩
abbrev main_call4_v0 : Ref sig .tc := ⟨.hbm, 736, rfl⟩
abbrev main_call4_v1 : Ref sig .tc := ⟨.hbm, 737, rfl⟩
abbrev main_v546 : Ref sig .tc := ⟨.hbm, 738, rfl⟩
abbrev main_v547 : Ref sig .tc := ⟨.hbm, 739, rfl⟩
abbrev main_v548 : Ref sig .tc := ⟨.hbm, 740, rfl⟩
abbrev main_v549 : Ref sig .tc := ⟨.hbm, 741, rfl⟩
abbrev main_v550 : Ref sig .tc := ⟨.hbm, 742, rfl⟩
abbrev main_cst_165 : Ref sig .tc := ⟨.hbm, 743, rfl⟩
abbrev main_v551 : Ref sig .tc := ⟨.hbm, 744, rfl⟩
abbrev main_c_166 : Ref sig .tc := ⟨.hbm, 745, rfl⟩
abbrev main_v552 : Ref sig .tc := ⟨.hbm, 746, rfl⟩
abbrev main_v553 : Ref sig .tc := ⟨.hbm, 747, rfl⟩
abbrev main_c_167 : Ref sig .tc := ⟨.hbm, 748, rfl⟩
abbrev main_v554 : Ref sig .tc := ⟨.hbm, 749, rfl⟩
abbrev main_v555 : Ref sig .tc := ⟨.hbm, 750, rfl⟩
abbrev main_v556 : Ref sig .tc := ⟨.hbm, 751, rfl⟩
abbrev main_c_168 : Ref sig .tc := ⟨.hbm, 752, rfl⟩
abbrev main_v557 : Ref sig .tc := ⟨.hbm, 753, rfl⟩
abbrev main_v558 : Ref sig .tc := ⟨.hbm, 754, rfl⟩
abbrev main_c_169 : Ref sig .tc := ⟨.hbm, 755, rfl⟩
abbrev main_v559 : Ref sig .tc := ⟨.hbm, 756, rfl⟩
abbrev main_v560 : Ref sig .tc := ⟨.hbm, 757, rfl⟩
abbrev main_v561 : Ref sig .tc := ⟨.hbm, 758, rfl⟩
abbrev main_v562 : Ref sig .tc := ⟨.hbm, 759, rfl⟩
abbrev main_v563 : Ref sig .tc := ⟨.hbm, 760, rfl⟩
abbrev main_v564 : Ref sig .tc := ⟨.hbm, 761, rfl⟩
abbrev main_cst_170 : Ref sig .tc := ⟨.hbm, 762, rfl⟩
abbrev main_v565 : Ref sig .tc := ⟨.hbm, 763, rfl⟩
abbrev main_v566 : Ref sig .tc := ⟨.hbm, 764, rfl⟩
abbrev main_v567 : Ref sig .tc := ⟨.hbm, 765, rfl⟩
abbrev main_v568 : Ref sig .tc := ⟨.hbm, 766, rfl⟩
abbrev main_cst_171 : Ref sig .tc := ⟨.hbm, 767, rfl⟩
abbrev main_v569 : Ref sig .tc := ⟨.hbm, 768, rfl⟩
abbrev main_v570 : Ref sig .tc := ⟨.hbm, 769, rfl⟩
abbrev main_v571 : Ref sig .tc := ⟨.hbm, 770, rfl⟩

abbrev nD : Nat := 1
abbrev τ : Topo := Topo.v7x

variable {F : FTy → Type} [FloatOps F]
-- ==== Proof.Common.lean ====
/-
  What both programs' certificates share and neither program's text enters: a bounded uncounted loop as a function — run while a
  test of the carried value holds, at most so many rounds, the round's number handed to the step —, and the entries of a table
  of words.
-/
module

public import Idealize.ShloMosaic.Lib.Pipeline.Kit
public import Idealize.ShloMosaic.Lib.Tactic

@[expose] public section

noncomputable section

namespace Cert.Proof

open Idealize.ShloMosaic

/-! ## A bounded uncounted loop -/

section Loop

variable {α : Type} (P : α → Prop) [DecidablePred P] (st : ℕ → α → α)

/-- From round `j` with carried value `a`, at most `n` rounds: while the test holds, the step of that round. -/
def runUp : ℕ → ℕ → α → ℕ × α
  | 0, j, a => (j, a)
  | n + 1, j, a => if P a then runUp n (j + 1) (st j a) else (j, a)

/-- The same going down: rounds `r - 1, r - 2, …` while the test holds; with the rounds left. -/
def runDown : ℕ → α → ℕ × α
  | 0, a => (0, a)
  | r + 1, a => if P a then runDown r (st r a) else (r + 1, a)

theorem runUp_fst_le (n j : ℕ) (a : α) : (runUp P st n j a).1 ≤ j + n := by
  induction n generalizing j a with
  | zero => simp [runUp]
  | succ n ih =>
    unfold runUp; split
    · exact (ih _ _).trans (by omega)
    · simp

theorem runDown_congr {st' : ℕ → α → α} (n : ℕ) (a : α) (h : ∀ j < n, ∀ a, st j a = st' j a) : runDown P st n a = runDown P st' n a := by
  induction n generalizing a with
  | zero => rfl
  | succ n ih =>
    unfold runDown; rw [h n (Nat.lt_succ_self n), ih _ fun j hj => h j (Nat.lt_succ_of_lt hj)]

end Loop

/-! ## Whole loads and stores -/

section Whole

variable {sig : RefSig} {κ : Kind} {sp : Space} {s : Shape} {e : EltTy} (Val : EltTy → Type)

/-- A rectangle of the shape's own sizes places every index at itself. -/
theorem emb_full {off : Fin s.rank → ℕ} (inb : ∀ a, off a + s.size a ≤ s.size a) (x : (Rect.unit off s.size inb).shape.Idx) :
    (Rect.unit off s.size inb).emb x = x :=
  funext fun a => Fin.ext (by
    show off a + 1 * (x a).val = (x a).val
    have := inb a; omega)

/-- A load of a memref's own sizes reads what the memref reads. -/
theorem read_full (M : Memref sig κ sp s e) (f : M.view.ty.Contents Val) {off : Fin s.rank → ℕ} (inb : ∀ a, off a + s.size a ≤ s.size a) :
    (M.access (Rect.unit off s.size inb)).read Val f = M.view.read Val f := by
  funext x
  show M.view.read Val f ((Rect.unit off s.size inb).emb x) = _
  rw [emb_full]

/-- A store of a memref's own sizes leaves the payload. -/
theorem read_store_full (M : Memref sig κ sp s e) (f : M.view.ty.Contents Val) {off : Fin s.rank → ℕ} (inb : ∀ a, off a + s.size a ≤ s.size a)
    (w : s.Idx → Val e) : M.view.read Val ((M.access (Rect.unit off s.size inb)).write Val f w Finset.univ) = w := by
  funext x
  have h := View.read_slice_write_emb (v := M.view) (Rect.unit off s.size inb) f w (Finset.mem_univ x)
  rwa [emb_full] at h

end Whole

end Cert.Proof

end
-- ==== Proof.KI.Body0.lean ====
/-
  The first kernel's body, at any float instance: what one round of its uncounted loop makes of the acceptance flags (`step0`), the
  loop's label answered by the bounded loop `runUp`, the counted loop over the blocks of rows, and the body's one result: the
  largest round count over the blocks.
-/
module

public import proofs.«01_k».proof.Proof.Common
public import proofs.«01_k».proof.Proof.Gen.KernelIdeal.Points
public import proofs.«01_k».proof.Proof.Gen.KernelIdeal.Skeleton

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

/-- The kernel's variants: the naturals (the rounds still to run). -/
abbrev 𝒱₀ : Variants := Variants.nat

/-! ## The table of keys -/

/-- Entry (row `j`, column `q`) of the table of keys (row 0 past the last row: no run reads there). -/
def keyAt (K : S24x4.Idx → BitVec 32) (j : ℕ) (q : Fin 4) : BitVec 32 :=
  K (fun a => ⟨![j % 24, q.val] a, by
    fin_cases a
    · exact Nat.mod_lt _ (by decide)
    · exact q.isLt⟩)

/-- The flag test of both loops reads: some flag is still zero. -/
abbrev Open0 (a : FVec F S8x2048 .f32) : Prop :=
  Scalar.cmpf .ogt (k0_pay11 a) (Scalar.ofBits .f32 0x00000000#32 : F .f32) = 1#1

/-! ## One round -/

/-- One round at the four key words: the two random draws, the proposal, its test, and the flags raised where it passes. -/
def step0 (v38 : IVec S8x2048 32) (v13 v17 v9 v21 v29 v25 : FVec F S8x2048 .f32) (cst_11 : F .f32) (v47 v49 v51 v53 : BitVec 32)
    (arg12 : FVec F S8x2048 .f32) : FVec F S8x2048 .f32 :=
  let v56 : BitVec 32 := Scalar.xori (Scalar.xori v47 v49) 466688986#32
  let v88 := k0_pay22 (F := F) v38 v47 v49
  let v90 := k0_pay23 (F := F) v38 v47 v49
  let v135 := k0_pay34 (F := F) v47 v56 v88 v90
  let v136 := k0_pay35 (F := F) v47 v56 v88 v90
  let v183 := k0_pay47 (F := F) v47 v49 v135 v136 k0_pay36
  let v184 := k0_pay48 (F := F) v47 v49 v135 v136 k0_pay36
  let v231 := k0_pay49 (F := F) v47 v49 v56 v183 v184 24#32
  let v232 := k0_pay50
  let v242 := k0_pay51 (F := F) v231 v232
  let v244 : BitVec 32 := Scalar.xori (Scalar.xori v51 v53) 466688986#32
  let v276 := k0_pay60 (F := F) v38 v51 v53 k0_pay13
  let v278 := k0_pay61 (F := F) v38 v51 v53 k0_pay13
  let v279 := k0_pay62 (F := F) v51 v53
  let v323 := k0_pay73 (F := F) v51 v244 v276 v278 v279
  let v324 := k0_pay74 (F := F) v51 v244 v276 v278 v279
  let v326 := k0_pay75 (F := F) v51 v244 v276 v278 v279
  let v371 := k0_pay86 (F := F) v51 v53 v323 v324 v326
  let v372 := k0_pay87 (F := F) v51 v53 v323 v324 v326
  let v421 := k0_pay89 (F := F) v51 v53 v244 v371 v372 k0_pay88
  let v428 := k0_pay90 (F := F) v421
  let v431 := k0_pay91 (F := F) v242
  let v440 := k0_pay92 (F := F) v13 v17 v9 v242
  let v446 := k0_pay93 (F := F) v13 v17 v21 v242 v421
  let v450 := k0_pay94 (F := F) v13 v17 v9 v29 v242
  let v454 := k0_pay95 (F := F) v13 v17 v9 v242
  let v466 := k0_pay96 (F := F) v13 v17 v9 v242
  k0_pay12 (F := F) v25 cst_11 arg12 v428 v431 v440 v446 v450 (k0_pay98 (F := F) v466 (k0_pay97 (F := F))) (k0_pay99 (F := F) v454)

/-- The rounds from `j` on, at most `n`, over a table of keys. -/
def loop0 (v38 : IVec S8x2048 32) (v13 v17 v9 v21 v29 v25 : FVec F S8x2048 .f32) (cst_11 : F .f32) (K : S24x4.Idx → BitVec 32)
    (n j : ℕ) (a : FVec F S8x2048 .f32) : ℕ × FVec F S8x2048 .f32 :=
  runUp Open0 (fun j a => step0 v38 v13 v17 v9 v21 v29 v25 cst_11 (keyAt K j 0) (keyAt K j 1) (keyAt K j 2) (keyAt K j 3) a) n j a

/-! ## The counter's arithmetic -/

theorem slt24 : ∀ j < 24, Scalar.cmpi .slt (BitVec.ofNat 32 j) 24#32 = 1#1 := by decide
theorem slt24_end : Scalar.cmpi .slt (BitVec.ofNat 32 24) 24#32 = 0#1 := by decide
theorem addi24 : ∀ j < 24, Scalar.addi (BitVec.ofNat 32 j) 1#32 = BitVec.ofNat 32 (j + 1) := by decide
theorem andi_one (b : BitVec 1) : Scalar.andi 1#1 b = b := by revert b; decide
theorem andi_zero (b : BitVec 1) : Scalar.andi 0#1 b = 0#1 := by revert b; decide
theorem chk0 : ∀ j < 24, k0_chk1 (BitVec.ofNat 32 j) := by
  intro j hj; unfold k0_chk1; revert j; decide
theorem off0_1 : ∀ j < 24, k0_off1 (BitVec.ofNat 32 j) = ![j, 0] := by decide
theorem off0_2 : ∀ j < 24, k0_off2 (BitVec.ofNat 32 j) = ![j, 1] := by decide
theorem off0_3 : ∀ j < 24, k0_off3 (BitVec.ofNat 32 j) = ![j, 2] := by decide
theorem off0_4 : ∀ j < 24, k0_off4 (BitVec.ofNat 32 j) = ![j, 3] := by decide

omit [FloatOps F] in
/-- The word a one-word load of the table reads is the entry at its offsets. -/
theorem read_key (M : Memref sig .tc .smem S24x4 .i32) (f : M.view.ty.Contents (Elt F)) (K : S24x4.Idx → BitVec 32)
    (hf : M.view.read (Elt F) f = K) (off : Fin 2 → ℕ) (hoff : ∀ a, off a + S1x1.size a ≤ S24x4.size a) (j : ℕ) (q : Fin 4)
    (hj : j < 24) (ho : off = ![j, q.val]) (x : (Rect.unit (s := S24x4) off S1x1.size hoff).shape.Idx) :
    (M.access (Rect.unit (s := S24x4) off S1x1.size hoff)).read (Elt F) f x = keyAt K j q := by
  subst ho
  show M.view.read (Elt F) f ((Rect.unit (s := S24x4) _ S1x1.size hoff).emb x) = _
  rw [hf]
  unfold keyAt
  congr 1
  funext a
  apply Fin.ext
  rw [Rect.emb_apply]
  have hx : (x a).val = 0 := by
    have := (x a).isLt
    fin_cases a <;> exact Nat.lt_one_iff.mp this
  rw [hx]
  fin_cases a
  · show j + 1 * 0 = j % 24; rw [Nat.mod_eq_of_lt hj]; omega
  · show q.val + 1 * 0 = q.val; omega

/-- The memory operations of one trip of the uncounted loop: the counter's check, the four key words, the call of the label again. -/
theorem while1_eq (i : grid0.Coords) (k : Fin k0_t1_loop.trips) (M : Memref sig .tc .smem S24x4 .i32) (hM : M.IsWhole)
    (v38 : IVec S8x2048 32) (v13 v17 v9 v21 v29 v25 : FVec F S8x2048 .f32) (cst_11 : F .f32) (arg11 : BitVec 32) (arg12 : FVec F S8x2048 .f32) :
    cc0_while1_skel (F := F) i k M hM v38 v13 v17 v9 v21 v29 v25 cst_11 arg11 arg12
      = if Scalar.andi (Scalar.cmpi .slt arg11 24#32) (Scalar.cmpf .ogt (k0_pay11 arg12) (Scalar.ofBits .f32 0x00000000#32 : F .f32)) = 1#1 then
          .op (.assume (k0_chk1 arg11) (k0_chk1.dec arg11)) fun h =>
          .op (.load M (Rect.unit (s := S24x4) (k0_off1 arg11) S1x1.size (k0_off1_inb arg11 h.down)).toLoadRect (View.loadsAt_rect (View.loads_smem_one rfl numel1_S1x1))) fun w0 =>
          .op (.load M (Rect.unit (s := S24x4) (k0_off2 arg11) S1x1.size (k0_off2_inb arg11 h.down)).toLoadRect (View.loadsAt_rect (View.loads_smem_one rfl numel1_S1x1))) fun w1 =>
          .op (.load M (Rect.unit (s := S24x4) (k0_off3 arg11) S1x1.size (k0_off3_inb arg11 h.down)).toLoadRect (View.loadsAt_rect (View.loads_smem_one rfl numel1_S1x1))) fun w2 =>
          .op (.load M (Rect.unit (s := S24x4) (k0_off4 arg11) S1x1.size (k0_off4_inb arg11 h.down)).toLoadRect (View.loadsAt_rect (View.loads_smem_one rfl numel1_S1x1))) fun w3 =>
          .op (.call (2 : (Λ₀ F).Label) ⟨i, k, M, hM, v38, v13, v17, v9, v21, v29, v25, cst_11, Scalar.addi arg11 1#32,
            step0 v38 v13 v17 v9 v21 v29 v25 cst_11 (w0 (Shape.Idx.first (numel1_S1x1.symm ▸ Nat.one_pos))) (w1 (Shape.Idx.first (numel1_S1x1.symm ▸ Nat.one_pos)))
              (w2 (Shape.Idx.first (numel1_S1x1.symm ▸ Nat.one_pos))) (w3 (Shape.Idx.first (numel1_S1x1.symm ▸ Nat.one_pos))) arg12⟩) .ret
        else .ret (arg11, arg12) := by
  unfold cc0_while1_skel
  refine if_congr Iff.rfl ?_ rfl
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part1_skel, k0_part2_skel, k0_part3_skel, k0_part4_skel, k0_part5_skel, k0_part6_skel, k0_part7_skel, k0_part8_skel, k0_part9_skel,
    k0_part10_skel, smemLoad, smemLoadElt, Prog.lift, Prog.bind_op, Prog.bind_ret, Prog.pure_eq_ret]
  rfl

section Words

variable (M : Memref sig .tc .smem S24x4 .i32) (f : M.view.ty.Contents (Elt F)) (K : S24x4.Idx → BitVec 32)
  (hf : M.view.read (Elt F) f = K) (j : ℕ) (hj : j < 24)

include hf hj

omit [FloatOps F] in
theorem read_key0_1 (h) (x) : (M.access (Rect.unit (s := S24x4) (k0_off1 (BitVec.ofNat 32 j)) S1x1.size h)).read (Elt F) f x = keyAt K j 0 :=
  read_key M f K hf _ h j 0 hj (off0_1 j hj) x
omit [FloatOps F] in
theorem read_key0_2 (h) (x) : (M.access (Rect.unit (s := S24x4) (k0_off2 (BitVec.ofNat 32 j)) S1x1.size h)).read (Elt F) f x = keyAt K j 1 :=
  read_key M f K hf _ h j 1 hj (off0_2 j hj) x
omit [FloatOps F] in
theorem read_key0_3 (h) (x) : (M.access (Rect.unit (s := S24x4) (k0_off3 (BitVec.ofNat 32 j)) S1x1.size h)).read (Elt F) f x = keyAt K j 2 :=
  read_key M f K hf _ h j 2 hj (off0_3 j hj) x
omit [FloatOps F] in
theorem read_key0_4 (h) (x) : (M.access (Rect.unit (s := S24x4) (k0_off4 (BitVec.ofNat 32 j)) S1x1.size h)).read (Elt F) f x = keyAt K j 3 :=
  read_key M f K hf _ h j 3 hj (off0_4 j hj) x

end Words

/-! ## The uncounted loop's label -/

section Label

variable (c : Dev nD) (i : grid0.Coords) (k : Fin k0_t1_loop.trips) (M : Memref sig .tc .smem S24x4 .i32) (hM : M.IsWhole)
  (v38 : IVec S8x2048 32) (v13 v17 v9 v21 v29 v25 : FVec F S8x2048 .f32) (cst_11 : F .f32) (K : S24x4.Idx → BitVec 32)

/-- The label's specification with at most `n` rounds from round `j`: holding the table of keys, it returns the round it stopped at and the
    flags there. -/
def spec0 (n j : ℕ) (a : FVec F S8x2048 .f32) : sWPT 𝕄 (BitVec 32 × FVec F S8x2048 .f32) := do
  sWPT.consume (owns (c : Thread nD τ) M fullShare K)
  sWPT.produce (owns (c : Thread nD τ) M fullShare K)
  pure (BitVec.ofNat 32 (loop0 v38 v13 v17 v9 v21 v29 v25 cst_11 K n j a).1, (loop0 v38 v13 v17 v9 v21 v29 v25 cst_11 K n j a).2)

theorem spec0_apply (n j : ℕ) (a : FVec F S8x2048 .f32) (Q : BitVec 32 × FVec F S8x2048 .f32 → sProp 𝕄) :
    spec0 c M v38 v13 v17 v9 v21 v29 v25 cst_11 K n j a Q
      = iprop(owns (c : Thread nD τ) M fullShare K ∗ (owns (c : Thread nD τ) M fullShare K
          -∗ Q (BitVec.ofNat 32 (loop0 v38 v13 v17 v9 v21 v29 v25 cst_11 K n j a).1, (loop0 v38 v13 v17 v9 v21 v29 v25 cst_11 K n j a).2))) := rfl

theorem spec0_le (E : Set ℕ) :
    ∀ n j, j + n = 24 → ∀ a Q, spec0 c M v38 v13 v17 v9 v21 v29 v25 cst_11 K n j a Q
      ⊢ wp frame (wpE (defs₀ (F := F)) 𝒱₀ (c : Thread nD τ) (some n)) E
          (defs₀ (F := F) .tc 2 ⟨i, k, M, hM, v38, v13, v17, v9, v21, v29, v25, cst_11, BitVec.ofNat 32 j, a⟩) Q := by
  intro n
  induction n with
  | zero =>
    intro j hj a Q
    rw [spec0_apply]
    show _ ⊢ wp frame (wpE (defs₀ (F := F)) 𝒱₀ (c : Thread nD τ) (some 0)) E
      (cc0_while1 (F := F) i k M hM v38 v13 v17 v9 v21 v29 v25 cst_11 (BitVec.ofNat 32 j) a) Q
    simp only [cc0_while1_eq_skeleton]; rw [while1_eq]
    obtain rfl : j = 24 := by omega
    simp only [slt24_end, andi_zero]
    rw [if_neg (by decide)]
    iintro ⟨H, Hk⟩
    rw [wp_ret]; imodintro
    rw [loop0, runUp]
    iapply Hk; iexact H
  | succ n ih =>
    intro j hj a Q
    have hj24 : j < 24 := by omega
    rw [spec0_apply]
    show _ ⊢ wp frame (wpE (defs₀ (F := F)) 𝒱₀ (c : Thread nD τ) (some (n + 1))) E
      (cc0_while1 (F := F) i k M hM v38 v13 v17 v9 v21 v29 v25 cst_11 (BitVec.ofNat 32 j) a) Q
    simp only [cc0_while1_eq_skeleton]; rw [while1_eq]
    simp only [slt24 j hj24, andi_one]
    by_cases hP : Open0 a
    · rw [if_pos hP]
      have hrun : loop0 v38 v13 v17 v9 v21 v29 v25 cst_11 K (n + 1) j a
          = loop0 v38 v13 v17 v9 v21 v29 v25 cst_11 K n (j + 1) (step0 v38 v13 v17 v9 v21 v29 v25 cst_11 (keyAt K j 0) (keyAt K j 1) (keyAt K j 2) (keyAt K j 3) a) := by
        unfold loop0; rw [runUp, if_pos hP]
      rw [hrun]
      unfold owns
      iintro ⟨⟨%f, %hf, H⟩, Hk⟩
      iapply (wp_assume 𝒱₀ (c : Thread nD τ) (some (n + 1)) E (chk0 j hj24))
      iapply (wp_load_rect 𝒱₀ (c : Thread nD τ) (some (n + 1)) E (m := M)
        (r := Rect.unit (s := S24x4) (k0_off1 (BitVec.ofNat 32 j)) S1x1.size (k0_off1_inb _ (chk0 j hj24))) (View.set_slice_subset _ _)) $$ H; iintro H
      iapply (wp_load_rect 𝒱₀ (c : Thread nD τ) (some (n + 1)) E (m := M)
        (r := Rect.unit (s := S24x4) (k0_off2 (BitVec.ofNat 32 j)) S1x1.size (k0_off2_inb _ (chk0 j hj24))) (View.set_slice_subset _ _)) $$ H; iintro H
      iapply (wp_load_rect 𝒱₀ (c : Thread nD τ) (some (n + 1)) E (m := M)
        (r := Rect.unit (s := S24x4) (k0_off3 (BitVec.ofNat 32 j)) S1x1.size (k0_off3_inb _ (chk0 j hj24))) (View.set_slice_subset _ _)) $$ H; iintro H
      iapply (wp_load_rect 𝒱₀ (c : Thread nD τ) (some (n + 1)) E (m := M)
        (r := Rect.unit (s := S24x4) (k0_off4 (BitVec.ofNat 32 j)) S1x1.size (k0_off4_inb _ (chk0 j hj24))) (View.set_slice_subset _ _)) $$ H; iintro H
      rw [read_key0_1 M f K hf j hj24, read_key0_2 M f K hf j hj24, read_key0_3 M f K hf j hj24, read_key0_4 M f K hf j hj24, addi24 j hj24]
      iapply (wp_call_spec 𝒱₀ (c : Thread nD τ) (some (n + 1)) E
        (spec0 c M v38 v13 v17 v9 v21 v29 v25 cst_11 K n (j + 1) (step0 v38 v13 v17 v9 v21 v29 v25 cst_11 (keyAt K j 0) (keyAt K j 1) (keyAt K j 2) (keyAt K j 3) a)) n
        (fun u hu => by cases hu; exact Nat.lt_succ_self n)
        (ih (j + 1) (by omega) _))
      rw [spec0_apply]
      isplitl [H]
      · unfold owns; iexists f; isplitr; · ipureintro; exact hf
        iexact H
      iintro H
      rw [wp_ret]; imodintro
      iapply Hk
      unfold owns; iexact H
    · rw [if_neg hP]
      have hrun : loop0 v38 v13 v17 v9 v21 v29 v25 cst_11 K (n + 1) j a = (j, a) := by
        unfold loop0; rw [runUp, if_neg hP]
      rw [hrun]
      iintro ⟨H, Hk⟩
      rw [wp_ret]; imodintro
      iapply Hk; iexact H

end Label

/-! ## The counted loop over the blocks of rows -/

/-- The first kernel's six blocks of lane parameters, in window order: the rate, `a`, `b`, the inverse of `alpha`, `v_r`, the rate's
    logarithm. -/
abbrev Blk6 (F : FTy → Type) [FloatOps F] : Type := Fin 6 → Vec F S1x2048 .f32

/-- The rounds the rows of block `k` take. -/
def rounds (i : grid0.Coords) (B : Blk6 F) (K : S24x4.Idx → BitVec 32) (k : Fin k0_t1_loop.trips) : ℕ :=
  (loop0 (k0_pay9 i k) (k0_pay3 (B 1)) (k0_pay4 (B 2)) (k0_pay2 (B 0)) (k0_pay5 (B 3)) (k0_pay7 (B 5)) (k0_pay6 (B 4))
    (Scalar.ofBits .f32 0x3F800000#32) K 24 0 (k0_pay10 (F := F) k)).1

theorem rounds_le (i : grid0.Coords) (B : Blk6 F) (K : S24x4.Idx → BitVec 32) (k : Fin k0_t1_loop.trips) : rounds i B K k ≤ 24 := by
  unfold rounds loop0; exact (runUp_fst_le _ _ _ _ _).trans (by omega)

/-- The largest round count of the first `n` blocks. -/
def maxRounds (i : grid0.Coords) (B : Blk6 F) (K : S24x4.Idx → BitVec 32) : ℕ → ℕ
  | 0 => 0
  | n + 1 => max (maxRounds i B K n) (if h : n < k0_t1_loop.trips then rounds i B K ⟨n, h⟩ else 0)

theorem maxRounds_le (i : grid0.Coords) (B : Blk6 F) (K : S24x4.Idx → BitVec 32) (n : ℕ) : maxRounds i B K n ≤ 24 := by
  induction n with
  | zero => exact Nat.zero_le _
  | succ n ih =>
    refine max_le ih ?_
    split
    · exact rounds_le _ _ _ _
    · exact Nat.zero_le _

theorem maxsi24 : ∀ a ≤ 24, ∀ b ≤ 24, Scalar.maxsi (BitVec.ofNat 32 a) (BitVec.ofNat 32 b) = BitVec.ofNat 32 (max a b) := by
  intro a ha b hb
  have : ∀ a < 25, ∀ b < 25, Scalar.maxsi (BitVec.ofNat 32 a) (BitVec.ofNat 32 b) = BitVec.ofNat 32 (max a b) := by decide
  exact this a (by omega) b (by omega)

section Body

variable (c : Dev nD) (i : grid0.Coords) (A1 : Memref sig .tc .vmem S1x2048 .f32) (h1 : A1.IsWhole) (A2 : Memref sig .tc .vmem S1x2048 .f32) (h2 : A2.IsWhole)
  (A3 : Memref sig .tc .vmem S1x2048 .f32) (h3 : A3.IsWhole) (A4 : Memref sig .tc .vmem S1x2048 .f32) (h4 : A4.IsWhole)
  (A5 : Memref sig .tc .vmem S1x2048 .f32) (h5 : A5.IsWhole) (A6 : Memref sig .tc .vmem S1x2048 .f32) (h6 : A6.IsWhole)
  (A7 : Memref sig .tc .smem S24x4 .i32) (h7 : A7.IsWhole) (A8 : Memref sig .tc .smem S1x1x1 .i32) (h8 : A8.IsWhole)
  (B : Blk6 F) (K : S24x4.Idx → BitVec 32)

/-- The counted loop's invariant before trip `k`: the table of keys held, the carried value the largest count so far. -/
def inv0 (k : ℕ) (acc : BitVec 32) : sProp 𝕄 :=
  iprop(⌜acc = BitVec.ofNat 32 (maxRounds i B K k)⌝ ∗ owns (c : Thread nD τ) A7 fullShare K)

theorem trip0 (E : Set ℕ) (k : Fin k0_t1_loop.trips) (acc : BitVec 32) :
    inv0 c i A7 B K k acc ⊢ wp frame (wpE (defs₀ (F := F)) 𝒱₀ (c : Thread nD τ) none) E
      (k0_t1_body (F := F) i A1 h1 A2 h2 A3 h3 A4 h4 A5 h5 A6 h6 A7 h7 A8 h8 (B 0) (B 1) (B 2) (B 3) (B 4) (B 5)
        (Scalar.ofBits .f32 0x3F800000#32) k acc) (inv0 c i A7 B K (k.val + 1)) := by
  unfold inv0 k0_t1_body
  simp only [Prog.lift, Prog.bind_op, Prog.bind_ret, Prog.pure_eq_ret]
  iintro ⟨%hacc, H⟩
  iapply (wp_call_spec 𝒱₀ (c : Thread nD τ) none E
    (spec0 c A7 (k0_pay9 i k) (k0_pay3 (B 1)) (k0_pay4 (B 2)) (k0_pay2 (B 0)) (k0_pay5 (B 3)) (k0_pay7 (B 5)) (k0_pay6 (B 4))
      (Scalar.ofBits .f32 0x3F800000#32) K 24 0 (k0_pay10 (F := F) k)) 24
    (fun u hu => by cases hu)
    (spec0_le c i k A7 h7 _ _ _ _ _ _ _ _ K E 24 0 rfl _))
  rw [spec0_apply]
  isplitl [H]; · iexact H
  iintro H
  rw [wp_ret]; imodintro
  isplitr
  · ipureintro
    rw [hacc]
    refine (maxsi24 _ (maxRounds_le i B K _) _ (rounds_le i B K k)).trans ?_
    rw [maxRounds, dif_pos k.isLt]
  · iexact H

set_option maxHeartbeats 4000000 in
/-- The first kernel's body: from the blocks, the table of keys and the output word at anything, to the same with the output word at the
    largest round count. -/
theorem body0 (E : Set ℕ) (Q : PUnit → sProp 𝕄) :
    iprop(owns (c : Thread nD τ) A1 fullShare (B 0) ∗ owns (c : Thread nD τ) A2 fullShare (B 1) ∗ owns (c : Thread nD τ) A3 fullShare (B 2)
        ∗ owns (c : Thread nD τ) A4 fullShare (B 3) ∗ owns (c : Thread nD τ) A5 fullShare (B 4) ∗ owns (c : Thread nD τ) A6 fullShare (B 5)
        ∗ owns (c : Thread nD τ) A7 fullShare K ∗ (∃ d, owns (c : Thread nD τ) A8 fullShare d))
      ⊢ iprop(((owns (c : Thread nD τ) A1 fullShare (B 0) ∗ owns (c : Thread nD τ) A2 fullShare (B 1) ∗ owns (c : Thread nD τ) A3 fullShare (B 2)
          ∗ owns (c : Thread nD τ) A4 fullShare (B 3) ∗ owns (c : Thread nD τ) A5 fullShare (B 4) ∗ owns (c : Thread nD τ) A6 fullShare (B 5)
          ∗ owns (c : Thread nD τ) A7 fullShare K
          ∗ owns (c : Thread nD τ) A8 fullShare (fun _ => BitVec.ofNat 32 (maxRounds i B K k0_t1_loop.trips))) -∗ Q ⟨⟩)
        -∗ wp frame (wpE (defs₀ (F := F)) 𝒱₀ (c : Thread nD τ) none) E
            (cc0__lambda_ (F := F) i A1 h1 A2 h2 A3 h3 A4 h4 A5 h5 A6 h6 A7 h7 A8 h8) Q) := by
  simp only [cc0__lambda__eq_skeleton]
  unfold cc0__lambda__skel
  simp only [smemLoad, smemLoadElt, Prog.lift, Prog.bind_op, Prog.bind_ret, Prog.pure_eq_ret]
  unfold owns
  iintro ⟨⟨%f1, %e1, H1⟩, ⟨%f2, %e2, H2⟩, ⟨%f3, %e3, H3⟩, ⟨%f4, %e4, H4⟩, ⟨%f5, %e5, H5⟩, ⟨%f6, %e6, H6⟩, H7, %d, %f8, %e8, H8⟩ Hk
  iapply (wp_load_rect 𝒱₀ (c : Thread nD τ) none E (m := A1) (r := Rect.unit (s := S1x2048) ![0, 0] S1x2048.size inb_S1x2048_S1x2048_0_0) (View.set_slice_subset _ _)) $$ H1; iintro H1
  iapply (wp_load_rect 𝒱₀ (c : Thread nD τ) none E (m := A2) (r := Rect.unit (s := S1x2048) ![0, 0] S1x2048.size inb_S1x2048_S1x2048_0_0) (View.set_slice_subset _ _)) $$ H2; iintro H2
  iapply (wp_load_rect 𝒱₀ (c : Thread nD τ) none E (m := A3) (r := Rect.unit (s := S1x2048) ![0, 0] S1x2048.size inb_S1x2048_S1x2048_0_0) (View.set_slice_subset _ _)) $$ H3; iintro H3
  iapply (wp_load_rect 𝒱₀ (c : Thread nD τ) none E (m := A4) (r := Rect.unit (s := S1x2048) ![0, 0] S1x2048.size inb_S1x2048_S1x2048_0_0) (View.set_slice_subset _ _)) $$ H4; iintro H4
  iapply (wp_load_rect 𝒱₀ (c : Thread nD τ) none E (m := A5) (r := Rect.unit (s := S1x2048) ![0, 0] S1x2048.size inb_S1x2048_S1x2048_0_0) (View.set_slice_subset _ _)) $$ H5; iintro H5
  iapply (wp_load_rect 𝒱₀ (c : Thread nD τ) none E (m := A6) (r := Rect.unit (s := S1x2048) ![0, 0] S1x2048.size inb_S1x2048_S1x2048_0_0) (View.set_slice_subset _ _)) $$ H6; iintro H6
  have r1 := (read_full (Elt F) A1 f1 inb_S1x2048_S1x2048_0_0).trans e1
  have r2 := (read_full (Elt F) A2 f2 inb_S1x2048_S1x2048_0_0).trans e2
  have r3 := (read_full (Elt F) A3 f3 inb_S1x2048_S1x2048_0_0).trans e3
  have r4 := (read_full (Elt F) A4 f4 inb_S1x2048_S1x2048_0_0).trans e4
  have r5 := (read_full (Elt F) A5 f5 inb_S1x2048_S1x2048_0_0).trans e5
  have r6 := (read_full (Elt F) A6 f6 inb_S1x2048_S1x2048_0_0).trans e6
  rw [r1, r2, r3, r4, r5, r6]
  iapply (Scf.wp_for_bind frame (wpE (defs₀ (F := F)) 𝒱₀ (c : Thread nD τ) none) E k0_t1_loop.lb k0_t1_loop.ub k0_t1_loop.st k0_t1_ok _ _
    (inv0 c i A7 B K) (trip0 c i A1 h1 A2 h2 A3 h3 A4 h4 A5 h5 A6 h6 A7 h7 A8 h8 B K E)) $$ [H7]
  · unfold inv0 owns
    isplitr; · ipureintro; rfl
    iexact H7
  iintro %acc Hinv
  unfold inv0
  icases Hinv with ⟨%hacc, H7⟩
  iapply (wp_load_rect 𝒱₀ (c : Thread nD τ) none E (m := A8) (r := Rect.unit (s := S1x1x1) ![0, 0, 0] S1x1x1.size inb_S1x1x1_S1x1x1_0_0_0) (View.set_slice_subset _ _)) $$ H8; iintro H8
  iapply (wp_store 𝒱₀ (c : Thread nD τ) none E (m := A8) (r := Rect.unit (s := S1x1x1) ![0, 0, 0] S1x1x1.size inb_S1x1x1_S1x1x1_0_0_0) (Mk := Finset.univ) (View.set_slice_subset _ _)) $$ H8; iintro H8
  rw [wp_ret]; imodintro
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · unfold owns; iexact H7
  iexists _; isplitr; swap; · iexact H8
  ipureintro
  rw [hacc]
  exact read_store_full (Elt F) A8 f8 inb_S1x1x1_S1x1x1_0_0_0 _

end Body

end Cert.Proof.KI

end
-- ==== Proof.KI.Body1.lean ====
/-
  The second kernel's body, at any float instance: what one round of its backward scan makes of the flags and the draws (`step1`),
  that scan's label answered by the bounded loop `runDown`, one block of eight rows (`chunk1`: the scan, the running sums, the marks
  set), the blocks' label answered by `runUp`, and the body's one result: the block of marks.
-/
module

public import proofs.«01_k».proof.Proof.KI.Body0

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

/-- The flags and the draws the backward scan carries. -/
abbrev Scan (F : FTy → Type) [FloatOps F] : Type := FVec F S8x2048 .f32 × FVec F S8x2048 .f32

/-- Some flag is still zero. -/
abbrev Open1 (s : Scan F) : Prop :=
  Scalar.cmpf .ogt (k1_pay11 s.1) (Scalar.ofBits .f32 0x00000000#32 : F .f32) = 1#1

/-- The lanes' parameters, spread over eight rows. -/
structure Par (F : FTy → Type) [FloatOps F] where
  a : FVec F S8x2048 .f32
  b : FVec F S8x2048 .f32
  lam : FVec F S8x2048 .f32
  ia : FVec F S8x2048 .f32
  ll : FVec F S8x2048 .f32
  vr : FVec F S8x2048 .f32

/-! ## One round of the scan -/

/-- One round at the four key words: the two random draws, the proposal, its test; where it passes and the flag is down, the draw taken
    and the flag raised. -/
def step1 (v56 : IVec S8x2048 32) (p : Par F) (cst_24 : F .f32) (v127 v129 v131 v133 : BitVec 32) (s : Scan F) : Scan F :=
  let v136 : BitVec 32 := Scalar.xori (Scalar.xori v127 v129) 466688986#32
  let v168 := k1_pay46 (F := F) v56 v127 v129
  let v170 := k1_pay47 (F := F) v56 v127 v129
  let v215 := k1_pay58 (F := F) v127 v136 v168 v170
  let v216 := k1_pay59 (F := F) v127 v136 v168 v170
  let v263 := k1_pay71 (F := F) v127 v129 v215 v216 (k1_pay60)
  let v264 := k1_pay72 (F := F) v127 v129 v215 v216 (k1_pay60)
  let v311 := k1_pay73 (F := F) v127 v129 v136 v263 v264 24#32
  let v322 := k1_pay75 (F := F) v311 (k1_pay74)
  let v324 : BitVec 32 := Scalar.xori (Scalar.xori v131 v133) 466688986#32
  let v356 := k1_pay84 (F := F) v56 v131 v133 (k1_pay37)
  let v358 := k1_pay85 (F := F) v56 v131 v133 (k1_pay37)
  let v359 := k1_pay86 (F := F) v131 v133
  let v403 := k1_pay97 (F := F) v131 v324 v356 v358 v359
  let v404 := k1_pay98 (F := F) v131 v324 v356 v358 v359
  let v406 := k1_pay99 (F := F) v131 v324 v356 v358 v359
  let v451 := k1_pay110 (F := F) v131 v133 v403 v404 v406
  let v452 := k1_pay111 (F := F) v131 v133 v403 v404 v406
  let v501 := k1_pay113 (F := F) v131 v133 v324 v451 v452 (k1_pay112)
  let v508 := k1_pay114 (F := F) v501
  let v511 := k1_pay115 (F := F) v322
  let v520 := k1_pay116 (F := F) p.a p.b p.lam v322
  let v526 := k1_pay117 (F := F) p.a p.b p.ia v322 v501
  let v530 := k1_pay118 (F := F) p.a p.b p.lam p.ll v322
  let v534 := k1_pay119 (F := F) p.a p.b p.lam v322
  let v546 := k1_pay120 (F := F) p.a p.b p.lam v322
  let v548 := k1_pay122 (F := F) v546 (k1_pay121 (F := F))
  let v590 := k1_pay123 (F := F) v534
  (k1_pay14 (F := F) p.vr cst_24 s.1 v508 v511 v520 v526 v530 v548 v590, k1_pay13 (F := F) p.vr s.1 s.2 v508 v511 v520 v526 v530 v548 v590)

/-- The scan from round `r - 1` down, over a table of keys. -/
def scan1 (v56 : IVec S8x2048 32) (p : Par F) (cst_24 : F .f32) (K : S24x4.Idx → BitVec 32) (r : ℕ) (s : Scan F) : ℕ × Scan F :=
  runDown Open1 (fun j s => step1 v56 p cst_24 (keyAt K j 0) (keyAt K j 1) (keyAt K j 2) (keyAt K j 3) s) r s

theorem sge24 : ∀ j < 24, Scalar.cmpi .sge (Scalar.subi (BitVec.ofNat 32 (j + 1)) 1#32) 0#32 = 1#1 := by decide
theorem sge24_end : Scalar.cmpi .sge (Scalar.subi (BitVec.ofNat 32 0) 1#32) 0#32 = 0#1 := by decide
theorem subi24 : ∀ j < 24, Scalar.subi (BitVec.ofNat 32 (j + 1)) 1#32 = BitVec.ofNat 32 j := by decide
theorem chk1 : ∀ j < 24, k1_chk1 (BitVec.ofNat 32 j) := by
  intro j hj; unfold k1_chk1; revert j; decide
theorem off1_2 : ∀ j < 24, k1_off2 (BitVec.ofNat 32 j) = ![j, 0] := by decide
theorem off1_3 : ∀ j < 24, k1_off3 (BitVec.ofNat 32 j) = ![j, 1] := by decide
theorem off1_4 : ∀ j < 24, k1_off4 (BitVec.ofNat 32 j) = ![j, 2] := by decide
theorem off1_5 : ∀ j < 24, k1_off5 (BitVec.ofNat 32 j) = ![j, 3] := by decide

/-- The memory operations of one trip of the scan. -/
theorem while2_eq (i : grid1.Coords) (M : Memref sig .tc .smem S24x4 .i32) (hM : M.IsWhole)
    (v56 : IVec S8x2048 32) (p : Par F) (cst_24 : F .f32) (arg14 : BitVec 32) (arg15 arg16 : FVec F S8x2048 .f32) :
    cc1_while2_skel (F := F) i M hM v56 p.a p.b p.lam p.ia p.ll p.vr cst_24 arg14 arg15 arg16
      = if Scalar.andi (Scalar.cmpi .sge arg14 0#32) (Scalar.cmpf .ogt (k1_pay11 arg15) (Scalar.ofBits .f32 0x00000000#32 : F .f32)) = 1#1 then
          .op (.assume (k1_chk1 arg14) (k1_chk1.dec arg14)) fun h =>
          .op (.load M (Rect.unit (s := S24x4) (k1_off2 arg14) S1x1.size (k1_off2_inb arg14 h.down)).toLoadRect (View.loadsAt_rect (View.loads_smem_one rfl numel1_S1x1))) fun w0 =>
          .op (.load M (Rect.unit (s := S24x4) (k1_off3 arg14) S1x1.size (k1_off3_inb arg14 h.down)).toLoadRect (View.loadsAt_rect (View.loads_smem_one rfl numel1_S1x1))) fun w1 =>
          .op (.load M (Rect.unit (s := S24x4) (k1_off4 arg14) S1x1.size (k1_off4_inb arg14 h.down)).toLoadRect (View.loadsAt_rect (View.loads_smem_one rfl numel1_S1x1))) fun w2 =>
          .op (.load M (Rect.unit (s := S24x4) (k1_off5 arg14) S1x1.size (k1_off5_inb arg14 h.down)).toLoadRect (View.loadsAt_rect (View.loads_smem_one rfl numel1_S1x1))) fun w3 =>
          .op (.call (4 : (Λ₀ F).Label) ⟨i, M, hM, v56, p.a, p.b, p.lam, p.ia, p.ll, p.vr, cst_24, Scalar.subi arg14 1#32,
            (step1 v56 p cst_24 (w0 (Shape.Idx.first (numel1_S1x1.symm ▸ Nat.one_pos))) (w1 (Shape.Idx.first (numel1_S1x1.symm ▸ Nat.one_pos)))
              (w2 (Shape.Idx.first (numel1_S1x1.symm ▸ Nat.one_pos))) (w3 (Shape.Idx.first (numel1_S1x1.symm ▸ Nat.one_pos))) (arg15, arg16)).1,
            (step1 v56 p cst_24 (w0 (Shape.Idx.first (numel1_S1x1.symm ▸ Nat.one_pos))) (w1 (Shape.Idx.first (numel1_S1x1.symm ▸ Nat.one_pos)))
              (w2 (Shape.Idx.first (numel1_S1x1.symm ▸ Nat.one_pos))) (w3 (Shape.Idx.first (numel1_S1x1.symm ▸ Nat.one_pos))) (arg15, arg16)).2⟩) .ret
        else .ret (arg14, arg15, arg16) := by
  unfold cc1_while2_skel
  refine if_congr Iff.rfl ?_ rfl
  simp only [k1_part3_eq_skeleton, k1_part4_eq_skeleton, k1_part5_eq_skeleton,
    k1_part6_eq_skeleton, k1_part7_eq_skeleton, k1_part8_eq_skeleton, k1_part9_eq_skeleton, k1_part10_eq_skeleton, k1_part11_eq_skeleton, k1_part12_eq_skeleton,
    k1_part3_skel, k1_part4_skel, k1_part5_skel, k1_part6_skel, k1_part7_skel, k1_part8_skel, k1_part9_skel,
    k1_part10_skel, k1_part11_skel, k1_part12_skel, smemLoad, smemLoadElt, Prog.lift, Prog.bind_op, Prog.bind_ret, Prog.pure_eq_ret]
  rfl

/-! ## The scan's label -/

section Label

variable (c : Dev nD) (i : grid1.Coords) (M : Memref sig .tc .smem S24x4 .i32) (hM : M.IsWhole)
  (v56 : IVec S8x2048 32) (p : Par F) (cst_24 : F .f32) (K : S24x4.Idx → BitVec 32)

/-- The label's specification with `r` rounds left: holding the table of keys, it returns the flags and the draws of the scan. -/
def spec4 (r : ℕ) (s : Scan F) : sWPT 𝕄 (BitVec 32 × FVec F S8x2048 .f32 × FVec F S8x2048 .f32) := do
  sWPT.consume (owns (c : Thread nD τ) M fullShare K)
  sWPT.produce (owns (c : Thread nD τ) M fullShare K)
  pure (Scalar.subi (BitVec.ofNat 32 (scan1 v56 p cst_24 K r s).1) 1#32, (scan1 v56 p cst_24 K r s).2.1, (scan1 v56 p cst_24 K r s).2.2)

theorem spec4_apply (r : ℕ) (s : Scan F) (Q : BitVec 32 × FVec F S8x2048 .f32 × FVec F S8x2048 .f32 → sProp 𝕄) :
    spec4 c M v56 p cst_24 K r s Q
      = iprop(owns (c : Thread nD τ) M fullShare K ∗ (owns (c : Thread nD τ) M fullShare K
          -∗ Q (Scalar.subi (BitVec.ofNat 32 (scan1 v56 p cst_24 K r s).1) 1#32, (scan1 v56 p cst_24 K r s).2.1, (scan1 v56 p cst_24 K r s).2.2))) := rfl

theorem spec4_le (E : Set ℕ) :
    ∀ r, r ≤ 24 → ∀ s Q, spec4 c M v56 p cst_24 K r s Q
      ⊢ wp frame (wpE (defs₀ (F := F)) 𝒱₀ (c : Thread nD τ) (some r)) E
          (defs₀ (F := F) .tc 4 ⟨i, M, hM, v56, p.a, p.b, p.lam, p.ia, p.ll, p.vr, cst_24, Scalar.subi (BitVec.ofNat 32 r) 1#32, s.1, s.2⟩) Q := by
  intro r
  induction r with
  | zero =>
    intro hr s Q
    rw [spec4_apply]
    show _ ⊢ wp frame (wpE (defs₀ (F := F)) 𝒱₀ (c : Thread nD τ) (some 0)) E
      (cc1_while2 (F := F) i M hM v56 p.a p.b p.lam p.ia p.ll p.vr cst_24 (Scalar.subi (BitVec.ofNat 32 0) 1#32) s.1 s.2) Q
    simp only [cc1_while2_eq_skeleton]; rw [while2_eq]
    simp only [sge24_end, andi_zero]
    rw [if_neg (by decide)]
    iintro ⟨H, Hk⟩
    rw [wp_ret]; imodintro
    rw [scan1, runDown]
    iapply Hk; iexact H
  | succ r ih =>
    intro hr s Q
    have hj24 : r < 24 := by omega
    rw [spec4_apply]
    show _ ⊢ wp frame (wpE (defs₀ (F := F)) 𝒱₀ (c : Thread nD τ) (some (r + 1))) E
      (cc1_while2 (F := F) i M hM v56 p.a p.b p.lam p.ia p.ll p.vr cst_24 (Scalar.subi (BitVec.ofNat 32 (r + 1)) 1#32) s.1 s.2) Q
    simp only [cc1_while2_eq_skeleton]; rw [while2_eq]
    simp only [sge24 r hj24, andi_one]
    by_cases hP : Open1 s
    · rw [if_pos hP]
      have hrun : scan1 v56 p cst_24 K (r + 1) s
          = scan1 v56 p cst_24 K r (step1 v56 p cst_24 (keyAt K r 0) (keyAt K r 1) (keyAt K r 2) (keyAt K r 3) s) := by
        unfold scan1; rw [runDown, if_pos hP]
      rw [hrun, subi24 r hj24]
      unfold owns
      iintro ⟨⟨%f, %hf, H⟩, Hk⟩
      iapply (wp_assume 𝒱₀ (c : Thread nD τ) (some (r + 1)) E (chk1 r hj24))
      iapply (wp_load_rect 𝒱₀ (c : Thread nD τ) (some (r + 1)) E (m := M)
        (r := Rect.unit (s := S24x4) (k1_off2 (BitVec.ofNat 32 r)) S1x1.size (k1_off2_inb _ (chk1 r hj24))) (View.set_slice_subset _ _)) $$ H; iintro H
      iapply (wp_load_rect 𝒱₀ (c : Thread nD τ) (some (r + 1)) E (m := M)
        (r := Rect.unit (s := S24x4) (k1_off3 (BitVec.ofNat 32 r)) S1x1.size (k1_off3_inb _ (chk1 r hj24))) (View.set_slice_subset _ _)) $$ H; iintro H
      iapply (wp_load_rect 𝒱₀ (c : Thread nD τ) (some (r + 1)) E (m := M)
        (r := Rect.unit (s := S24x4) (k1_off4 (BitVec.ofNat 32 r)) S1x1.size (k1_off4_inb _ (chk1 r hj24))) (View.set_slice_subset _ _)) $$ H; iintro H
      iapply (wp_load_rect 𝒱₀ (c : Thread nD τ) (some (r + 1)) E (m := M)
        (r := Rect.unit (s := S24x4) (k1_off5 (BitVec.ofNat 32 r)) S1x1.size (k1_off5_inb _ (chk1 r hj24))) (View.set_slice_subset _ _)) $$ H; iintro H
      rw [read_key M f K hf _ _ r 0 hj24 (off1_2 r hj24), read_key M f K hf _ _ r 1 hj24 (off1_3 r hj24),
        read_key M f K hf _ _ r 2 hj24 (off1_4 r hj24), read_key M f K hf _ _ r 3 hj24 (off1_5 r hj24)]
      iapply (wp_call_spec 𝒱₀ (c : Thread nD τ) (some (r + 1)) E
        (spec4 c M v56 p cst_24 K r (step1 v56 p cst_24 (keyAt K r 0) (keyAt K r 1) (keyAt K r 2) (keyAt K r 3) s)) r
        (fun u hu => by cases hu; exact Nat.lt_succ_self r)
        (ih (by omega) _))
      rw [spec4_apply]
      isplitl [H]
      · unfold owns; iexists f; isplitr; · ipureintro; exact hf
        iexact H
      iintro H
      rw [wp_ret]; imodintro
      iapply Hk
      unfold owns; iexact H
    · rw [if_neg hP]
      have hrun : scan1 v56 p cst_24 K (r + 1) s = (r + 1, s) := by
        unfold scan1; rw [runDown, if_neg hP]
      rw [hrun]
      iintro ⟨H, Hk⟩
      rw [wp_ret]; imodintro
      iapply Hk; iexact H

end Label

/-! ## One block of eight rows -/

/-- What the blocks carry: the marks, the lanes' running sums, the lanes' flags (zero: still running). -/
abbrev Run (F : FTy → Type) [FloatOps F] : Type := Vec F S200x2048 .i32 × FVec F S1x2048 .f32 × FVec F S1x2048 .f32

/-- Some lane still runs. -/
abbrev Open2 (s : Run F) : Prop :=
  Scalar.cmpf .ogt (k1_pay6 s.2.2) (Scalar.ofBits .f32 0x00000000#32 : F .f32) = 1#1

/-- What the lanes bring to a block besides the state: the row numbers, the lane numbers, the active lanes, the slots, the start draws. -/
structure Fix (F : FTy → Type) [FloatOps F] where
  v6 : IVec S8x2048 32
  v5 : IVec S8x2048 32
  v44 : FVec F S8x2048 .f32
  v35 : IVec S1x2048 1
  v43 : FVec F S200x2048 .f32

/-- The draws of block `q`. -/
def draws1 (x : Fix F) (p : Par F) (cst_24 : F .f32) (K : S24x4.Idx → BitVec 32) (m q : ℕ) (done : FVec F S1x2048 .f32) : FVec F S8x2048 .f32 :=
  (scan1 (k1_pay26 x.v6 x.v5 (BitVec.ofNat 32 (8 * q))) p cst_24 K m (k1_pay27 x.v6 cst_24 (BitVec.ofNat 32 (8 * q)) done, x.v44)).2.2

/-- Block `q` at `m` rounds: the draws, the running sums, the marks. -/
def chunk1 (x : Fix F) (p : Par F) (cst_24 : F .f32) (K : S24x4.Idx → BitVec 32) (m q : ℕ) (s : Run F) : Run F :=
  let arg11 : BitVec 32 := BitVec.ofNat 32 (8 * q)
  let kk := draws1 x p cst_24 K m q s.2.2
  let v72 := k1_pay28 x.v6 x.v35 arg11 kk
  let v98 := k1_pay34 x.v6 x.v35 x.v43 arg11 s.2.1 kk
  let v100 := k1_pay35 x.v6 x.v35 arg11 s.2.1 kk
  let v101 := k1_pay36 x.v6 x.v35 arg11 s.2.1 kk
  (k1_pay9 x.v43 v72 v98 v100 v101 s.1, k1_pay8 v72 v100, k1_pay10 cst_24 s.2.2 v72 v100)

/-- The blocks from `q` on, at most `n`. -/
def loop1 (x : Fix F) (p : Par F) (cst_24 : F .f32) (K : S24x4.Idx → BitVec 32) (m n q : ℕ) (s : Run F) : ℕ × Run F :=
  runUp Open2 (chunk1 x p cst_24 K m) n q s

theorem slt201 : ∀ q < 26, Scalar.cmpi .slt (BitVec.ofNat 32 (8 * q)) 201#32 = 1#1 := by decide
theorem slt201_end : Scalar.cmpi .slt (BitVec.ofNat 32 (8 * 26)) 201#32 = 0#1 := by decide
theorem addi208 : ∀ q < 26, Scalar.addi (BitVec.ofNat 32 (8 * q)) 8#32 = BitVec.ofNat 32 (8 * (q + 1)) := by decide

section Label

variable (c : Dev nD) (i : grid1.Coords) (M : Memref sig .tc .smem S24x4 .i32) (hM : M.IsWhole) (O : Memref sig .tc .vmem S200x2048 .i32) (hO : O.IsWhole)
  (x : Fix F) (p : Par F) (cst_24 : F .f32) (K : S24x4.Idx → BitVec 32) (m : ℕ)

/-- The blocks' label's specification with at most `n` blocks from block `q`: holding the table of keys and the marks, it returns the
    sums and flags of the loop, the marks as the loop leaves them. -/
def spec3 (n q : ℕ) (s : Run F) : sWPT 𝕄 (BitVec 32 × FVec F S1x2048 .f32 × FVec F S1x2048 .f32) := do
  sWPT.consume iprop(owns (c : Thread nD τ) M fullShare K ∗ owns (c : Thread nD τ) O fullShare s.1)
  sWPT.produce iprop(owns (c : Thread nD τ) M fullShare K ∗ owns (c : Thread nD τ) O fullShare (loop1 x p cst_24 K m n q s).2.1)
  pure (BitVec.ofNat 32 (8 * (loop1 x p cst_24 K m n q s).1), (loop1 x p cst_24 K m n q s).2.2.1, (loop1 x p cst_24 K m n q s).2.2.2)

theorem spec3_apply (n q : ℕ) (s : Run F) (Q : BitVec 32 × FVec F S1x2048 .f32 × FVec F S1x2048 .f32 → sProp 𝕄) :
    spec3 c M O x p cst_24 K m n q s Q
      = iprop((owns (c : Thread nD τ) M fullShare K ∗ owns (c : Thread nD τ) O fullShare s.1)
        ∗ ((owns (c : Thread nD τ) M fullShare K ∗ owns (c : Thread nD τ) O fullShare (loop1 x p cst_24 K m n q s).2.1)
          -∗ Q (BitVec.ofNat 32 (8 * (loop1 x p cst_24 K m n q s).1), (loop1 x p cst_24 K m n q s).2.2.1, (loop1 x p cst_24 K m n q s).2.2.2))) := rfl

set_option maxHeartbeats 4000000 in
theorem spec3_le (hm : m ≤ 24) (E : Set ℕ) :
    ∀ n q, q + n = 26 → ∀ s Q, spec3 c M O x p cst_24 K m n q s Q
      ⊢ wp frame (wpE (defs₀ (F := F)) 𝒱₀ (c : Thread nD τ) (some (25 + n))) E
          (defs₀ (F := F) .tc 3 ⟨i, x.v6, x.v5, cst_24, BitVec.ofNat 32 m, x.v44, M, hM, p.a, p.b, p.lam, p.ia, p.ll, p.vr, x.v35, x.v43, O, hO,
            BitVec.ofNat 32 (8 * q), s.2.1, s.2.2⟩) Q := by
  intro n
  induction n with
  | zero =>
    intro q hq s Q
    rw [spec3_apply]
    show _ ⊢ wp frame (wpE (defs₀ (F := F)) 𝒱₀ (c : Thread nD τ) (some (25 + 0))) E
      (cc1_while1 (F := F) i x.v6 x.v5 cst_24 (BitVec.ofNat 32 m) x.v44 M hM p.a p.b p.lam p.ia p.ll p.vr x.v35 x.v43 O hO
            (BitVec.ofNat 32 (8 * q)) s.2.1 s.2.2) Q
    simp only [cc1_while1_eq_skeleton]; unfold cc1_while1_skel
    obtain rfl : q = 26 := by omega
    simp only [slt201_end, andi_zero]
    rw [if_neg (by decide)]
    iintro ⟨H, Hk⟩
    simp only [Prog.pure_eq_ret]
    rw [wp_ret]; imodintro
    rw [loop1, runUp]
    iapply Hk; iexact H
  | succ n ih =>
    intro q hq s Q
    have hq26 : q < 26 := by omega
    rw [spec3_apply]
    show _ ⊢ wp frame (wpE (defs₀ (F := F)) 𝒱₀ (c : Thread nD τ) (some (25 + (n + 1)))) E
      (cc1_while1 (F := F) i x.v6 x.v5 cst_24 (BitVec.ofNat 32 m) x.v44 M hM p.a p.b p.lam p.ia p.ll p.vr x.v35 x.v43 O hO
            (BitVec.ofNat 32 (8 * q)) s.2.1 s.2.2) Q
    simp only [cc1_while1_eq_skeleton]; unfold cc1_while1_skel
    simp only [slt201 q hq26, andi_one]
    by_cases hP : Open2 s
    · rw [if_pos hP]
      have hrun : loop1 x p cst_24 K m (n + 1) q s = loop1 x p cst_24 K m n (q + 1) (chunk1 x p cst_24 K m q s) := by
        unfold loop1; rw [runUp, if_pos hP]
      rw [hrun]
      simp only [k1_part2_eq_skeleton, k1_part2_skel, Prog.lift, Prog.bind_op, Prog.bind_ret, Prog.pure_eq_ret]
      iintro ⟨⟨HM, HO⟩, Hk⟩
      iapply (wp_call_spec 𝒱₀ (c : Thread nD τ) (some (25 + (n + 1))) E
        (spec4 c M (k1_pay26 x.v6 x.v5 (BitVec.ofNat 32 (8 * q))) p cst_24 K m (k1_pay27 x.v6 cst_24 (BitVec.ofNat 32 (8 * q)) s.2.2, x.v44)) m
        (fun u hu => by cases hu; show m < 25 + (n + 1); omega)
        (spec4_le c i M hM _ p cst_24 K E m hm _))
      rw [spec4_apply]
      isplitl [HM]; · iexact HM
      iintro HM
      unfold owns
      icases HO with ⟨%g, %hg, HO⟩
      iapply (wp_load_rect 𝒱₀ (c : Thread nD τ) (some (25 + (n + 1))) E (m := O)
        (r := Rect.unit (s := S200x2048) ![0, 0] S200x2048.size inb_S200x2048_S200x2048_0_0) (View.set_slice_subset _ _)) $$ HO; iintro HO
      iapply (wp_load_rect 𝒱₀ (c : Thread nD τ) (some (25 + (n + 1))) E (m := O)
        (r := Rect.unit (s := S200x2048) ![0, 0] S200x2048.size inb_S200x2048_S200x2048_0_0) (View.set_slice_subset _ _)) $$ HO; iintro HO
      iapply (wp_store 𝒱₀ (c : Thread nD τ) (some (25 + (n + 1))) E (m := O)
        (r := Rect.unit (s := S200x2048) ![0, 0] S200x2048.size inb_S200x2048_S200x2048_0_0) (Mk := Finset.univ) (View.set_slice_subset _ _)) $$ HO; iintro HO
      rw [(read_full (Elt F) O g inb_S200x2048_S200x2048_0_0).trans hg, addi208 q hq26]
      iapply (wp_call_spec 𝒱₀ (c : Thread nD τ) (some (25 + (n + 1))) E
        (spec3 c M O x p cst_24 K m n (q + 1) (chunk1 x p cst_24 K m q s)) (25 + n)
        (fun u hu => by cases hu; show 25 + n < 25 + (n + 1); omega)
        (ih (q + 1) (by omega) _))
      rw [spec3_apply]
      isplitl [HM HO]
      · unfold owns
        isplitl [HM]; · iexact HM
        iexists _; isplitr; swap; · iexact HO
        ipureintro
        exact read_store_full (Elt F) O g inb_S200x2048_S200x2048_0_0 _
      iintro H
      rw [wp_ret]; imodintro
      iapply Hk
      unfold owns; iexact H
    · rw [if_neg hP]
      have hrun : loop1 x p cst_24 K m (n + 1) q s = (q, s) := by
        unfold loop1; rw [runUp, if_neg hP]
      rw [hrun]
      iintro ⟨H, Hk⟩
      simp only [Prog.pure_eq_ret]
      rw [wp_ret]; imodintro
      iapply Hk; iexact H

end Label

/-! ## The counted loop over the first kernel's words, and the body -/

/-- The largest of the first `n` round counts. -/
def maxTo (g : ℕ → ℕ) : ℕ → ℕ
  | 0 => 0
  | n + 1 => max (maxTo g n) (g n)

theorem maxTo_le (g : ℕ → ℕ) (hg : ∀ n, g n ≤ 24) (n : ℕ) : maxTo g n ≤ 24 := by
  induction n with
  | zero => exact Nat.zero_le _
  | succ n ih => exact max_le ih (hg n)

/-- The array of round counts. -/
def words (g : ℕ → ℕ) : S32x1x1.Idx → BitVec 32 := fun x => BitVec.ofNat 32 (g (x 0).val)

theorem off1_1 : ∀ k : Fin k1_t1_loop.trips, k1_off1 k = ![k.val, 0, 0] := by decide

omit [FloatOps F] in
theorem read_word (M : Memref sig .tc .smem S32x1x1 .i32) (f : M.view.ty.Contents (Elt F)) (g : ℕ → ℕ)
    (hf : M.view.read (Elt F) f = words g) (k : Fin k1_t1_loop.trips) (hoff) (x) :
    (M.access (Rect.unit (s := S32x1x1) (k1_off1 k) S1x1x1.size hoff)).read (Elt F) f x = BitVec.ofNat 32 (g k.val) := by
  show M.view.read (Elt F) f ((Rect.unit (s := S32x1x1) _ S1x1x1.size hoff).emb x) = _
  rw [hf]
  unfold words
  have hx : (x 0).val = 0 := Nat.lt_one_iff.mp (x 0).isLt
  rw [Rect.emb_apply, hx]
  show BitVec.ofNat 32 (g (k1_off1 k 0 + 1 * 0)) = _
  rw [off1_1]; rfl

/-- The block's fixed parts. -/
def fix1 (i : grid1.Coords) (act : Vec F S1x2048 .i32) : Fix F :=
  ⟨iota .tc S8x2048 32 [0] iota_S8x2048_d0_w32, k1_pay15 i, k1_pay3 (F := F), k1_pay23 act, k1_pay2 (F := F)⟩

/-- The lanes' parameters from their blocks. -/
def par1 (B : Blk6 F) : Par F :=
  ⟨k1_pay18 (B 1), k1_pay19 (B 2), k1_pay17 (B 0), k1_pay20 (B 3), k1_pay22 (B 5), k1_pay21 (B 4)⟩

/-- The block of marks the second kernel's body leaves. -/
def marks (i : grid1.Coords) (B : Blk6 F) (act : Vec F S1x2048 .i32) (K : S24x4.Idx → BitVec 32) (m : ℕ) : Vec F S200x2048 .i32 :=
  (loop1 (fix1 i act) (par1 B) (Scalar.ofBits .f32 0x3F800000#32) K m 26 0
    (k1_pay1 0#1, k1_pay4 (F := F), k1_pay5 (F := F) (k1_pay23 act))).2.1

section Body

variable (c : Dev nD) (i : grid1.Coords) (A1 : Memref sig .tc .vmem S1x2048 .f32) (h1 : A1.IsWhole) (A2 : Memref sig .tc .vmem S1x2048 .f32) (h2 : A2.IsWhole)
  (A3 : Memref sig .tc .vmem S1x2048 .f32) (h3 : A3.IsWhole) (A4 : Memref sig .tc .vmem S1x2048 .f32) (h4 : A4.IsWhole)
  (A5 : Memref sig .tc .vmem S1x2048 .f32) (h5 : A5.IsWhole) (A6 : Memref sig .tc .vmem S1x2048 .f32) (h6 : A6.IsWhole)
  (A7 : Memref sig .tc .vmem S1x2048 .i32) (h7 : A7.IsWhole)
  (A8 : Memref sig .tc .smem S24x4 .i32) (h8 : A8.IsWhole) (A9 : Memref sig .tc .smem S32x1x1 .i32) (h9 : A9.IsWhole)
  (A10 : Memref sig .tc .vmem S200x2048 .i32) (h10 : A10.IsWhole)
  (B : Blk6 F) (act : Vec F S1x2048 .i32) (K : S24x4.Idx → BitVec 32) (g : ℕ → ℕ) (hg : ∀ n, g n ≤ 24)

/-- The counted loop's invariant before trip `k`: the words held, the carried value the largest so far. -/
def inv1 (k : ℕ) (acc : BitVec 32) : sProp 𝕄 :=
  iprop(⌜acc = BitVec.ofNat 32 (maxTo g k)⌝ ∗ owns (c : Thread nD τ) A9 fullShare (words g))

include hg in
theorem trip1 (E : Set ℕ) (k : Fin k1_t1_loop.trips) (acc : BitVec 32) :
    inv1 (F := F) c A9 g k acc ⊢ wp frame (wpE (defs₀ (F := F)) 𝒱₀ (c : Thread nD τ) none) E
      (k1_t1_body (F := F) i A1 h1 A2 h2 A3 h3 A4 h4 A5 h5 A6 h6 A7 h7 A8 h8 A9 h9 A10 h10 k acc) (inv1 (F := F) c A9 g (k.val + 1)) := by
  unfold inv1 k1_t1_body owns
  simp only [smemLoad, smemLoadElt, Prog.lift, Prog.bind_op, Prog.bind_ret, Prog.pure_eq_ret]
  iintro ⟨%hacc, %f, %hf, H⟩
  iapply (wp_load_rect 𝒱₀ (c : Thread nD τ) none E (m := A9)
    (r := Rect.unit (s := S32x1x1) (k1_off1 k) S1x1x1.size (k1_off1_inb k)) (View.set_slice_subset _ _)) $$ H; iintro H
  rw [read_word A9 f g hf k]
  rw [wp_ret]; imodintro
  isplitr
  · ipureintro
    rw [hacc]
    exact maxsi24 _ (maxTo_le g hg _) _ (hg _)
  · iexists f; isplitr; · ipureintro; exact hf
    iexact H

set_option maxHeartbeats 4000000 in
include hg in
/-- The second kernel's body: from the blocks, the table of keys, the round counts and the block of marks at anything, to the same with
    the marks written. -/
theorem body1 (E : Set ℕ) (Q : PUnit → sProp 𝕄) :
    iprop(owns (c : Thread nD τ) A1 fullShare (B 0) ∗ owns (c : Thread nD τ) A2 fullShare (B 1) ∗ owns (c : Thread nD τ) A3 fullShare (B 2)
        ∗ owns (c : Thread nD τ) A4 fullShare (B 3) ∗ owns (c : Thread nD τ) A5 fullShare (B 4) ∗ owns (c : Thread nD τ) A6 fullShare (B 5)
        ∗ owns (c : Thread nD τ) A7 fullShare act ∗ owns (c : Thread nD τ) A8 fullShare K ∗ owns (c : Thread nD τ) A9 fullShare (words g)
        ∗ (∃ d, owns (c : Thread nD τ) A10 fullShare d))
      ⊢ iprop(((owns (c : Thread nD τ) A1 fullShare (B 0) ∗ owns (c : Thread nD τ) A2 fullShare (B 1) ∗ owns (c : Thread nD τ) A3 fullShare (B 2)
          ∗ owns (c : Thread nD τ) A4 fullShare (B 3) ∗ owns (c : Thread nD τ) A5 fullShare (B 4) ∗ owns (c : Thread nD τ) A6 fullShare (B 5)
          ∗ owns (c : Thread nD τ) A7 fullShare act ∗ owns (c : Thread nD τ) A8 fullShare K ∗ owns (c : Thread nD τ) A9 fullShare (words g)
          ∗ owns (c : Thread nD τ) A10 fullShare (marks i B act K (maxTo g k1_t1_loop.trips))) -∗ Q ⟨⟩)
        -∗ wp frame (wpE (defs₀ (F := F)) 𝒱₀ (c : Thread nD τ) none) E
            (cc1__lambda_ (F := F) i A1 h1 A2 h2 A3 h3 A4 h4 A5 h5 A6 h6 A7 h7 A8 h8 A9 h9 A10 h10) Q) := by
  simp only [cc1__lambda__eq_skeleton]
  unfold cc1__lambda__skel
  simp only [k1_part1_eq_skeleton, k1_part1_skel, bind_assoc, Prog.lift, Prog.bind_op, Prog.bind_ret, Prog.pure_eq_ret]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, H8, H9, %d, %f10, %e10, H10⟩ Hk
  iapply (Scf.wp_for_bind frame (wpE (defs₀ (F := F)) 𝒱₀ (c : Thread nD τ) none) E k1_t1_loop.lb k1_t1_loop.ub k1_t1_loop.st k1_t1_ok _ _
    (inv1 (F := F) c A9 g) (trip1 c i A1 h1 A2 h2 A3 h3 A4 h4 A5 h5 A6 h6 A7 h7 A8 h8 A9 h9 A10 h10 g hg E)) $$ [H9]
  · unfold inv1 owns
    isplitr; · ipureintro; rfl
    iexact H9
  iintro %acc Hinv
  unfold inv1
  icases Hinv with ⟨%hacc, H9⟩
  iapply (wp_load_rect 𝒱₀ (c : Thread nD τ) none E (m := A1) (r := Rect.unit (s := S1x2048) ![0, 0] S1x2048.size inb_S1x2048_S1x2048_0_0) (View.set_slice_subset _ _)) $$ H1; iintro H1
  iapply (wp_load_rect 𝒱₀ (c : Thread nD τ) none E (m := A2) (r := Rect.unit (s := S1x2048) ![0, 0] S1x2048.size inb_S1x2048_S1x2048_0_0) (View.set_slice_subset _ _)) $$ H2; iintro H2
  iapply (wp_load_rect 𝒱₀ (c : Thread nD τ) none E (m := A3) (r := Rect.unit (s := S1x2048) ![0, 0] S1x2048.size inb_S1x2048_S1x2048_0_0) (View.set_slice_subset _ _)) $$ H3; iintro H3
  iapply (wp_load_rect 𝒱₀ (c : Thread nD τ) none E (m := A4) (r := Rect.unit (s := S1x2048) ![0, 0] S1x2048.size inb_S1x2048_S1x2048_0_0) (View.set_slice_subset _ _)) $$ H4; iintro H4
  iapply (wp_load_rect 𝒱₀ (c : Thread nD τ) none E (m := A5) (r := Rect.unit (s := S1x2048) ![0, 0] S1x2048.size inb_S1x2048_S1x2048_0_0) (View.set_slice_subset _ _)) $$ H5; iintro H5
  iapply (wp_load_rect 𝒱₀ (c : Thread nD τ) none E (m := A6) (r := Rect.unit (s := S1x2048) ![0, 0] S1x2048.size inb_S1x2048_S1x2048_0_0) (View.set_slice_subset _ _)) $$ H6; iintro H6
  iapply (wp_load_rect 𝒱₀ (c : Thread nD τ) none E (m := A7) (r := Rect.unit (s := S1x2048) ![0, 0] S1x2048.size inb_S1x2048_S1x2048_0_0) (View.set_slice_subset _ _)) $$ H7; iintro H7
  have r1 := (read_full (Elt F) A1 f1 inb_S1x2048_S1x2048_0_0).trans e1
  have r2 := (read_full (Elt F) A2 f2 inb_S1x2048_S1x2048_0_0).trans e2
  have r3 := (read_full (Elt F) A3 f3 inb_S1x2048_S1x2048_0_0).trans e3
  have r4 := (read_full (Elt F) A4 f4 inb_S1x2048_S1x2048_0_0).trans e4
  have r5 := (read_full (Elt F) A5 f5 inb_S1x2048_S1x2048_0_0).trans e5
  have r6 := (read_full (Elt F) A6 f6 inb_S1x2048_S1x2048_0_0).trans e6
  have r7 := (read_full (Elt F) A7 f7 inb_S1x2048_S1x2048_0_0).trans e7
  rw [r1, r2, r3, r4, r5, r6, r7]
  iapply (wp_load_rect 𝒱₀ (c : Thread nD τ) none E (m := A10) (r := Rect.unit (s := S200x2048) ![0, 0] S200x2048.size inb_S200x2048_S200x2048_0_0) (View.set_slice_subset _ _)) $$ H10; iintro H10
  iapply (wp_store 𝒱₀ (c : Thread nD τ) none E (m := A10) (r := Rect.unit (s := S200x2048) ![0, 0] S200x2048.size inb_S200x2048_S200x2048_0_0) (Mk := Finset.univ) (View.set_slice_subset _ _)) $$ H10; iintro H10
  rw [hacc]
  iapply (wp_call_spec 𝒱₀ (c : Thread nD τ) none E
    (spec3 c A8 A10 (fix1 i act) (par1 B) (Scalar.ofBits .f32 0x3F800000#32) K (maxTo g k1_t1_loop.trips) 26 0
      (k1_pay1 0#1, k1_pay4 (F := F), k1_pay5 (F := F) (k1_pay23 act))) (25 + 26)
    (fun u hu => by cases hu)
    (spec3_le c i A8 h8 A10 h10 (fix1 i act) (par1 B) _ K _ (maxTo_le g hg _) E 26 0 rfl _))
  rw [spec3_apply]
  isplitl [H8 H10]
  · unfold owns
    isplitl [H8]; · iexact H8
    iexists _; isplitr; swap; · iexact H10
    ipureintro
    exact read_store_full (Elt F) A10 f10 inb_S200x2048_S200x2048_0_0 _
  unfold owns
  iintro ⟨H8, H10⟩
  rw [wp_ret]; imodintro
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  isplitl [H8]; · iexact H8
  isplitl [H9]; · iexact H9
  iexact H10

end Body

end Cert.Proof.KI

end
-- ==== Proof.KI.Run.lean ====
/-
  The program's run at any float instance: the proof data of the two kernel regions, their bodies' obligations, the regions as
  segments and the launch. Every final state has the argument as launched, every counter at zero, and the result's buffer at the
  last valuation's contents.
-/
module

public import proofs.«01_k».proof.Proof.KI.Body1
public import proofs.«01_k».proof.Proof.Gen.KernelIdeal.Regions
public import Idealize.ShloMosaic.Lib.Pipeline.FrameBody
public import Idealize.ShloMosaic.Lib.Pipeline.RegionArraysS
public import Idealize.ShloMosaic.Lib.Pipeline.Value
public import Idealize.ShloMosaic.Lib.Pipeline.ValueKit

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

/-! ## What the windows' blocks hold, off a valuation -/

variable (V : Valuation τ sig (Elt F))

/-- Window `w`'s block at point `t` of the first region's grid. -/
abbrev blkA (t : Fin (cfg0 (F := F)).N) (w : Fin (cfg0 (F := F)).W) : (((cfg0 (F := F)).win w).xblock (grid0.coords t)).Idx → Elt F ((cfg0 (F := F)).win w).elt :=
  (((cfg0 (F := F)).win w).blk t).view.read (Elt F) (V (Proc.devRef .tc (Pipeline.arrRef Cert.KernelIdeal.spec0 w)))
/-- Window `w`'s block at point `t` of the second region's grid. -/
abbrev blkB (t : Fin (cfg1 (F := F)).N) (w : Fin (cfg1 (F := F)).W) : (((cfg1 (F := F)).win w).xblock (grid1.coords t)).Idx → Elt F ((cfg1 (F := F)).win w).elt :=
  (((cfg1 (F := F)).win w).blk t).view.read (Elt F) (V (Proc.devRef .tc (Pipeline.arrRef spec1 w)))

/-- The six blocks of lane parameters at a point. -/
def sixA (t : Fin (cfg0 (F := F)).N) : Blk6 F := ![blkA V t 0, blkA V t 1, blkA V t 2, blkA V t 3, blkA V t 4, blkA V t 5]
def sixB (t : Fin (cfg1 (F := F)).N) : Blk6 F := ![blkB V t 0, blkB V t 1, blkB V t 2, blkB V t 3, blkB V t 4, blkB V t 5]

/-- The rounds block `n` of the first region needs. -/
def need (n : ℕ) : ℕ := if h : n < (cfg0 (F := F)).N then maxRounds (grid0.coords ⟨n, h⟩) (sixA V ⟨n, h⟩) (blkA V ⟨n, h⟩ 6) k0_t1_loop.trips else 0

theorem need_le (n : ℕ) : need V n ≤ 24 := by
  unfold need; split
  · exact maxRounds_le _ _ _ _
  · exact Nat.zero_le _

/-! ## The proof data -/

/-- The first region: the arrays as found; after the body every input's block, and the block's round count. -/
def dat0 (c : Dev nD) : Dat τ (Elt F) Unit ℕ (UR sig nD τ) ℕ (cfg0 (F := F)) c where
  A w := V (Proc.devRef .tc (Pipeline.arrRef Cert.KernelIdeal.spec0 w))
  after w t := match w with
    | ⟨0, _⟩ => blkA V t 0 | ⟨1, _⟩ => blkA V t 1 | ⟨2, _⟩ => blkA V t 2 | ⟨3, _⟩ => blkA V t 3 | ⟨4, _⟩ => blkA V t 4
    | ⟨5, _⟩ => blkA V t 5 | ⟨6, _⟩ => blkA V t 6
    | ⟨7, _⟩ => fun _ => BitVec.ofNat 32 (maxRounds (grid0.coords t) (sixA V t) (blkA V t 6) k0_t1_loop.trips)
  Φ _ := Pipeline.scopedRest (Ix := Unit) (Name := ℕ) (U := UR sig nD τ) (Lvl := ℕ) (Val := Elt F) Cert.KernelIdeal.spec0 c
  q _ := fullShare
  owed _ := 0

/-- The second region, at the round counts `g`: after the body every input's block, and the block of marks. -/
def dat1 (g : ℕ → ℕ) (c : Dev nD) : Dat τ (Elt F) Unit ℕ (UR sig nD τ) ℕ (cfg1 (F := F)) c where
  A w := V (Proc.devRef .tc (Pipeline.arrRef spec1 w))
  after w t := match w with
    | ⟨0, _⟩ => blkB V t 0 | ⟨1, _⟩ => blkB V t 1 | ⟨2, _⟩ => blkB V t 2 | ⟨3, _⟩ => blkB V t 3 | ⟨4, _⟩ => blkB V t 4
    | ⟨5, _⟩ => blkB V t 5 | ⟨6, _⟩ => blkB V t 6 | ⟨7, _⟩ => blkB V t 7 | ⟨8, _⟩ => blkB V t 8
    | ⟨9, _⟩ => marks (grid1.coords t) (sixB V t) (blkB V t 6) (blkB V t 7) (maxTo g k1_t1_loop.trips)
  Φ _ := Pipeline.scopedRest (Ix := Unit) (Name := ℕ) (U := UR sig nD τ) (Lvl := ℕ) (Val := Elt F) spec1 c
  q _ := fullShare
  owed _ := 0

/-! What an input window's staging buffer holds when the body runs: its block. -/

theorem beforeA0 (c : Dev nD) (t : Fin (cfg0 (F := F)).N) (d) : (dat0 V c).before 0 t d = blkA V t 0 :=
  Dat.before_in_eq_fetched _ _ rfl (fun _ => rfl) (fun _ _ _ => rfl) (fun _ => rfl) _ _
theorem beforeA1 (c : Dev nD) (t : Fin (cfg0 (F := F)).N) (d) : (dat0 V c).before 1 t d = blkA V t 1 :=
  Dat.before_in_eq_fetched _ _ rfl (fun _ => rfl) (fun _ _ _ => rfl) (fun _ => rfl) _ _
theorem beforeA2 (c : Dev nD) (t : Fin (cfg0 (F := F)).N) (d) : (dat0 V c).before 2 t d = blkA V t 2 :=
  Dat.before_in_eq_fetched _ _ rfl (fun _ => rfl) (fun _ _ _ => rfl) (fun _ => rfl) _ _
theorem beforeA3 (c : Dev nD) (t : Fin (cfg0 (F := F)).N) (d) : (dat0 V c).before 3 t d = blkA V t 3 :=
  Dat.before_in_eq_fetched _ _ rfl (fun _ => rfl) (fun _ _ _ => rfl) (fun _ => rfl) _ _
theorem beforeA4 (c : Dev nD) (t : Fin (cfg0 (F := F)).N) (d) : (dat0 V c).before 4 t d = blkA V t 4 :=
  Dat.before_in_eq_fetched _ _ rfl (fun _ => rfl) (fun _ _ _ => rfl) (fun _ => rfl) _ _
theorem beforeA5 (c : Dev nD) (t : Fin (cfg0 (F := F)).N) (d) : (dat0 V c).before 5 t d = blkA V t 5 :=
  Dat.before_in_eq_fetched _ _ rfl (fun _ => rfl) (fun _ _ _ => rfl) (fun _ => rfl) _ _
theorem beforeA6 (c : Dev nD) (t : Fin (cfg0 (F := F)).N) (d) : (dat0 V c).before 6 t d = blkA V t 6 :=
  Dat.before_in_eq_fetched _ _ rfl (fun _ => rfl) (fun _ _ _ => rfl) (fun _ => rfl) _ _
theorem beforeB0 (g : ℕ → ℕ) (c : Dev nD) (t : Fin (cfg1 (F := F)).N) (d) : (dat1 V g c).before 0 t d = blkB V t 0 :=
  Dat.before_in_eq_fetched _ _ rfl (fun _ => rfl) (fun _ _ _ => rfl) (fun _ => rfl) _ _
theorem beforeB1 (g : ℕ → ℕ) (c : Dev nD) (t : Fin (cfg1 (F := F)).N) (d) : (dat1 V g c).before 1 t d = blkB V t 1 :=
  Dat.before_in_eq_fetched _ _ rfl (fun _ => rfl) (fun _ _ _ => rfl) (fun _ => rfl) _ _
theorem beforeB2 (g : ℕ → ℕ) (c : Dev nD) (t : Fin (cfg1 (F := F)).N) (d) : (dat1 V g c).before 2 t d = blkB V t 2 :=
  Dat.before_in_eq_fetched _ _ rfl (fun _ => rfl) (fun _ _ _ => rfl) (fun _ => rfl) _ _
theorem beforeB3 (g : ℕ → ℕ) (c : Dev nD) (t : Fin (cfg1 (F := F)).N) (d) : (dat1 V g c).before 3 t d = blkB V t 3 :=
  Dat.before_in_eq_fetched _ _ rfl (fun _ => rfl) (fun _ _ _ => rfl) (fun _ => rfl) _ _
theorem beforeB4 (g : ℕ → ℕ) (c : Dev nD) (t : Fin (cfg1 (F := F)).N) (d) : (dat1 V g c).before 4 t d = blkB V t 4 :=
  Dat.before_in_eq_fetched _ _ rfl (fun _ => rfl) (fun _ _ _ => rfl) (fun _ => rfl) _ _
theorem beforeB5 (g : ℕ → ℕ) (c : Dev nD) (t : Fin (cfg1 (F := F)).N) (d) : (dat1 V g c).before 5 t d = blkB V t 5 :=
  Dat.before_in_eq_fetched _ _ rfl (fun _ => rfl) (fun _ _ _ => rfl) (fun _ => rfl) _ _
theorem beforeB6 (g : ℕ → ℕ) (c : Dev nD) (t : Fin (cfg1 (F := F)).N) (d) : (dat1 V g c).before 6 t d = blkB V t 6 :=
  Dat.before_in_eq_fetched _ _ rfl (fun _ => rfl) (fun _ _ _ => rfl) (fun _ => rfl) _ _
theorem beforeB7 (g : ℕ → ℕ) (c : Dev nD) (t : Fin (cfg1 (F := F)).N) (d) : (dat1 V g c).before 7 t d = blkB V t 7 :=
  Dat.before_in_eq_fetched _ _ rfl (fun _ => rfl) (fun _ _ _ => rfl) (fun _ => rfl) _ _
theorem beforeB8 (g : ℕ → ℕ) (c : Dev nD) (t : Fin (cfg1 (F := F)).N) (d) : (dat1 V g c).before 8 t d = blkB V t 8 :=
  Dat.before_in_eq_fetched _ _ rfl (fun _ => rfl) (fun _ _ _ => rfl) (fun _ => rfl) _ _

/-! ## The bodies' obligations -/

set_option maxHeartbeats 4000000 in
theorem point0 (c : Dev nD) (t : Fin (cfg0 (F := F)).N) (P : sProp 𝕄) :
    iprop(P ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d)) ∗ (∃ d, owns (c : Thread nD τ) (st0_6 t) fullShare ((dat0 V c).before 6 t d)) ∗ (∃ d, owns (c : Thread nD τ) (st0_7 t) fullShare ((dat0 V c).before 7 t d)))
      ⊢ wp frame (wpE (defs₀ (F := F)) 𝒱₀ (c : Thread nD τ) none) Set.univ (bodyAt0 (F := F) t) (fun _ =>
        iprop(P ∗ owns (c : Thread nD τ) (st0_0 t) fullShare (blkA V t 0) ∗ owns (c : Thread nD τ) (st0_1 t) fullShare (blkA V t 1) ∗ owns (c : Thread nD τ) (st0_2 t) fullShare (blkA V t 2) ∗ owns (c : Thread nD τ) (st0_3 t) fullShare (blkA V t 3) ∗ owns (c : Thread nD τ) (st0_4 t) fullShare (blkA V t 4) ∗ owns (c : Thread nD τ) (st0_5 t) fullShare (blkA V t 5) ∗ owns (c : Thread nD τ) (st0_6 t) fullShare (blkA V t 6) ∗ owns (c : Thread nD τ) (st0_7 t) fullShare (fun _ => BitVec.ofNat 32 (maxRounds (grid0.coords t) (sixA V t) (blkA V t 6) k0_t1_loop.trips)))) := by
  iintro ⟨HP, ⟨%d0, H0⟩, ⟨%d1, H1⟩, ⟨%d2, H2⟩, ⟨%d3, H3⟩, ⟨%d4, H4⟩, ⟨%d5, H5⟩, ⟨%d6, H6⟩, ⟨%d7, H7⟩⟩
  rw [beforeA0, beforeA1, beforeA2, beforeA3, beforeA4, beforeA5, beforeA6]
  iapply (body0 c (grid0.coords t) _ _ _ _ _ _ _ _ _ _ _ _ _ _ _ _ (sixA V t) (blkA V t 6) Set.univ _) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  iintro ⟨H0, H1, H2, H3, H4, H5, H6, H7⟩
  isplitl [HP]; · iexact HP
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
theorem obligation0 (c : Dev nD) : BodyObligation (dat0 V c) (defs₀ (F := F)) 𝒱₀ () Set.univ := fun t => by
  rw [bigSep_W0, bigSep_W0]
  rw [show (dat0 V c).Φ t.succ = (dat0 V c).Φ t.castSucc from rfl, show (dat0 V c).owesAt () t.succ = (dat0 V c).owesAt () t.castSucc from rfl]
  have h := point0 V c t iprop((dat0 V c).Φ t.castSucc ∗ (dat0 V c).owesAt () t.castSucc)
  refine BIBase.Entails.trans (BIBase.Entails.trans ?_ h) ((wp _ _ _ _).mono fun _ => ?_)
  · iintro ⟨HΦ, Howes, H⟩
    isplitl [HΦ Howes]
    · isplitl [HΦ] <;> iassumption
    iexact H
  · show (_ : sProp 𝕄) ⊢ _
    iintro ⟨⟨HΦ, Howes⟩, H⟩
    isplitl [HΦ]; · iexact HΦ
    isplitl [Howes]; · iexact Howes
    iexact H

set_option maxHeartbeats 4000000 in
theorem point1 (g : ℕ → ℕ) (hg : ∀ n, g n ≤ 24) (hV : ∀ t, blkB V t 8 = words g) (c : Dev nD) (t : Fin (cfg1 (F := F)).N) (P : sProp 𝕄) :
    iprop(P ∗ (∃ d, owns (c : Thread nD τ) (st1_0 t) fullShare ((dat1 V g c).before 0 t d)) ∗ (∃ d, owns (c : Thread nD τ) (st1_1 t) fullShare ((dat1 V g c).before 1 t d)) ∗ (∃ d, owns (c : Thread nD τ) (st1_2 t) fullShare ((dat1 V g c).before 2 t d)) ∗ (∃ d, owns (c : Thread nD τ) (st1_3 t) fullShare ((dat1 V g c).before 3 t d)) ∗ (∃ d, owns (c : Thread nD τ) (st1_4 t) fullShare ((dat1 V g c).before 4 t d)) ∗ (∃ d, owns (c : Thread nD τ) (st1_5 t) fullShare ((dat1 V g c).before 5 t d)) ∗ (∃ d, owns (c : Thread nD τ) (st1_6 t) fullShare ((dat1 V g c).before 6 t d)) ∗ (∃ d, owns (c : Thread nD τ) (st1_7 t) fullShare ((dat1 V g c).before 7 t d)) ∗ (∃ d, owns (c : Thread nD τ) (st1_8 t) fullShare ((dat1 V g c).before 8 t d)) ∗ (∃ d, owns (c : Thread nD τ) (st1_9 t) fullShare ((dat1 V g c).before 9 t d)))
      ⊢ wp frame (wpE (defs₀ (F := F)) 𝒱₀ (c : Thread nD τ) none) Set.univ (bodyAt1 (F := F) t) (fun _ =>
        iprop(P ∗ owns (c : Thread nD τ) (st1_0 t) fullShare (blkB V t 0) ∗ owns (c : Thread nD τ) (st1_1 t) fullShare (blkB V t 1) ∗ owns (c : Thread nD τ) (st1_2 t) fullShare (blkB V t 2) ∗ owns (c : Thread nD τ) (st1_3 t) fullShare (blkB V t 3) ∗ owns (c : Thread nD τ) (st1_4 t) fullShare (blkB V t 4) ∗ owns (c : Thread nD τ) (st1_5 t) fullShare (blkB V t 5) ∗ owns (c : Thread nD τ) (st1_6 t) fullShare (blkB V t 6) ∗ owns (c : Thread nD τ) (st1_7 t) fullShare (blkB V t 7) ∗ owns (c : Thread nD τ) (st1_8 t) fullShare (words g) ∗ owns (c : Thread nD τ) (st1_9 t) fullShare (marks (grid1.coords t) (sixB V t) (blkB V t 6) (blkB V t 7) (maxTo g k1_t1_loop.trips)))) := by
  iintro ⟨HP, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [beforeB0, beforeB1, beforeB2, beforeB3, beforeB4, beforeB5, beforeB6, beforeB7, show (dat1 V g c).before 8 t d8 = words g from (beforeB8 V g c t d8).trans (hV t)]
  iapply (body1 c (grid1.coords t) _ _ _ _ _ _ _ _ _ _ _ _ _ _ _ _ _ _ _ _ (sixB V t) (blkB V t 6) (blkB V t 7) g hg Set.univ _) $$ [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  iintro ⟨H0, H1, H2, H3, H4, H5, H6, H7, H8, H9⟩
  isplitl [HP]; · iexact HP
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
theorem obligation1 (g : ℕ → ℕ) (hg : ∀ n, g n ≤ 24) (hV : ∀ t, blkB V t 8 = words g) (c : Dev nD) :
    BodyObligation (dat1 V g c) (defs₀ (F := F)) 𝒱₀ () Set.univ := fun t => by
  rw [bigSep_W1, bigSep_W1]
  rw [show (dat1 V g c).Φ t.succ = (dat1 V g c).Φ t.castSucc from rfl, show (dat1 V g c).owesAt () t.succ = (dat1 V g c).owesAt () t.castSucc from rfl]
  have h := point1 V g hg hV c t iprop((dat1 V g c).Φ t.castSucc ∗ (dat1 V g c).owesAt () t.castSucc)
  rw [← hV t] at h
  refine BIBase.Entails.trans (BIBase.Entails.trans ?_ h) ((wp _ _ _ _).mono fun _ => ?_)
  · iintro ⟨HΦ, Howes, H⟩
    isplitl [HΦ Howes]
    · isplitl [HΦ] <;> iassumption
    iexact H
  · show (_ : sProp 𝕄) ⊢ _
    iintro ⟨⟨HΦ, Howes⟩, H⟩
    isplitl [HΦ]; · iexact HΦ
    isplitl [Howes]; · iexact Howes
    iexact H

/-! ## What the regions leave -/

variable (m : (ℓ : Loc nD τ sig) → Buf (Elt F) ℓ) (ρ : Dev nD → PrngReg)

/-- The contents the first region leaves, -/
def outs0 : Outs (F := F) := fun _ r c => afterRegion (dat0 (V5 m c) c) (V5 m c) r
/-- the round counts it leaves there, -/
def counts (c : Dev nD) : ℕ → ℕ := need (V5 m c)
/-- the second region's proof data, -/
def datB (c : Dev nD) : Dat τ (Elt F) Unit ℕ (UR sig nD τ) ℕ (cfg1 (F := F)) c := dat1 (V6 m (outs0 m) c) (counts m c) c
/-- and the contents each region leaves. -/
def outs : Outs (F := F) := fun J r c => if J = 6 then outs0 m J r c else afterRegion (datB m c) (V6 m (outs0 m) c) r

theorem V6_outs (c : Dev nD) : V6 m (outs m) c = V6 m (outs0 m) c := by
  unfold V6 outs; rw [if_pos rfl]

/-- A held set's buffers are the TensorCore's references. -/
theorem exists_ref {b : DevRef τ sig} (hb : b ∈ Pipeline.ucRefs τ sig) : ∃ r : Ref sig .tc, Proc.devRef .tc r = b := by
  obtain ⟨r, -, h⟩ := Finset.mem_map.mp (Finset.mem_filter.mp hb).1
  exact ⟨r, h⟩

theorem after0 (c : Dev nD) : ∀ b ∈ Pipeline.ucRefs τ sig, afterRegion (dat0 (V5 m c) c) (V5 m c) b = V6 m (outs m) c b := fun b hb => by
  obtain ⟨r, rfl⟩ := exists_ref hb
  by_cases h : r = main_v37
  · subst h
    simp only [V6, outs, outs0, if_true, Function.update_self]
  · rw [V6_of m (outs m) c r (by simpa using h)]
    refine afterRegion_keeps (dat0 (V5 m c) c) (V5 m c) winFacts0.arr_inj (fun _ => rfl) r fun w hw => ?_
    fin_cases w
    iterate 7 rfl
    exact absurd hw.symm h

theorem after1 (c : Dev nD) : ∀ b ∈ Pipeline.ucRefs τ sig, afterRegion (datB m c) (V6 m (outs0 m) c) b = V7 m (outs m) c b := fun b hb => by
  obtain ⟨r, rfl⟩ := exists_ref hb
  by_cases h : r = main_v38
  · subst h
    simp only [V7, outs, Function.update_self, if_neg (by decide : ¬ (7 = 6))]
  · rw [V7_of m (outs m) c r (by simpa using h), V6_outs]
    refine afterRegion_keeps (datB m c) (V6 m (outs0 m) c) winFacts1.arr_inj (fun _ => rfl) r fun w hw => ?_
    fin_cases w
    iterate 9 rfl
    exact absurd hw.symm h

/-! ## The first region's array holds the round counts -/

/-- Point `t`'s block of the round counts is entry `t`; -/
theorem index0 : ∀ t : Fin grid0.N, win0_7.index t ⟨0, by decide⟩ = t.val := by decide +kernel
/-- every point of the second region has all of them. -/
theorem index1 : ∀ t : Fin grid1.N, ∀ a, win1_8.index t a = 0 := by decide +kernel

theorem unit_zero (z : S1x1x1.Idx) : (z 0).val = 0 := Nat.lt_one_iff.mp (z 0).isLt

theorem shift0 (t : Fin grid0.N) (k : ℕ) (hk : k = 0) : win0_7.index t ⟨0, show 0 < 3 by decide⟩ * win0_7.size ⟨0, show 0 < 3 by decide⟩ + k = t.val := by
  rw [show win0_7.size ⟨0, show 0 < 3 by decide⟩ = 1 from rfl, hk, Nat.mul_one, Nat.add_zero]; exact index0 t

theorem emb0 (t : Fin grid0.N) (y : (win0_7.xblock (grid0.coords t)).Idx) : ((win0_7.rect t).emb y ⟨0, show 0 < 3 by decide⟩).val = t.val :=
  Eq.trans (win0_7.rect_emb_val t y ⟨0, show 0 < 3 by decide⟩) (shift0 t (y ⟨0, show 0 < 3 by decide⟩).val (unit_zero y))

set_option maxHeartbeats 1000000 in
theorem words_at (c : Dev nD) : V6 m (outs0 m) c main_v37 = words (counts m c) := by
  rw [show V6 m (outs0 m) c main_v37 = outs0 m 6 main_v37 c from Function.update_self _ _ _]
  rw [show outs0 m 6 main_v37 c = (dat0 (V5 m c) c).arrAt 7 (cfg0 (F := F)).N from afterRegion_arr (dat0 (V5 m c) c) (V5 m c) winFacts0.arr_inj 7]
  refine (dat0 (V5 m c) c).arrAt_eq_of_covers 7 (words (counts m c)) (show win0_7.Covers by decide +kernel) fun t _ y => ?_
  show BitVec.ofNat 32 (maxRounds (grid0.coords t) (sixA (V5 m c) t) (blkA (V5 m c) t 6) k0_t1_loop.trips)
    = BitVec.ofNat 32 (need (V5 m c) ((win0_7.rect t).emb y ⟨0, by decide⟩).val)
  rw [emb0 t y]
  unfold need
  rw [dif_pos (show t.val < (cfg0 (F := F)).N from t.isLt)]

theorem words_in (c : Dev nD) (t : Fin (cfg1 (F := F)).N) : blkB (V6 m (outs0 m) c) t 8 = words (counts m c) := by
  show (((cfg1 (F := F)).win 8).blk t).view.read (Elt F) (V6 m (outs0 m) c main_v37) = _
  rw [words_at]
  funext y
  show words (counts m c) ((win1_8.rect t).emb y) = _
  refine congrArg _ (funext fun a => Fin.ext ?_)
  exact win1_8.rect_emb_val_of_index_zero t a (index1 t a) y

/-! ## The regions as segments -/

/-- The level assignment: every cell of a TensorCore at level 0. -/
def L : GSem nD τ sig → Finset Unit := fun g => if g.1.2 = .tc then {()} else ∅
def lv : GSem nD τ sig → Unit → ℕ := fun _ _ => 0

/-- Each region's proof data, over the valuations it is entered at. -/
def pdats (VA VB : Dev nD → Valuation τ sig (Elt F)) (g : Dev nD → ℕ → ℕ) : (p : Fin 2) → (c : Dev nD) → Dat τ (Elt F) Unit ℕ (UR sig nD τ) ℕ ((cfgs (F := F)) p) c
  | 0, c => dat0 (VA c) c
  | 1, c => dat1 (VB c) (g c) c

theorem cut (p : Fin 2) : LevelCut (pcfgs (F := F)) adm () L lv p (fun _ => 0) (fun _ => 0) where
  hι c w s := by simp [L]
  hιb c w s := le_rfl
  hD c g i h := absurd h (lt_irrefl _)

/-- What rides beside the buffers: what the core owes. -/
def Rest (_ : Fin 3) (c : Dev nD) : sProp 𝕄 := iprop((∃ Wd, owes (c : Thread nD τ) (0 : CellTallies nD τ sig Unit) Wd) ∗ BI.emp ∗ BI.emp)

section Regs
variable (VA VB : Dev nD → Valuation τ sig (Elt F)) (g : Dev nD → ℕ → ℕ) (hg : ∀ c n, g c n ≤ 24) (hVB : ∀ c t, blkB (VB c) t 8 = words (g c))

set_option backward.isDefEq.respectTransparency.types false in
def reg0 : RegionSeg (pcfgs (F := F)) adm (pdats VA VB g) () defs₀ 𝒱₀ L lv 0 :=
  RegionSeg.ofHeldIn (pcfgs (F := F)) adm (pdats VA VB g) () defs₀ 𝒱₀ L lv 0 (fun _ => 0) (Pipeline.ucRefs τ sig) (fun _ => BI.emp) (fun _ => BI.emp)
    (launch0 (F := F)).toP rfl (fun c => (obligation0 (VA c) c).loose) (fun _ _ => rfl) (fun _ => rfl)
    (fun c => ((pdats VA VB g) 0 c).share_full fun _ => rfl)
    (fun c => by show iprop(Pipeline.scopedRest (Ix := Unit) (Name := ℕ) (U := UR sig nD τ) (Lvl := ℕ) (Val := Elt F) Cert.KernelIdeal.spec0 c ∗ BI.emp) ⊢ Pipeline.scopedRest (Ix := Unit) (Name := ℕ) (U := UR sig nD τ) (Lvl := ℕ) (Val := Elt F) Cert.KernelIdeal.spec0 c; iintro ⟨H, -⟩; iexact H)
    (fun c => by show Pipeline.scopedRest (Ix := Unit) (Name := ℕ) (U := UR sig nD τ) (Lvl := ℕ) (Val := Elt F) Cert.KernelIdeal.spec0 c ⊢ iprop(Pipeline.scopedRest (Ix := Unit) (Name := ℕ) (U := UR sig nD τ) (Lvl := ℕ) (Val := Elt F) Cert.KernelIdeal.spec0 c ∗ BI.emp); iintro H; isplitl [H]; · iexact H
                 iempintro)
    (fun _ => 0) (cut 0) (fun _ => BI.emp) (fun c => VA c) (fun _ _ => rfl)

set_option backward.isDefEq.respectTransparency.types false in
def reg1 : RegionSeg (pcfgs (F := F)) adm (pdats VA VB g) () defs₀ 𝒱₀ L lv 1 :=
  RegionSeg.ofHeldIn (pcfgs (F := F)) adm (pdats VA VB g) () defs₀ 𝒱₀ L lv 1 (fun _ => 0) (Pipeline.ucRefs τ sig) (fun _ => BI.emp) (fun _ => BI.emp)
    (launch1 (F := F)).toP rfl (fun c => (obligation1 (VB c) (g c) (hg c) (hVB c) c).loose) (fun _ _ => rfl) (fun _ => rfl)
    (fun c => ((pdats VA VB g) 1 c).share_full fun _ => rfl)
    (fun c => by show iprop(Pipeline.scopedRest (Ix := Unit) (Name := ℕ) (U := UR sig nD τ) (Lvl := ℕ) (Val := Elt F) spec1 c ∗ BI.emp) ⊢ Pipeline.scopedRest (Ix := Unit) (Name := ℕ) (U := UR sig nD τ) (Lvl := ℕ) (Val := Elt F) spec1 c; iintro ⟨H, -⟩; iexact H)
    (fun c => by show Pipeline.scopedRest (Ix := Unit) (Name := ℕ) (U := UR sig nD τ) (Lvl := ℕ) (Val := Elt F) spec1 c ⊢ iprop(Pipeline.scopedRest (Ix := Unit) (Name := ℕ) (U := UR sig nD τ) (Lvl := ℕ) (Val := Elt F) spec1 c ∗ BI.emp); iintro H; isplitl [H]; · iexact H
                 iempintro)
    (fun _ => 0) (cut 1) (fun _ => BI.emp) (fun c => VB c) (fun _ _ => rfl)

theorem ucRefs0 : arrRefs Cert.KernelIdeal.spec0 ⊆ Pipeline.ucRefs τ sig := by decide +kernel
theorem ucRefs1 : arrRefs spec1 ⊆ Pipeline.ucRefs τ sig := by decide +kernel

set_option backward.isDefEq.respectTransparency.types false in
theorem enter0 (c : Dev nD) : iprop(StableHlo.held (c : Thread nD τ) (Pipeline.ucRefs τ sig) (VA c) ∗ Rest 0 c) ⊢ (reg0 VA VB g).pre c :=
  RegionSeg.ofHeldIn_pre (pcs := pcfgs (F := F)) (a := adm) (pdats := pdats VA VB g) (ι := ()) (defs₀ := defs₀) (𝒱₀ := 𝒱₀) (L := L) (lv := lv) (p := 0) (D := fun _ => 0)
    (b := fun _ => 0) (X := fun _ => BI.emp) (Y := fun _ => BI.emp) (R := fun _ => BI.emp) (W := fun c => VA c) ucRefs0 c
set_option backward.isDefEq.respectTransparency.types false in
theorem leave0 (c : Dev nD) : (reg0 VA VB g).post c ⊢ iprop(StableHlo.held (c : Thread nD τ) (Pipeline.ucRefs τ sig) (afterRegion (dat0 (VA c) c) (VA c)) ∗ Rest 1 c) :=
  RegionSeg.ofHeldIn_post (pcs := pcfgs (F := F)) (p := 0) ucRefs0 c
set_option backward.isDefEq.respectTransparency.types false in
theorem enter1 (c : Dev nD) : iprop(StableHlo.held (c : Thread nD τ) (Pipeline.ucRefs τ sig) (VB c) ∗ Rest 1 c) ⊢ (reg1 VA VB g hg hVB).pre c :=
  RegionSeg.ofHeldIn_pre (pcs := pcfgs (F := F)) (a := adm) (pdats := pdats VA VB g) (ι := ()) (defs₀ := defs₀) (𝒱₀ := 𝒱₀) (L := L) (lv := lv) (p := 1) (D := fun _ => 0)
    (b := fun _ => 0) (X := fun _ => BI.emp) (Y := fun _ => BI.emp) (R := fun _ => BI.emp) (W := fun c => VB c) ucRefs1 c
set_option backward.isDefEq.respectTransparency.types false in
theorem leave1 (c : Dev nD) : (reg1 VA VB g hg hVB).post c ⊢ iprop(StableHlo.held (c : Thread nD τ) (Pipeline.ucRefs τ sig) (afterRegion (dat1 (VB c) (g c) c) (VB c)) ∗ Rest 2 c) :=
  RegionSeg.ofHeldIn_post (pcs := pcfgs (F := F)) (p := 1) ucRefs1 c

end Regs

/-- The two regions at the valuations the program enters them at. -/
abbrev dats : (p : Fin 2) → (c : Dev nD) → Dat τ (Elt F) Unit ℕ (UR sig nD τ) ℕ ((cfgs (F := F)) p) c := pdats (V5 m) (V6 m (outs0 m)) (counts m)
def regA : RegionSeg (pcfgs (F := F)) adm (dats m) () defs₀ 𝒱₀ L lv 0 := reg0 (V5 m) (V6 m (outs0 m)) (counts m)
def regB : RegionSeg (pcfgs (F := F)) adm (dats m) () defs₀ 𝒱₀ L lv 1 := reg1 (V5 m) (V6 m (outs0 m)) (counts m) (fun _ => need_le _) (words_in m)

/-! ## The launch -/

/-- The library's algebra in the certificate's. -/
def EP : Emb (UR sig nD τ) 𝕄 :=
  (Emb.refl _).trans (uEmb (nD := nD) (sig := sig) (Ix := Unit) (Val := Elt F) (Name := ℕ) (U := UR sig nD τ) (Lvl := ℕ)).toEmb

instance EP_landsIn : (EP : Emb (UR sig nD τ) 𝕄).LandsIn (upEmb : UEmb _ 𝕄) := by unfold EP; infer_instance

theorem L_off (g : GSem nD τ sig) (h : g.1.2 ≠ .tc) : L g = ∅ := if_neg h

theorem pre0 (c : Dev nD) : iprop(StableHlo.held (c : Thread nD τ) (Pipeline.ucRefs τ sig) (V5 m c) ∗ Rest 0 c) ⊢ (regA m).pre c :=
  enter0 (V5 m) (V6 m (outs0 m)) (counts m) c
theorem post0 (c : Dev nD) : (regA m).post c ⊢ iprop(StableHlo.held (c : Thread nD τ) (Pipeline.ucRefs τ sig) (V6 m (outs m) c) ∗ Rest 1 c) := by
  rw [← StableHlo.held_congr (c : Thread nD τ) (after0 m c)]
  exact leave0 (V5 m) (V6 m (outs0 m)) (counts m) c
theorem pre1 (c : Dev nD) : iprop(StableHlo.held (c : Thread nD τ) (Pipeline.ucRefs τ sig) (V6 m (outs m) c) ∗ Rest 1 c) ⊢ (regB m).pre c := by
  rw [V6_outs]
  exact enter1 (V5 m) (V6 m (outs0 m)) (counts m) (fun _ => need_le _) (words_in m) c
theorem post1 (c : Dev nD) : (regB m).post c ⊢ iprop(StableHlo.held (c : Thread nD τ) (Pipeline.ucRefs τ sig) (V7 m (outs m) c) ∗ Rest 2 c) := by
  rw [← StableHlo.held_congr (c : Thread nD τ) (after1 m c)]
  exact leave1 (V5 m) (V6 m (outs0 m)) (counts m) (fun _ => need_le _) (words_in m) c

/-- A core's dues at the launch are what rides beside the buffers; -/
theorem rest_one (c : Dev nD) : (iprop(unscopedSems0 c ∗ owes (c : Thread nD τ) ((0 : Dev nD → CellTallies nD τ sig Unit) c) ∅
      ∗ Pipeline.launchCred (0 : Dev nD → CellTallies nD τ sig Unit) c ∗ prngReg c (ρ c) ∗ BI.emp) : sProp 𝕄) ⊢ Rest 0 c := by
  unfold Rest
  iintro ⟨-, H, -⟩
  isplitl [H]; · iexists _; iexact H
  isplitl <;> iempintro

/-- so every core's are. -/
theorem rest_init : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ BI.emp)) ∗ levAts L lv)
    ⊢ (|={Set.univ}=> bigSep Finset.univ (Rest 0) : sProp 𝕄) := by
  have h : (bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ BI.emp)) ⊢ (bigSep Finset.univ (Rest 0) : sProp 𝕄) :=
    bigSep_mono fun c _ => rest_one ρ c
  iintro ⟨H, -⟩
  imodintro
  iapply h
  iexact H

set_option backward.isDefEq.respectTransparency.types false in
set_option maxHeartbeats 1000000 in
/-- Every weakly fair run of the program from a memory with zero counters ends, with the argument as launched, the result at the
    last valuation's contents, and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v42) = V8 m (outs m) c main_v42)
      ∧ r.2.sem = fun _ => 0) := by
  refine Pipeline.θ_run_regions_kit_dev_sems (pcfgs (F := F)) adm (dats m) () cellOf_inj EP defs₀ 𝒱₀ L lv m ρ main
    (segs m (outs m) 𝒱₀ L lv Rest () (dats m) (regA m) (regB m))
    (fun c Q => by
      rewrite [main_chain c, Seg.run_eq_chain,
        show (segs m (outs m) 𝒱₀ L lv Rest () (dats m) (regA m) (regB m) c).map Seg.prog = [
          StableHlo.seq hostOps0, StableHlo.seq hostOps0_1, StableHlo.seq hostOps0_2, StableHlo.seq hostOps0_3, StableHlo.seq hostOps0_4,
          Prog.lift (.customCall (Pipeline.entry 0) ()), Prog.lift (.customCall (Pipeline.entry 1) ()), StableHlo.seq hostOps2 ] from rfl]
      dsimp (config := { failIfUnchanged := false }) only
      exact .rfl)
    (fun c => by simp only [segs, Seg.pipes_host, Seg.pipes_region, Seg.pipes_nil]; decide) (O₀ := 0) (hL := L_off) (G := fun _ => BI.emp) (u₀ := Rounds.initOf (Pipeline.cells (cfgs (F := F)) cellOf_inj) (Pipeline.launchToks (cfgs (F := F)) cellOf_inj))
    (hu₀ := ?_)
    (T₀ := fun c => iprop(StableHlo.held (c : Thread nD τ) (Pipeline.ucRefs τ sig) (V0 m c) ∗ Rest 0 c))
    (Tₙ := fun c => StableHlo.held (c : Thread nD τ) (Pipeline.ucRefs τ sig) (V8 m (outs m) c))
    (hch := fun c => ⟨.rfl, .rfl, .rfl, .rfl, .rfl, pre0 m c, (post0 m c).trans (pre1 m c), post1 m c, sep_mono .rfl ?_⟩)
    (hinit := ?_) (QY := fun c s => s.mem ((c.tc : Thread nD τ).loc main_arg0) = m ((c.tc : Thread nD τ).loc main_arg0)
      ∧ s.mem ((c.tc : Thread nD τ).loc main_v42) = V8 m (outs m) c main_v42)
    (hfin := fun c s' => ?_) (hQ := fun _ h hz => ⟨h, funext fun g => hz g (.inr (regions_no_unscoped g.2))⟩)
  · iintro Hu
    imodintro
    isplitl [Hu]
    · iapply (show (ownU (Rounds.initOf (Pipeline.cells (cfgs (F := F)) cellOf_inj) (Pipeline.launchToks (cfgs (F := F)) cellOf_inj)) : sProp 𝕄)
        ⊢ BI.own (EP (Rounds.initOf (Pipeline.cells (cfgs (F := F)) cellOf_inj) (Pipeline.launchToks (cfgs (F := F)) cellOf_inj))) from BI.Entails.refl _)
      iexact Hu
    iapply (show (BI.emp : sProp 𝕄) ⊢ bigSep Finset.univ (fun _ : Dev nD => (BI.emp : sProp 𝕄)) from by rw [BI.bigSep_emp_const])
    iempintro
  · unfold Rest
    iintro ⟨H, -⟩
    iexact H
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ BI.emp)) : sProp 𝕄) := by
      rw [← bigSep_sep']
      exact bigSep_mono fun c _ => by
        rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rest_init ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V8_main_arg0 m (outs m) c),
        h (Proc.devRef .tc main_v42) (Finset.mem_filter.mpr ⟨StableHlo.devRef_mem_tcRefs main_v42, by decide⟩)⟩
    · iexact HSI

end Cert.Proof.KI

end
-- ==== Proof.Draw.lean ====
/-
  One random draw as numbers: the threefry words of a count under a key, stage by stage, the uniform number of a word, and the
  candidate and the acceptance test of one round of the rejection sampler. Both programs' vectors are read against these.
-/
module

public import Idealize.ShloMosaic.Lib.Pointwise

@[expose] public section

noncomputable section

namespace Cert.Proof

open Idealize.ShloMosaic

/-! ## The words -/

/-- The word turned by `r` bits to the left, `r' = 32 - r`. -/
def rot (r r' y : BitVec 32) : BitVec 32 := (y <<< r) ||| (y >>> r')

/-- One turn of the mixing: of the sum already taken and the second word. -/
def turn (r r' : BitVec 32) (p : BitVec 32 × BitVec 32) : BitVec 32 × BitVec 32 :=
  (p.1 + (p.1 ^^^ rot r r' p.2), p.1 ^^^ rot r r' p.2)

/-- A turn followed by the adding of two key words and the group's number. -/
def turnKey (r r' a b n : BitVec 32) (p : BitVec 32 × BitVec 32) : BitVec 32 × BitVec 32 :=
  (p.1 + a + ((p.1 ^^^ rot r r' p.2) + b + n), (p.1 ^^^ rot r r' p.2) + b + n)

def st0 (k0 k1 c : BitVec 32) : BitVec 32 × BitVec 32 := (k0 + (c + k1), c + k1)
def st1 (k0 k1 c : BitVec 32) : BitVec 32 × BitVec 32 := turn 13#32 19#32 (st0 k0 k1 c)
def st2 (k0 k1 c : BitVec 32) : BitVec 32 × BitVec 32 := turn 15#32 17#32 (st1 k0 k1 c)
def st3 (k0 k1 c : BitVec 32) : BitVec 32 × BitVec 32 := turn 26#32 6#32 (st2 k0 k1 c)
def st4 (k0 k1 c : BitVec 32) : BitVec 32 × BitVec 32 := turnKey 6#32 26#32 k1 (k0 ^^^ k1 ^^^ 466688986#32) 1#32 (st3 k0 k1 c)
def st5 (k0 k1 c : BitVec 32) : BitVec 32 × BitVec 32 := turn 17#32 15#32 (st4 k0 k1 c)
def st6 (k0 k1 c : BitVec 32) : BitVec 32 × BitVec 32 := turn 29#32 3#32 (st5 k0 k1 c)
def st7 (k0 k1 c : BitVec 32) : BitVec 32 × BitVec 32 := turn 16#32 16#32 (st6 k0 k1 c)
def st8 (k0 k1 c : BitVec 32) : BitVec 32 × BitVec 32 := turnKey 24#32 8#32 (k0 ^^^ k1 ^^^ 466688986#32) k0 2#32 (st7 k0 k1 c)
def st9 (k0 k1 c : BitVec 32) : BitVec 32 × BitVec 32 := turn 13#32 19#32 (st8 k0 k1 c)
def st10 (k0 k1 c : BitVec 32) : BitVec 32 × BitVec 32 := turn 15#32 17#32 (st9 k0 k1 c)
def st11 (k0 k1 c : BitVec 32) : BitVec 32 × BitVec 32 := turn 26#32 6#32 (st10 k0 k1 c)
def st12 (k0 k1 c : BitVec 32) : BitVec 32 × BitVec 32 := turnKey 6#32 26#32 k0 k1 3#32 (st11 k0 k1 c)
def st13 (k0 k1 c : BitVec 32) : BitVec 32 × BitVec 32 := turn 17#32 15#32 (st12 k0 k1 c)
def st14 (k0 k1 c : BitVec 32) : BitVec 32 × BitVec 32 := turn 29#32 3#32 (st13 k0 k1 c)
def st15 (k0 k1 c : BitVec 32) : BitVec 32 × BitVec 32 := turn 16#32 16#32 (st14 k0 k1 c)
def st16 (k0 k1 c : BitVec 32) : BitVec 32 × BitVec 32 := turnKey 24#32 8#32 k1 (k0 ^^^ k1 ^^^ 466688986#32) 4#32 (st15 k0 k1 c)
def st17 (k0 k1 c : BitVec 32) : BitVec 32 × BitVec 32 := turn 13#32 19#32 (st16 k0 k1 c)
def st18 (k0 k1 c : BitVec 32) : BitVec 32 × BitVec 32 := turn 15#32 17#32 (st17 k0 k1 c)
def st19 (k0 k1 c : BitVec 32) : BitVec 32 × BitVec 32 := turn 26#32 6#32 (st18 k0 k1 c)

/-- The word drawn for count `c` under the key `(k0, k1)`. -/
def drawn (k0 k1 c : BitVec 32) : BitVec 32 :=
  ((st19 k0 k1 c).1 + (k0 ^^^ k1 ^^^ 466688986#32)) ^^^ (((st19 k0 k1 c).1 ^^^ rot 6#32 26#32 (st19 k0 k1 c).2) + k0 + 5#32)

theorem shl_lit (u : ArithUnit) (x r : BitVec 32) (h : r.toNat < 32) : IntOp.shli u x r = x <<< r := if_pos h
theorem shr_lit (u : ArithUnit) (x r : BitVec 32) (h : r.toNat < 32) : IntOp.shrui u x r = x >>> r := if_pos h

section Turns

variable {s : Shape} {A B C D E G X Y : IVec s 32} {i : s.Idx} {p : BitVec 32 × BitVec 32} {r r' a b n : BitVec 32}

theorem half_k (hA : A i = p.1) (hB : B i = p.2) (hC : C i = r) (hD : D i = r') (hr : r.toNat < 32) (hr' : r'.toNat < 32) :
    xori A (ori (shli B C) (shrui B D)) i = p.1 ^^^ rot r r' p.2 := by
  show A i ^^^ (IntOp.shli .vector (B i) (C i) ||| IntOp.shrui .vector (B i) (D i)) = _
  rw [hA, hB, hC, hD, shl_lit _ _ _ hr, shr_lit _ _ _ hr']; rfl

theorem half_h (hA : A i = p.1) (hB : B i = p.2) (hC : C i = r) (hD : D i = r') (hr : r.toNat < 32) (hr' : r'.toNat < 32) :
    xori A (ori (Host.shli B C) (Host.shrui B D)) i = p.1 ^^^ rot r r' p.2 := by
  show A i ^^^ (IntOp.shli .host (B i) (C i) ||| IntOp.shrui .host (B i) (D i)) = _
  rw [hA, hB, hC, hD, shl_lit _ _ _ hr, shr_lit _ _ _ hr']; rfl

theorem sum_at {v : BitVec 32} {w : BitVec 32} (hX : X i = v) (hY : Y i = w) : addi X Y i = v + w := by
  show X i + Y i = _; rw [hX, hY]

/-- The last four turns, as both kernels write them out in one piece. -/
theorem tail_at {k0 k1 c k2 : BitVec 32} {v183 v184 z16 y16 x16 y17 x17 y18 x18 y19 x19 : IVec s 32} (hk : k2 = k0 ^^^ k1 ^^^ 466688986#32)
    (hB : v183 i = (st15 k0 k1 c).2) (hA : v184 i = (st15 k0 k1 c).1)
    (e0 : z16 = xori v184 (ori (shli v183 (broadcast s 24#32)) (shrui v183 (broadcast s 8#32))))
    (e1 : y16 = addi (addi z16 (broadcast s k2)) (broadcast s 4#32))
    (e2 : x16 = addi (addi v184 (broadcast s k1)) y16)
    (e3 : y17 = xori x16 (ori (shli y16 (broadcast s 13#32)) (shrui y16 (broadcast s 19#32)))) (e4 : x17 = addi x16 y17)
    (e5 : y18 = xori x17 (ori (shli y17 (broadcast s 15#32)) (shrui y17 (broadcast s 17#32)))) (e6 : x18 = addi x17 y18)
    (e7 : y19 = xori x18 (ori (shli y18 (broadcast s 26#32)) (shrui y18 (broadcast s 6#32)))) (e8 : x19 = addi x18 y19) :
    xori (addi x19 (broadcast s k2)) (addi (addi (xori x19 (ori (shli y19 (broadcast s 6#32)) (shrui y19 (broadcast s 26#32)))) (broadcast s k0))
      (broadcast s 5#32)) i = drawn k0 k1 c := by
  subst hk
  have hy16 : y16 i = (st16 k0 k1 c).2 := by
    rw [e1, e0]; exact sum_at (sum_at (half_k hA hB rfl rfl (by decide) (by decide)) rfl) rfl
  have hx16 : x16 i = (st16 k0 k1 c).1 := by rw [e2]; exact sum_at (sum_at hA rfl) hy16
  have hy17 : y17 i = (st17 k0 k1 c).2 := by rw [e3]; exact half_k hx16 hy16 rfl rfl (by decide) (by decide)
  have hx17 : x17 i = (st17 k0 k1 c).1 := by rw [e4]; exact sum_at hx16 hy17
  have hy18 : y18 i = (st18 k0 k1 c).2 := by rw [e5]; exact half_k hx17 hy17 rfl rfl (by decide) (by decide)
  have hx18 : x18 i = (st18 k0 k1 c).1 := by rw [e6]; exact sum_at hx17 hy18
  have hy19 : y19 i = (st19 k0 k1 c).2 := by rw [e7]; exact half_k hx18 hy18 rfl rfl (by decide) (by decide)
  have hx19 : x19 i = (st19 k0 k1 c).1 := by rw [e8]; exact sum_at hx18 hy19
  have h1 := sum_at (Y := broadcast s (k0 ^^^ k1 ^^^ 466688986#32)) hx19 rfl
  have h2 := sum_at (Y := broadcast s 5#32) (sum_at (Y := broadcast s k0) (half_k (C := broadcast s 6#32) (D := broadcast s 26#32) (r := 6#32) (r' := 26#32) hx19 hy19 rfl rfl (by decide) (by decide)) rfl) rfl
  show addi x19 _ i ^^^ addi (addi (xori x19 _) _) _ i = _
  rw [h1, h2]; rfl

end Turns

/-- The uniform number in `[0, 1)` of a word: its upper 23 bits as a mantissa. -/
def unit (w : BitVec 32) : Ideal .f32 :=
  FloatOps.maximumf (FloatOps.ofBits .f32 0x00000000#32)
    (FloatOps.subf (FloatOps.ofBits .f32 ((w >>> 9#32) ||| 1065353216#32)) (FloatOps.ofBits .f32 0x3F800000#32))

/-! ## One round of the sampler -/

/-- A lane's parameters. -/
structure Lane where
  lam : Ideal .f32
  a : Ideal .f32
  b : Ideal .f32
  ia : Ideal .f32
  ll : Ideal .f32
  vr : Ideal .f32

abbrev R : Type := Ideal .f32

def lit (w : BitVec 32) : R := FloatOps.ofBits .f32 w

def us (u : R) : R := FloatOps.subf (lit 0x3F000000#32) (FloatOps.absf u)

/-- The candidate. -/
def cand (L : Lane) (u : R) : R :=
  FloatOps.floor (FloatOps.addf (FloatOps.addf (FloatOps.mulf (FloatOps.addf (FloatOps.divf (FloatOps.mulf (lit 0x40000000#32) L.a) (us u)) L.b) u) L.lam)
    (lit 0x3EDC28F6#32))

def lhs (L : Lane) (u v : R) : R :=
  FloatOps.log (FloatOps.divf (FloatOps.mulf v L.ia) (FloatOps.addf (FloatOps.divf L.a (FloatOps.mulf (us u) (us u))) L.b))

def zz (k : R) : R := FloatOps.subf (FloatOps.addf k (lit 0x3F800000#32)) (lit 0x3F800000#32)

def logBase (z : R) : R := FloatOps.addf (FloatOps.log1p (FloatOps.mulf z (lit 0x3E088889#32))) (lit 0x4000F42C#32)

def series (z : R) : R :=
  FloatOps.log (FloatOps.addf (FloatOps.addf (FloatOps.addf (FloatOps.addf (FloatOps.addf (FloatOps.addf (FloatOps.addf
    (FloatOps.addf (FloatOps.divf (lit 0x4429214E#32) (FloatOps.addf z (lit 0x3F800000#32))) (lit 0x3F800000#32))
    (FloatOps.divf (lit 0xC49D6474#32) (FloatOps.addf z (lit 0x40000000#32))))
    (FloatOps.divf (lit 0x4440D4B3#32) (FloatOps.addf z (lit 0x40400000#32))))
    (FloatOps.divf (lit 0xC3309D73#32) (FloatOps.addf z (lit 0x40800000#32))))
    (FloatOps.divf (lit 0x41481E14#32) (FloatOps.addf z (lit 0x40A00000#32))))
    (FloatOps.divf (lit 0xBE0DE595#32) (FloatOps.addf z (lit 0x40C00000#32))))
    (FloatOps.divf (lit 0x3727828A#32) (FloatOps.addf z (lit 0x40E00000#32))))
    (FloatOps.divf (lit 0x3421AA84#32) (FloatOps.addf z (lit 0x41000000#32))))

/-- The logarithm of the Gamma function by Lanczos' expansion at `z + 1`. -/
def lgam (z : R) : R :=
  FloatOps.addf (FloatOps.addf (FloatOps.mulf (FloatOps.subf (FloatOps.addf z (lit 0x3F000000#32)) (FloatOps.divf (FloatOps.addf z (lit 0x40F00000#32)) (logBase z))) (logBase z))
    (lit 0x3F6B3F8E#32)) (series z)

def rhs (L : Lane) (u : R) : R :=
  FloatOps.subf (FloatOps.addf (FloatOps.subf (lit 0x00000000#32) L.lam) (FloatOps.mulf (cand L u) L.ll)) (lgam (zz (cand L u)))

/-- The candidate is turned down: below zero, or far in the tail. -/
def turned (L : Lane) (u v : R) : BitVec 1 :=
  IntOp.ori (FloatOps.cmpf .olt (cand L u) (lit 0x00000000#32))
    (IntOp.andi (FloatOps.cmpf .olt (us u) (lit 0x3C54FDF4#32)) (FloatOps.cmpf .ogt v (us u)))

/-- The test of one round. -/
def accept (L : Lane) (u v : R) : BitVec 1 :=
  IntOp.ori (IntOp.andi (FloatOps.cmpf .oge (us u) (lit 0x3D8F5C29#32)) (FloatOps.cmpf .ole v L.vr))
    (IntOp.andi (IntOp.xori (turned L u v) 1#1) (FloatOps.cmpf .ole (lhs L u v) (rhs L u)))

/-- The first number of a round, between -1/2 and 1/2. -/
def uOf (k0 k1 c : BitVec 32) : R := FloatOps.subf (unit (drawn k0 k1 c)) (lit 0x3F000000#32)

/-- The second, between 0 and 1. -/
def vOf (k2 k3 c : BitVec 32) : R := unit (drawn k2 k3 c)

end Cert.Proof
-- ==== Proof.Model.lean ====
/-
  The mathematics both programs come to, free of either's text: the rounds a draw takes, the last accepted candidate, the prefix sums
  of a lane and the slots they mark; and what a loop up, a loop down and a block of eight rows do to them.
-/
module

public import proofs.«01_k».proof.Proof.Draw
public import proofs.«01_k».proof.Proof.Common

@[expose] public section

noncomputable section

namespace Cert.Proof

open Idealize.ShloMosaic
open scoped Classical

/-! ## A loop up and a loop down -/

section Loops

variable {α : Type} (P : α → Prop) [DecidablePred P] (st : ℕ → α → α)

def iter (j : ℕ) (a : α) : ℕ → α
  | 0 => a
  | r + 1 => st (j + r) (iter j a r)

theorem iter_shift (j : ℕ) (a : α) (r : ℕ) : iter st (j + 1) (st j a) r = iter st j a (r + 1) := by
  induction r with
  | zero => rfl
  | succ r ih =>
    show st (j + 1 + r) (iter st (j + 1) (st j a) r) = st (j + (r + 1)) (iter st j a (r + 1))
    rw [ih, show j + 1 + r = j + (r + 1) by omega]

theorem runUp_spec (n j : ℕ) (a : α) : ∃ r ≤ n, runUp P st n j a = (j + r, iter st j a r) ∧ (∀ i < r, P (iter st j a i))
    ∧ (r = n ∨ ¬ P (iter st j a r)) := by
  induction n generalizing j a with
  | zero => exact ⟨0, le_rfl, rfl, fun i hi => absurd hi (Nat.not_lt_zero i), .inl rfl⟩
  | succ n ih =>
    by_cases h : P a
    · obtain ⟨r, hr, e, hp, hl⟩ := ih (j + 1) (st j a)
      refine ⟨r + 1, by omega, ?_, ?_, ?_⟩
      · rw [runUp, if_pos h, e, iter_shift, show j + 1 + r = j + (r + 1) by omega]
      · intro i hi
        cases i with
        | zero => exact h
        | succ i => rw [← iter_shift]; exact hp i (by omega)
      · rw [← iter_shift]
        rcases hl with hl | hl
        · exact .inl (by omega)
        · exact .inr hl
    · exact ⟨0, Nat.zero_le _, by rw [runUp, if_neg h]; rfl, fun i hi => absurd hi (Nat.not_lt_zero i), .inr h⟩

/-- The last of the first `r` values whose test holds; the start where none does. -/
def lastv (p : ℕ → Prop) (k : ℕ → EReal) (b : EReal) : ℕ → EReal
  | 0 => b
  | r + 1 => if p r then k r else lastv p k b r

theorem runDown_spec {X : Type} (Q : (X → EReal) × (X → EReal) → Prop) [DecidablePred Q]
    (sd : ℕ → (X → EReal) × (X → EReal) → (X → EReal) × (X → EReal)) (ok : ℕ → X → Prop) (k : ℕ → X → EReal)
    (h1 : ∀ j s x, (sd j s).1 x = if ok j x then 1 else s.1 x)
    (h2 : ∀ j s x, (sd j s).2 x = if ok j x ∧ s.1 x = 0 then k j x else s.2 x)
    (hQ : ∀ s, Q s ↔ ∃ x, s.1 x = 0) (r : ℕ) (s : (X → EReal) × (X → EReal)) (h01 : ∀ x, s.1 x = 0 ∨ s.1 x = 1) (x : X) :
    (runDown Q sd r s).2.2 x = if s.1 x = 0 then lastv (fun j => ok j x) (fun j => k j x) (s.2 x) r else s.2 x := by
  induction r generalizing s with
  | zero => rw [runDown]; split <;> rfl
  | succ r ih =>
    have h10 : (1 : EReal) ≠ 0 := one_ne_zero
    by_cases h : Q s
    · have h01' : ∀ y, (sd r s).1 y = 0 ∨ (sd r s).1 y = 1 := fun y => by
        rw [h1]; split
        · exact .inr rfl
        · exact h01 y
      rw [runDown, if_pos h, ih _ h01', h1, h2]
      rcases h01 x with h0 | h0
      · by_cases hk : ok r x
        · simp only [h0, hk, and_self, if_true, if_neg h10, lastv]
        · simp only [h0, hk, false_and, if_false, if_true, lastv]
      · simp only [h0, h10, and_false, if_false, ite_self]
    · rw [runDown, if_neg h]
      have : s.1 x ≠ 0 := fun h0 => h ((hQ s).mpr ⟨x, h0⟩)
      rw [if_neg this]

end Loops

/-! ## The draws -/

/-- The lanes' parameters, which lanes are active, and the rounds' key words. -/
structure Data where
  lane : ℕ → Lane
  act : ℕ → Prop
  key : ℕ → Fin 4 → BitVec 32

/-- The count of draw `t` of lane `l`. -/
def word (t l : ℕ) : BitVec 32 := BitVec.ofNat 32 (t * 65536 + l)

namespace Data

variable (D : Data)

def ok (i t l : ℕ) : Prop :=
  accept (D.lane l) (uOf (D.key i 0) (D.key i 1) (word t l)) (vOf (D.key i 2) (D.key i 3) (word t l)) = 1#1
def kc (i t l : ℕ) : EReal := cand (D.lane l) (uOf (D.key i 0) (D.key i 1) (word t l))

/-- `M` rounds: another one only while some draw has not been accepted, and never more than 24. -/
def Rounds (M : ℕ) : Prop := ∀ n, n < M ↔ n < 24 ∧ ∃ t < 201, ∃ l < 65536, ∀ i < n, ¬ D.ok i t l

theorem Rounds.unique {D : Data} {M M' : ℕ} (h : D.Rounds M) (h' : D.Rounds M') : M = M' := by
  rcases lt_trichotomy M M' with hl | rfl | hl
  · exact absurd ((h M).mpr ((h' M).mp hl)) (lt_irrefl _)
  · rfl
  · exact absurd ((h' M').mpr ((h M').mp hl)) (lt_irrefl _)

/-- The last accepted candidate of draw `t` of lane `l`. -/
def drew (M t l : ℕ) : EReal := lastv (fun i => D.ok i t l) (fun i => D.kc i t l) 0 M

/-- The interval drawn: zero intervals count as one in an active lane, and only 201 rows of active lanes are drawn. -/
def res (M t l : ℕ) : EReal := if t < 201 ∧ D.act l then (if D.drew M t l = 0 then 1 else D.drew M t l) else 0

/-- The prefix sums. -/
def sums (M l : ℕ) : ℕ → EReal
  | 0 => 0
  | t + 1 => sums M l t + D.res M t l

/-- The slot of value `c` is marked. -/
def Mark (M l : ℕ) (c : EReal) : Prop := ∃ t, 1 ≤ t ∧ t ≤ 201 ∧ D.sums M l t = c

variable {D} {M l : ℕ}

theorem res_inactive (h : ¬ D.act l) (t : ℕ) : D.res M t l = 0 := if_neg fun h' => h h'.2

theorem sums_inactive (h : ¬ D.act l) (t : ℕ) : D.sums M l t = 0 := by
  induction t with
  | zero => rfl
  | succ t ih => rw [sums, ih, res_inactive h, add_zero]

theorem sums_mono (h0 : ∀ t, 0 ≤ D.res M t l) {t t' : ℕ} (h : t ≤ t') : D.sums M l t ≤ D.sums M l t' := by
  induction t' with
  | zero => rw [Nat.le_zero.mp h]
  | succ t' ih =>
    rcases Nat.lt_or_ge t (t' + 1) with hl | hg
    · exact (ih (by omega)).trans (le_add_of_nonneg_right (h0 t'))
    · rw [show t = t' + 1 by omega]

theorem sums_end (n : ℕ) : D.sums M l (201 + n) = D.sums M l 201 := by
  induction n with
  | zero => rfl
  | succ n ih =>
    show D.sums M l (201 + n) + D.res M (201 + n) l = _
    rw [ih, show D.res M (201 + n) l = 0 from if_neg fun h => absurd h.1 (by omega), add_zero]

end Data

/-! ## A block of eight rows -/

/-- The running sums of a block. -/
def run (acc : EReal) (a : ℕ → EReal) : ℕ → EReal
  | 0 => acc + a 0
  | r + 1 => run acc a r + a (r + 1)

theorem run_le {acc : EReal} {a : ℕ → EReal} (h : ∀ r, 0 ≤ a r) (r : ℕ) : acc ≤ run acc a r := by
  induction r with
  | zero => exact le_add_of_nonneg_right (h 0)
  | succ r ih => exact ih.trans (le_add_of_nonneg_right (h _))

/-- What holds of a lane before block `q`: its running sum, its flag, and its mark at the slot of value `c`. -/
structure Held (D : Data) (M l q : ℕ) (acc done c : EReal) (mark : Prop) : Prop where
  active : D.act l → (done = 0 ∧ acc = D.sums M l (8 * q) ∧ D.sums M l (8 * q) ≤ 200) ∨ (done = 1 ∧ 200 < acc ∧ 200 < D.sums M l (8 * q))
  inactive : ¬ D.act l → done = 1 ∧ acc = 0
  marked : mark ↔ ∃ t, 1 ≤ t ∧ t ≤ 8 * q ∧ D.sums M l t = c

theorem Held.start (D : Data) (M l : ℕ) (done c : EReal) (mark : Prop) (ha : D.act l → done = 0) (hi : ¬ D.act l → done = 1)
    (hm : ¬ mark) : Held D M l 0 0 done c mark where
  active h := .inl ⟨ha h, rfl, by show (0 : EReal) ≤ 200; exact_mod_cast (by norm_num : (0 : ℝ) ≤ 200)⟩
  inactive h := ⟨hi h, rfl⟩
  marked := ⟨fun h => absurd h hm, fun ⟨t, ht, ht', _⟩ => absurd ht (by omega)⟩

theorem run_sums {D : Data} {M l q : ℕ} {a : ℕ → EReal} (ha : ∀ r < 8, a r = D.res M (8 * q + r) l) (r : ℕ) (hr : r < 8) :
    run (D.sums M l (8 * q)) a r = D.sums M l (8 * q + r + 1) := by
  induction r with
  | zero => rw [run, ha 0 (by omega)]; rfl
  | succ r ih => rw [run, ih (by omega), ha _ hr]; rfl

theorem Held.step {D : Data} {M l q : ℕ} {acc done acc' done' c : EReal} {mark mark' : Prop} (hc : 0 < c) (hc' : c ≤ 200) (H : Held D M l q acc done c mark)
    (h0 : ∀ t, 0 ≤ D.res M t l) (a : ℕ → EReal)
    (ha0 : D.act l → done = 0 → ∀ r < 8, a r = D.res M (8 * q + r) l) (ha1 : D.act l → done = 1 → ∀ r, 0 ≤ a r)
    (hai : ¬ D.act l → ∀ r, a r = 0)
    (hacc : acc' = run acc a 7) (hdone : done' = if 200 < run acc a 7 then 1 else done)
    (hmark : mark' ↔ mark ∨ ∃ r < 8, c = run acc a r) : Held D M l (q + 1) acc' done' c mark' := by
  by_cases h : D.act l
  · rcases H.active h with ⟨hd, hacc0, hle⟩ | ⟨hd, hacc1, hgt⟩
    · have hr : ∀ r < 8, run acc a r = D.sums M l (8 * q + r + 1) := fun r hr => by
        rw [hacc0]; exact run_sums (ha0 h hd) r hr
      have h7 : run acc a 7 = D.sums M l (8 * (q + 1)) := hr 7 (by omega)
      refine ⟨fun _ => ?_, fun h' => absurd h h', ?_⟩
      · rw [hdone, hacc, h7]
        by_cases hg : 200 < D.sums M l (8 * (q + 1))
        · exact .inr ⟨if_pos hg, hg, hg⟩
        · exact .inl ⟨(if_neg hg).trans hd, rfl, not_lt.mp hg⟩
      · rw [hmark, H.marked]
        constructor
        · rintro (⟨t, ht, ht', e⟩ | ⟨r, hr', e⟩)
          · exact ⟨t, ht, by omega, e⟩
          · exact ⟨8 * q + r + 1, by omega, by omega, ((hr r hr').symm.trans e.symm)⟩
        · rintro ⟨t, ht, ht', e⟩
          by_cases hl : t ≤ 8 * q
          · exact .inl ⟨t, ht, hl, e⟩
          · refine .inr ⟨t - (8 * q + 1), by omega, ?_⟩
            rw [hr _ (by omega), show 8 * q + (t - (8 * q + 1)) + 1 = t by omega, e]
    · have hr : ∀ r, 200 < run acc a r := fun r => hacc1.trans_le (run_le (ha1 h hd) r)
      refine ⟨fun _ => .inr ⟨?_, ?_, ?_⟩, fun h' => absurd h h', ?_⟩
      · rw [hdone, hd, ite_self]
      · rw [hacc]; exact hr 7
      · exact hgt.trans_le (D.sums_mono h0 (by omega))
      · rw [hmark, H.marked]
        constructor
        · rintro (⟨t, ht, ht', e⟩ | ⟨r, _, e⟩)
          · exact ⟨t, ht, by omega, e⟩
          · exact absurd (e ▸ hr r) (not_lt.mpr hc')
        · rintro ⟨t, ht, ht', e⟩
          by_cases hl : t ≤ 8 * q
          · exact .inl ⟨t, ht, hl, e⟩
          · have := hgt.trans_le (D.sums_mono h0 (show 8 * q ≤ t by omega))
            rw [e] at this
            exact absurd this (not_lt.mpr hc')
  · obtain ⟨hd, hacc0⟩ := H.inactive h
    have hr : ∀ r, run acc a r = 0 := fun r => by
      induction r with
      | zero => rw [run, hacc0, hai h, add_zero]
      | succ r ih => rw [run, ih, hai h, add_zero]
    refine ⟨fun h' => absurd h' h, fun _ => ⟨?_, ?_⟩, ?_⟩
    · rw [hdone, hd, ite_self]
    · rw [hacc, hr]
    · rw [hmark, H.marked]
      constructor
      · rintro (⟨t, ht, ht', e⟩ | ⟨r, _, e⟩)
        · exact ⟨t, ht, by omega, e⟩
        · rw [hr] at e; exact absurd hc (by rw [e]; exact lt_irrefl _)
      · rintro ⟨t, ht, ht', e⟩
        rw [Data.sums_inactive h] at e
        exact absurd hc (by rw [← e]; exact lt_irrefl _)

/-- At the end of the blocks, or where the lane has finished, its marks are the slots its prefix sums reach. -/
theorem Held.final {D : Data} {M l q : ℕ} {acc done c : EReal} {mark : Prop} (H : Held D M l q acc done c mark)
    (h0 : ∀ t, 0 ≤ D.res M t l) (hq : q ≤ 26) (hend : q = 26 ∨ done ≠ 0) (hc : 0 < c) (hc' : c ≤ 200) : mark ↔ D.Mark M l c := by
  rw [H.marked]
  constructor
  · rintro ⟨t, ht, ht', e⟩
    by_cases hl : t ≤ 201
    · exact ⟨t, ht, hl, e⟩
    · refine ⟨201, by omega, le_rfl, ?_⟩
      rw [← e, show t = 201 + (t - 201) by omega, Data.sums_end]
  · rintro ⟨t, ht, ht', e⟩
    by_cases hl : t ≤ 8 * q
    · exact ⟨t, ht, hl, e⟩
    · exfalso
      rcases hend with rfl | hd
      · omega
      · by_cases h : D.act l
        · rcases H.active h with ⟨h', _⟩ | ⟨_, _, hgt⟩
          · exact hd h'
          · have := hgt.trans_le (D.sums_mono h0 (show 8 * q ≤ t by omega))
            rw [e] at this
            exact absurd this (not_lt.mpr hc')
        · rw [Data.sums_inactive h] at e
          exact absurd hc (by rw [← e]; exact lt_irrefl _)

end Cert.Proof
-- ==== Proof.Lits.lean ====
/-
  The literals both programs' values turn on, as numbers, and tests and selections of numbers as cases.
-/
module

public import proofs.«01_k».proof.Proof.Draw

@[expose] public section

noncomputable section

namespace Cert.Proof

open Idealize.ShloMosaic
open scoped Classical

theorem lit_zero : lit 0x00000000#32 = (0 : EReal) := by unfold lit; pointwise
theorem lit_one : lit 0x3F800000#32 = (1 : EReal) := by unfold lit; pointwise
theorem lit_200 : lit 0x43480000#32 = (200 : EReal) := by
  show Ideal.ofBits .f32 0x43480000#32 = _
  simp [Ideal.ofBits, Ideal.ieee, -EReal.coe_mul]; norm_num; try rfl
theorem lit_10 : lit 0x41200000#32 = (10 : EReal) := by
  show Ideal.ofBits .f32 0x41200000#32 = _
  simp [Ideal.ofBits, Ideal.ieee, -EReal.coe_mul]; norm_num; try rfl
theorem lit_100 : lit 0x42C80000#32 = (100 : EReal) := by
  show Ideal.ofBits .f32 0x42C80000#32 = _
  simp [Ideal.ofBits, Ideal.ieee, -EReal.coe_mul]; norm_num; try rfl
theorem lit_1000 : lit 0x447A0000#32 = (1000 : EReal) := by
  show Ideal.ofBits .f32 0x447A0000#32 = _
  simp [Ideal.ofBits, Ideal.ieee, -EReal.coe_mul]; norm_num; try rfl
theorem lit_top : lit 0x7F800000#32 = (⊤ : EReal) := by
  show Ideal.ofBits .f32 0x7F800000#32 = _
  simp [Ideal.ofBits, Ideal.ieee]
theorem lit_bot : lit 0xFF800000#32 = (⊥ : EReal) := by
  show Ideal.ofBits .f32 0xFF800000#32 = _
  simp [Ideal.ofBits, Ideal.ieee]

theorem ofBool_one (p : Prop) [Decidable p] : BitVec.ofBool (decide p) = 1#1 ↔ p := by
  by_cases h : p <;> simp [h]

theorem select_if {α : Type} (b : BitVec 1) (x y : α) : Scalar.select b x y = if b = 1#1 then x else y := by
  unfold Scalar.select; rfl

theorem oeq_iff (a b : R) : FloatOps.cmpf .oeq a b = 1#1 ↔ a = b := ofBool_one _
theorem une_iff (a b : R) : FloatOps.cmpf .une a b = 1#1 ↔ a ≠ b := ofBool_one _
theorem olt_iff (a b : R) : FloatOps.cmpf .olt a b = 1#1 ↔ (a : EReal) < b := ofBool_one _
theorem ogt_iff (a b : R) : FloatOps.cmpf .ogt a b = 1#1 ↔ (b : EReal) < a := ofBool_one _
theorem ole_iff (a b : R) : FloatOps.cmpf .ole a b = 1#1 ↔ (a : EReal) ≤ b := ofBool_one _
theorem oge_iff (a b : R) : FloatOps.cmpf .oge a b = 1#1 ↔ (b : EReal) ≤ a := ofBool_one _
theorem and_iff (a b : BitVec 1) : IntOp.andi a b = 1#1 ↔ a = 1#1 ∧ b = 1#1 := by revert a b; decide
theorem or_iff (a b : BitVec 1) : IntOp.ori a b = 1#1 ↔ a = 1#1 ∨ b = 1#1 := by revert a b; decide
theorem xor_one_iff (a : BitVec 1) : IntOp.xori a 1#1 = 1#1 ↔ ¬ a = 1#1 := by revert a; decide
theorem extui_ne (a : BitVec 1) : a.setWidth 32 ≠ 0#32 ↔ a = 1#1 := by revert a; decide

/-! ## A largest entry over everything -/

theorem test_iff {s u t : Shape} {axes : List (Fin u.rank)} (a : FVec Ideal s .f32) (hc : s.ShapeCasts u) (h : u.Reduces axes t) (hφ) (hacc) (j : t.Idx)
    (hj : ∀ i : t.Idx, i = j) :
    Scalar.cmpf .ogt (multiReduction .maximumf axes t
        (shapeCast u (select (cmpf .oeq a (broadcast s (Scalar.ofBits .f32 0x00000000#32 : Ideal .f32))) (broadcast s (Scalar.ofBits .f32 0x3F800000#32)) (broadcast s (Scalar.ofBits .f32 0x00000000#32))) hc)
        0xFF800000#32 h hφ hacc j) (Scalar.ofBits .f32 0x00000000#32 : Ideal .f32) = 1#1 ↔ ∃ x, a x = (0 : EReal) := by
  rw [multiReduction_maximumf_eq_fold]
  refine (ogt_iff _ _).trans ?_
  refine (Finset.lt_fold_max (β := EReal) _).trans ?_
  have h0 : (FloatOps.ofBits (F := Ideal) .f32 0x00000000#32 : EReal) = 0 := lit_zero
  have h1 : (FloatOps.ofBits (F := Ideal) .f32 0x3F800000#32 : EReal) = 1 := lit_one
  have hb : (FloatOps.ofBits (F := Ideal) .f32 0xFF800000#32 : EReal) = ⊥ := lit_bot
  constructor
  · rintro (hl | ⟨y, -, hy⟩)
    · rw [hb] at hl; exact absurd hl not_lt_bot
    · refine ⟨Shape.reshapeEquiv hc y, ?_⟩
      by_contra hn
      have : Scalar.select (FloatOps.cmpf .oeq (a (Shape.reshapeEquiv hc y)) (lit 0x00000000#32)) (lit 0x3F800000#32) (lit 0x00000000#32) = lit 0x00000000#32 := by
        rw [select_if, if_neg]; rw [oeq_iff, lit_zero]; exact hn
      exact absurd (hy.trans_eq this) (lt_irrefl _)
  · rintro ⟨x, hx⟩
    refine .inr ⟨(Shape.reshapeEquiv hc).symm x, Finset.mem_filter.mpr ⟨Finset.mem_univ _, hj _⟩, ?_⟩
    have : Scalar.select (FloatOps.cmpf .oeq (a (Shape.reshapeEquiv hc ((Shape.reshapeEquiv hc).symm x))) (lit 0x00000000#32)) (lit 0x3F800000#32) (lit 0x00000000#32) = lit 0x3F800000#32 := by
      rw [select_if, if_pos]; rw [oeq_iff, lit_zero, Equiv.apply_symm_apply]; exact hx
    refine lt_of_lt_of_eq ?_ this.symm
    rw [lit_one]; refine lt_of_eq_of_lt h0 ?_; exact zero_lt_one

end Cert.Proof
-- ==== Proof.Host.lean ====
/-
  The host's part at one element: the rate of a pixel, the sampler's parameters of a rate, which pixels fire at all, and the draws of a
  whole image.
-/
module

public import proofs.«01_k».proof.Proof.Model
public import proofs.«01_k».proof.Proof.Lits

@[expose] public section

noncomputable section

namespace Cert.Proof

open Idealize.ShloMosaic
open scoped Classical

def freqX (x : R) : R := FloatOps.mulf (lit 0x42C80000#32) x
def perX (x : R) : R := FloatOps.divf (lit 0x3F800000#32) (freqX x)
def nanX (y : R) : R := Scalar.select (FloatOps.cmpf .une y y) (lit 0x00000000#32) y
def posX (y : R) : R := Scalar.select (FloatOps.cmpf .oeq y (lit 0x7F800000#32)) (lit 0x00000000#32) y
def negX (y : R) : R := Scalar.select (FloatOps.cmpf .oeq y (lit 0xFF800000#32)) (lit 0x00000000#32) y
/-- The mean of a pixel's intervals. -/
def rateX (x : R) : R := FloatOps.mulf (negX (posX (nanX (perX x)))) (lit 0x447A0000#32)
/-- The pixel has no rate the rejection sampler takes. -/
def lowX (x : R) : BitVec 1 := IntOp.ori (FloatOps.cmpf .une (rateX x) (rateX x)) (FloatOps.cmpf .olt (rateX x) (lit 0x41200000#32))
def lamX (x : R) : R := Scalar.select (lowX x) (lit 0x47C35000#32) (rateX x)
def bX (x : R) : R := FloatOps.addf (lit 0x3F6E5604#32) (FloatOps.mulf (lit 0x4021EB85#32) (FloatOps.sqrt (lamX x)))
def laneX (x : R) : Lane where
  lam := lamX x
  a := FloatOps.addf (lit 0xBD71A9FC#32) (FloatOps.mulf (lit 0x3CCB6849#32) (bX x))
  b := bX x
  ia := FloatOps.addf (lit 0x3F8FDBF5#32) (FloatOps.divf (lit 0x3F90FF97#32) (FloatOps.subf (bX x) (lit 0x4059999A#32)))
  ll := FloatOps.log (lamX x)
  vr := FloatOps.subf (lit 0x3F6D7DBF#32) (FloatOps.divf (lit 0x4067D567#32) (FloatOps.subf (bX x) (lit 0x40000000#32)))

/-- The row and the column of lane `l`. -/
def rowOf (l : ℕ) : Fin 64 := ⟨l / 1024 % 64, Nat.mod_lt _ (by decide)⟩
def colOf (l : ℕ) : Fin 1024 := ⟨l % 1024, Nat.mod_lt _ (by decide)⟩

theorem rowOf_lane (r : Fin 64) (c : Fin 1024) : rowOf (1024 * r.val + c.val) = r := Fin.ext (by show (1024 * r.val + c.val) / 1024 % 64 = r.val; omega)
theorem colOf_lane (r : Fin 64) (c : Fin 1024) : colOf (1024 * r.val + c.val) = c := Fin.ext (by show (1024 * r.val + c.val) % 1024 = c.val; omega)

/-- The draws of an image under a table of keys. -/
def dataOf (x : Fin 64 → Fin 1024 → R) (tab : Fin 24 → Fin 4 → BitVec 32) : Data where
  lane l := laneX (x (rowOf l) (colOf l))
  act l := ¬ lowX (x (rowOf l) (colOf l)) = 1#1
  key j q := tab ⟨j % 24, Nat.mod_lt _ (by decide)⟩ q

end Cert.Proof
-- ==== Proof.KI.Params.lean ====
/-
  What the first kernel's operands hold: the sampler's parameters of every pixel, and the table of keys.
-/
module

public import proofs.«01_k».proof.Proof.KI.Run
public import proofs.«01_k».proof.Proof.Host
public import Idealize.ShloMosaic.Lib.StableHlo.RunRead

@[expose] public section

noncomputable section

namespace Cert.Proof.KI

open Cert.KernelIdeal Cert.KernelIdeal.Gen
open Idealize.ShloMosaic Idealize.ShloMosaic.TcCoe

variable (m : (ℓ : Loc nD τ sig) → Buf (Elt Ideal) ℓ) (c : Dev nD)

/-- The image. -/
abbrev img : S64x1024.Idx → Ideal .f32 := m ((c.tc : Thread nD τ).loc main_arg0)

/-- Lane `z` of the reshaped image. -/
abbrev lay (z : S1x65536.Idx) : S64x1024.Idx := Shape.reshapeEquiv shapeCasts_S64x1024_S1x65536 z

theorem v1_eq : V1 m c main_v3 = fun j => perX (img m c j) := by
  unfold V1 V0
  after_reads_simp
  rfl
theorem v1_c1 : V1 m c main_cst_1 = constant (F := Ideal) S_ .f32 0x00000000#32 := by
  unfold V1 V0
  after_reads_simp
theorem v1_c2 : V1 m c main_cst_2 = constant (F := Ideal) S_ .f32 0x00000000#32 := by
  unfold V1 V0
  after_reads_simp
section Stretches

variable (V : Valuation τ sig (Elt Ideal))

theorem read1 (f : S64x1024.Idx → R) (h : V main_v3 = f) (h1 : V main_cst_1 = constant (F := Ideal) S_ .f32 0x00000000#32)
    (h2 : V main_cst_2 = constant (F := Ideal) S_ .f32 0x00000000#32) :
    StableHlo.after hostOps0_1 V main_v4 = fun j => negX (posX (nanX (f j))) := by
  after_reads_simp
  rw [h, h1, h2]
  rfl
theorem read2_7 (f : S64x1024.Idx → R) (h : V main_v4 = f) :
    StableHlo.after hostOps0_2 V main_v7 = fun z => FloatOps.mulf (f (lay z)) (lit 0x447A0000#32) := by
  after_reads_simp
  rw [h]
  rfl
/-- The rate, from the interval's mean. -/
def lowR (y : R) : BitVec 1 := IntOp.ori (FloatOps.cmpf .une (FloatOps.mulf y (lit 0x447A0000#32)) (FloatOps.mulf y (lit 0x447A0000#32)))
  (FloatOps.cmpf .olt (FloatOps.mulf y (lit 0x447A0000#32)) (lit 0x41200000#32))

theorem read2_11 (f : S64x1024.Idx → R) (h : V main_v4 = f) :
    StableHlo.after hostOps0_2 V main_v11 = fun z => lowR (f (lay z)) := by
  after_reads_simp
  rw [h]
  rfl
theorem read2_5 : StableHlo.after hostOps0_2 V main_cst_5 = constant (F := Ideal) S_ .f32 0x47C35000#32 := by
  after_reads_simp
theorem read3_12 (f : S1x65536.Idx → R) (g : S1x65536.Idx → BitVec 1) (h : V main_v7 = f) (hg : V main_v11 = g)
    (h5 : V main_cst_5 = constant (F := Ideal) S_ .f32 0x47C35000#32) :
    StableHlo.after hostOps0_3 V main_v12 = fun z => Scalar.select (g z) (lit 0x47C35000#32) (f z) := by
  after_reads_simp
  rw [h, hg, h5]
  rfl
theorem read3_11 : StableHlo.after hostOps0_3 V main_v11 = V main_v11 := by
  after_reads_simp

/-- The parameters of a rate. -/
def laneL (l : R) : Lane :=
  let b : R := FloatOps.addf (lit 0x3F6E5604#32) (FloatOps.mulf (lit 0x4021EB85#32) (FloatOps.sqrt l))
  ⟨l, FloatOps.addf (lit 0xBD71A9FC#32) (FloatOps.mulf (lit 0x3CCB6849#32) b), b,
    FloatOps.addf (lit 0x3F8FDBF5#32) (FloatOps.divf (lit 0x3F90FF97#32) (FloatOps.subf b (lit 0x4059999A#32))), FloatOps.log l,
    FloatOps.subf (lit 0x3F6D7DBF#32) (FloatOps.divf (lit 0x4067D567#32) (FloatOps.subf b (lit 0x40000000#32)))⟩

variable (f : S1x65536.Idx → R) (h : V main_v12 = f)
include h
theorem read4_12 : StableHlo.after hostOps0_4 V main_v12 = fun z => (laneL (f z)).lam := by
  after_reads_simp; rw [h]; rfl
theorem read4_18 : StableHlo.after hostOps0_4 V main_v18 = fun z => (laneL (f z)).b := by
  after_reads_simp; rw [h]; rfl
theorem read4_22 : StableHlo.after hostOps0_4 V main_v22 = fun z => (laneL (f z)).a := by
  after_reads_simp; rw [h]; rfl
theorem read4_28 : StableHlo.after hostOps0_4 V main_v28 = fun z => (laneL (f z)).ia := by
  after_reads_simp; rw [h]; rfl
theorem read4_34 : StableHlo.after hostOps0_4 V main_v34 = fun z => (laneL (f z)).vr := by
  after_reads_simp; rw [h]; rfl
theorem read4_13 : StableHlo.after hostOps0_4 V main_v13 = fun z => (laneL (f z)).ll := by
  after_reads_simp; rw [h]; rfl
omit h f in
theorem read4_36 (g : S1x65536.Idx → BitVec 1) (hg : V main_v11 = g) : StableHlo.after hostOps0_4 V main_v36 = fun z => (~~~ (g z)).setWidth 32 := by
  after_reads_simp; rw [hg]; rfl

end Stretches

theorem v2_eq : V2 m c main_v4 = fun j => negX (posX (nanX (perX (img m c j)))) := read1 _ _ (v1_eq m c) (v1_c1 m c) (v1_c2 m c)
theorem v3_7 : V3 m c main_v7 = fun z => rateX (img m c (lay z)) := read2_7 _ _ (v2_eq m c)
theorem lowR_eq (x : R) : lowR (negX (posX (nanX (perX x)))) = lowX x := rfl
theorem v3_11 : V3 m c main_v11 = fun z => lowX (img m c (lay z)) :=
  (read2_11 _ _ (v2_eq m c)).trans (funext fun z => lowR_eq (img m c (lay z)))
theorem v4_12 : V4 m c main_v12 = fun z => lamX (img m c (lay z)) := read3_12 _ _ _ (v3_7 m c) (v3_11 m c) (read2_5 _)
theorem v4_11 : V4 m c main_v11 = fun z => lowX (img m c (lay z)) := (read3_11 _).trans (v3_11 m c)
theorem v5_12 : V5 m c main_v12 = fun z => (laneX (img m c (lay z))).lam := read4_12 _ _ (v4_12 m c)
theorem v5_18 : V5 m c main_v18 = fun z => (laneX (img m c (lay z))).b := read4_18 _ _ (v4_12 m c)
theorem v5_22 : V5 m c main_v22 = fun z => (laneX (img m c (lay z))).a := read4_22 _ _ (v4_12 m c)
theorem v5_28 : V5 m c main_v28 = fun z => (laneX (img m c (lay z))).ia := read4_28 _ _ (v4_12 m c)
theorem v5_34 : V5 m c main_v34 = fun z => (laneX (img m c (lay z))).vr := read4_34 _ _ (v4_12 m c)
theorem v5_13 : V5 m c main_v13 = fun z => (laneX (img m c (lay z))).ll := read4_13 _ _ (v4_12 m c)
theorem v5_36 : V5 m c main_v36 = fun z => (~~~ lowX (img m c (lay z))).setWidth 32 := read4_36 _ _ (v4_11 m c)
theorem v5_c : V5 m c main_c = fun i => lit0 (S24x4.rowMajor i) := by
  unfold V5 V4 V3 V2 V1 V0
  after_reads_simp
  rfl

theorem lay_eq (l : Fin 65536) : lay (ix2 (0 : Fin 1) l) = ix2 (rowOf l.val) (colOf l.val) := by
  have e : shapeCast S1x65536 (fun j : S64x1024.Idx => j) shapeCasts_S64x1024_S1x65536 (ix2 (0 : Fin 1) l) = ix2 (rowOf l.val) (colOf l.val) := by
    pointwise
    refine congrArg₂ ix2 (Fin.ext ?_) rfl
    show l.val / 1024 = l.val / 1024 % 64
    have := l.isLt
    omega
  exact e

end Cert.Proof.KI
-- ==== Proof.KI.Draw0.lean ====
/-
  The draws of the first kernel read at an index: the two random words stage by stage, the two uniform numbers, and the round's flag.
-/
module

public import proofs.«01_k».proof.Proof.Draw
public import proofs.«01_k».proof.Proof.KI.Body0

@[expose] public section

noncomputable section

namespace Cert.Proof.KI

open Cert.KernelIdeal Cert.KernelIdeal.Gen
open Idealize.ShloMosaic

theorem u14_at (w : IVec S8x2048 32) (k0 k1 : BitVec 32) (x : S8x2048.Idx) : k0_pay14 (F := Ideal) w k1 x = (st0 k0 k1 (w x)).2 := by
  unfold k0_pay14; exact sum_at rfl rfl

theorem u15_at (w : IVec S8x2048 32) (k0 k1 : BitVec 32) (x : S8x2048.Idx) : k0_pay15 (F := Ideal) w k0 k1 x = (st0 k0 k1 (w x)).1 := by
  unfold k0_pay15; exact sum_at ((sum_at (v := 0#32) (w := k0) rfl rfl).trans (BitVec.zero_add _)) (u14_at w k0 k1 x)

theorem u16_at (w : IVec S8x2048 32) (k0 k1 : BitVec 32) (x : S8x2048.Idx) : k0_pay16 (F := Ideal) w k0 k1 x = (st1 k0 k1 (w x)).2 := by
  unfold k0_pay16; exact half_k (r := 13#32) (r' := 19#32) (u15_at w k0 k1 x) (u14_at w k0 k1 x) rfl rfl (by decide) (by decide)

theorem u17_at (w : IVec S8x2048 32) (k0 k1 : BitVec 32) (x : S8x2048.Idx) : k0_pay17 (F := Ideal) w k0 k1 x = (st1 k0 k1 (w x)).1 := by
  unfold k0_pay17; exact sum_at (u15_at w k0 k1 x) (u16_at w k0 k1 x)

theorem u18_at (w : IVec S8x2048 32) (k0 k1 : BitVec 32) (x : S8x2048.Idx) : k0_pay18 (F := Ideal) w k0 k1 x = (st2 k0 k1 (w x)).2 := by
  unfold k0_pay18; exact half_k (r := 15#32) (r' := 17#32) (u17_at w k0 k1 x) (u16_at w k0 k1 x) rfl rfl (by decide) (by decide)

theorem u19_at (w : IVec S8x2048 32) (k0 k1 : BitVec 32) (x : S8x2048.Idx) : k0_pay19 (F := Ideal) w k0 k1 x = (st2 k0 k1 (w x)).1 := by
  unfold k0_pay19; exact sum_at (u17_at w k0 k1 x) (u18_at w k0 k1 x)

theorem u20_at (w : IVec S8x2048 32) (k0 k1 : BitVec 32) (x : S8x2048.Idx) : k0_pay20 (F := Ideal) w k0 k1 x = (st3 k0 k1 (w x)).2 := by
  unfold k0_pay20; exact half_k (r := 26#32) (r' := 6#32) (u19_at w k0 k1 x) (u18_at w k0 k1 x) rfl rfl (by decide) (by decide)

theorem u21_at (w : IVec S8x2048 32) (k0 k1 : BitVec 32) (x : S8x2048.Idx) : k0_pay21 (F := Ideal) w k0 k1 x = (st3 k0 k1 (w x)).1 := by
  unfold k0_pay21; exact sum_at (u19_at w k0 k1 x) (u20_at w k0 k1 x)

theorem u22_at (w : IVec S8x2048 32) (k0 k1 : BitVec 32) (x : S8x2048.Idx) : k0_pay22 (F := Ideal) w k0 k1 x = (st3 k0 k1 (w x)).1 ^^^ rot 6#32 26#32 (st3 k0 k1 (w x)).2 := by
  unfold k0_pay22; exact half_k (r := 6#32) (r' := 26#32) (u21_at w k0 k1 x) (u20_at w k0 k1 x) rfl rfl (by decide) (by decide)

theorem u23_at (w : IVec S8x2048 32) (k0 k1 : BitVec 32) (x : S8x2048.Idx) : k0_pay23 (F := Ideal) w k0 k1 x = (st3 k0 k1 (w x)).1 + k1 := by
  unfold k0_pay23; exact sum_at (u21_at w k0 k1 x) rfl

theorem u24_at (w : IVec S8x2048 32) (k0 k1 : BitVec 32) (x : S8x2048.Idx) : k0_pay24 (k0 ^^^ k1 ^^^ 466688986#32) (k0_pay22 (F := Ideal) w k0 k1) x = (st4 k0 k1 (w x)).2 := by
  unfold k0_pay24; exact sum_at (sum_at (u22_at w k0 k1 x) rfl) rfl

theorem u25_at (w : IVec S8x2048 32) (k0 k1 : BitVec 32) (x : S8x2048.Idx) : k0_pay25 (k0 ^^^ k1 ^^^ 466688986#32) (k0_pay22 (F := Ideal) w k0 k1) (k0_pay23 (F := Ideal) w k0 k1) x = (st4 k0 k1 (w x)).1 := by
  unfold k0_pay25; exact sum_at (u23_at w k0 k1 x) (u24_at w k0 k1 x)

theorem u26_at (w : IVec S8x2048 32) (k0 k1 : BitVec 32) (x : S8x2048.Idx) : k0_pay26 (k0 ^^^ k1 ^^^ 466688986#32) (k0_pay22 (F := Ideal) w k0 k1) (k0_pay23 (F := Ideal) w k0 k1) x = (st5 k0 k1 (w x)).2 := by
  unfold k0_pay26; exact half_k (r := 17#32) (r' := 15#32) (u25_at w k0 k1 x) (u24_at w k0 k1 x) rfl rfl (by decide) (by decide)

theorem u27_at (w : IVec S8x2048 32) (k0 k1 : BitVec 32) (x : S8x2048.Idx) : k0_pay27 (k0 ^^^ k1 ^^^ 466688986#32) (k0_pay22 (F := Ideal) w k0 k1) (k0_pay23 (F := Ideal) w k0 k1) x = (st5 k0 k1 (w x)).1 := by
  unfold k0_pay27; exact sum_at (u25_at w k0 k1 x) (u26_at w k0 k1 x)

theorem u28_at (w : IVec S8x2048 32) (k0 k1 : BitVec 32) (x : S8x2048.Idx) : k0_pay28 (k0 ^^^ k1 ^^^ 466688986#32) (k0_pay22 (F := Ideal) w k0 k1) (k0_pay23 (F := Ideal) w k0 k1) x = (st6 k0 k1 (w x)).2 := by
  unfold k0_pay28; exact half_k (r := 29#32) (r' := 3#32) (u27_at w k0 k1 x) (u26_at w k0 k1 x) rfl rfl (by decide) (by decide)

theorem u29_at (w : IVec S8x2048 32) (k0 k1 : BitVec 32) (x : S8x2048.Idx) : k0_pay29 (k0 ^^^ k1 ^^^ 466688986#32) (k0_pay22 (F := Ideal) w k0 k1) (k0_pay23 (F := Ideal) w k0 k1) x = (st6 k0 k1 (w x)).1 := by
  unfold k0_pay29; exact sum_at (u27_at w k0 k1 x) (u28_at w k0 k1 x)

theorem u30_at (w : IVec S8x2048 32) (k0 k1 : BitVec 32) (x : S8x2048.Idx) : k0_pay30 (k0 ^^^ k1 ^^^ 466688986#32) (k0_pay22 (F := Ideal) w k0 k1) (k0_pay23 (F := Ideal) w k0 k1) x = (st7 k0 k1 (w x)).2 := by
  unfold k0_pay30; exact half_k (r := 16#32) (r' := 16#32) (u29_at w k0 k1 x) (u28_at w k0 k1 x) rfl rfl (by decide) (by decide)

theorem u31_at (w : IVec S8x2048 32) (k0 k1 : BitVec 32) (x : S8x2048.Idx) : k0_pay31 (k0 ^^^ k1 ^^^ 466688986#32) (k0_pay22 (F := Ideal) w k0 k1) (k0_pay23 (F := Ideal) w k0 k1) x = (st7 k0 k1 (w x)).1 := by
  unfold k0_pay31; exact sum_at (u29_at w k0 k1 x) (u30_at w k0 k1 x)

theorem u32_at (w : IVec S8x2048 32) (k0 k1 : BitVec 32) (x : S8x2048.Idx) : k0_pay32 (F := Ideal) k0 (k0 ^^^ k1 ^^^ 466688986#32) (k0_pay22 (F := Ideal) w k0 k1) (k0_pay23 (F := Ideal) w k0 k1) x = (st8 k0 k1 (w x)).2 := by
  unfold k0_pay32; exact sum_at (sum_at (half_k (r := 24#32) (r' := 8#32) (u31_at w k0 k1 x) (u30_at w k0 k1 x) rfl rfl (by decide) (by decide)) rfl) rfl

theorem u33_at (w : IVec S8x2048 32) (k0 k1 : BitVec 32) (x : S8x2048.Idx) : k0_pay33 (F := Ideal) k0 (k0 ^^^ k1 ^^^ 466688986#32) (k0_pay22 (F := Ideal) w k0 k1) (k0_pay23 (F := Ideal) w k0 k1) x = (st8 k0 k1 (w x)).1 := by
  unfold k0_pay33; exact sum_at (sum_at (u31_at w k0 k1 x) rfl) (u32_at w k0 k1 x)

theorem u34_at (w : IVec S8x2048 32) (k0 k1 : BitVec 32) (x : S8x2048.Idx) : k0_pay34 (F := Ideal) k0 (k0 ^^^ k1 ^^^ 466688986#32) (k0_pay22 (F := Ideal) w k0 k1) (k0_pay23 (F := Ideal) w k0 k1) x = (st9 k0 k1 (w x)).2 := by
  unfold k0_pay34; exact half_k (r := 13#32) (r' := 19#32) (u33_at w k0 k1 x) (u32_at w k0 k1 x) rfl rfl (by decide) (by decide)

theorem u35_at (w : IVec S8x2048 32) (k0 k1 : BitVec 32) (x : S8x2048.Idx) : k0_pay35 (F := Ideal) k0 (k0 ^^^ k1 ^^^ 466688986#32) (k0_pay22 (F := Ideal) w k0 k1) (k0_pay23 (F := Ideal) w k0 k1) x = (st9 k0 k1 (w x)).1 := by
  unfold k0_pay35; exact sum_at (u33_at w k0 k1 x) (u34_at w k0 k1 x)

abbrev uy9 (w : IVec S8x2048 32) (k0 k1 : BitVec 32) : IVec S8x2048 32 := k0_pay34 (F := Ideal) k0 (k0 ^^^ k1 ^^^ 466688986#32) (k0_pay22 (F := Ideal) w k0 k1) (k0_pay23 (F := Ideal) w k0 k1)

abbrev ux9 (w : IVec S8x2048 32) (k0 k1 : BitVec 32) : IVec S8x2048 32 := k0_pay35 (F := Ideal) k0 (k0 ^^^ k1 ^^^ 466688986#32) (k0_pay22 (F := Ideal) w k0 k1) (k0_pay23 (F := Ideal) w k0 k1)

theorem u37_at (w : IVec S8x2048 32) (k0 k1 : BitVec 32) (x : S8x2048.Idx) : k0_pay37 (uy9 w k0 k1) (ux9 w k0 k1) k0_pay36 x = (st10 k0 k1 (w x)).2 := by
  unfold k0_pay37; exact half_k (r := 15#32) (r' := 17#32) (u35_at w k0 k1 x) (u34_at w k0 k1 x) rfl rfl (by decide) (by decide)

theorem u38_at (w : IVec S8x2048 32) (k0 k1 : BitVec 32) (x : S8x2048.Idx) : k0_pay38 (uy9 w k0 k1) (ux9 w k0 k1) k0_pay36 x = (st10 k0 k1 (w x)).1 := by
  unfold k0_pay38; exact sum_at (u35_at w k0 k1 x) (u37_at w k0 k1 x)

theorem u39_at (w : IVec S8x2048 32) (k0 k1 : BitVec 32) (x : S8x2048.Idx) : k0_pay39 (uy9 w k0 k1) (ux9 w k0 k1) k0_pay36 x = (st11 k0 k1 (w x)).2 := by
  unfold k0_pay39; exact half_k (r := 26#32) (r' := 6#32) (u38_at w k0 k1 x) (u37_at w k0 k1 x) rfl rfl (by decide) (by decide)

theorem u40_at (w : IVec S8x2048 32) (k0 k1 : BitVec 32) (x : S8x2048.Idx) : k0_pay40 (uy9 w k0 k1) (ux9 w k0 k1) k0_pay36 x = (st11 k0 k1 (w x)).1 := by
  unfold k0_pay40; exact sum_at (u38_at w k0 k1 x) (u39_at w k0 k1 x)

theorem u41_at (w : IVec S8x2048 32) (k0 k1 : BitVec 32) (x : S8x2048.Idx) : k0_pay41 (F := Ideal) k1 (uy9 w k0 k1) (ux9 w k0 k1) k0_pay36 x = (st12 k0 k1 (w x)).2 := by
  unfold k0_pay41; exact sum_at (sum_at (half_k (r := 6#32) (r' := 26#32) (u40_at w k0 k1 x) (u39_at w k0 k1 x) rfl rfl (by decide) (by decide)) rfl) rfl

theorem u42_at (w : IVec S8x2048 32) (k0 k1 : BitVec 32) (x : S8x2048.Idx) : k0_pay42 (F := Ideal) k0 k1 (uy9 w k0 k1) (ux9 w k0 k1) k0_pay36 x = (st12 k0 k1 (w x)).1 := by
  unfold k0_pay42; exact sum_at (sum_at (u40_at w k0 k1 x) rfl) (u41_at w k0 k1 x)

theorem u43_at (w : IVec S8x2048 32) (k0 k1 : BitVec 32) (x : S8x2048.Idx) : k0_pay43 (F := Ideal) k0 k1 (uy9 w k0 k1) (ux9 w k0 k1) k0_pay36 x = (st13 k0 k1 (w x)).2 := by
  unfold k0_pay43; exact half_k (r := 17#32) (r' := 15#32) (u42_at w k0 k1 x) (u41_at w k0 k1 x) rfl rfl (by decide) (by decide)

theorem u44_at (w : IVec S8x2048 32) (k0 k1 : BitVec 32) (x : S8x2048.Idx) : k0_pay44 (F := Ideal) k0 k1 (uy9 w k0 k1) (ux9 w k0 k1) k0_pay36 x = (st13 k0 k1 (w x)).1 := by
  unfold k0_pay44; exact sum_at (u42_at w k0 k1 x) (u43_at w k0 k1 x)

theorem u45_at (w : IVec S8x2048 32) (k0 k1 : BitVec 32) (x : S8x2048.Idx) : k0_pay45 (F := Ideal) k0 k1 (uy9 w k0 k1) (ux9 w k0 k1) k0_pay36 x = (st14 k0 k1 (w x)).2 := by
  unfold k0_pay45; exact half_k (r := 29#32) (r' := 3#32) (u44_at w k0 k1 x) (u43_at w k0 k1 x) rfl rfl (by decide) (by decide)

theorem u46_at (w : IVec S8x2048 32) (k0 k1 : BitVec 32) (x : S8x2048.Idx) : k0_pay46 (F := Ideal) k0 k1 (uy9 w k0 k1) (ux9 w k0 k1) k0_pay36 x = (st14 k0 k1 (w x)).1 := by
  unfold k0_pay46; exact sum_at (u44_at w k0 k1 x) (u45_at w k0 k1 x)

theorem u47_at (w : IVec S8x2048 32) (k0 k1 : BitVec 32) (x : S8x2048.Idx) : k0_pay47 (F := Ideal) k0 k1 (uy9 w k0 k1) (ux9 w k0 k1) k0_pay36 x = (st15 k0 k1 (w x)).2 := by
  unfold k0_pay47; exact half_k (r := 16#32) (r' := 16#32) (u46_at w k0 k1 x) (u45_at w k0 k1 x) rfl rfl (by decide) (by decide)

theorem u48_at (w : IVec S8x2048 32) (k0 k1 : BitVec 32) (x : S8x2048.Idx) : k0_pay48 (F := Ideal) k0 k1 (uy9 w k0 k1) (ux9 w k0 k1) k0_pay36 x = (st15 k0 k1 (w x)).1 := by
  unfold k0_pay48; exact sum_at (u46_at w k0 k1 x) (u47_at w k0 k1 x)

abbrev uy15 (w : IVec S8x2048 32) (k0 k1 : BitVec 32) : IVec S8x2048 32 := k0_pay47 (F := Ideal) k0 k1 (uy9 w k0 k1) (ux9 w k0 k1) k0_pay36

abbrev ux15 (w : IVec S8x2048 32) (k0 k1 : BitVec 32) : IVec S8x2048 32 := k0_pay48 (F := Ideal) k0 k1 (uy9 w k0 k1) (ux9 w k0 k1) k0_pay36

theorem u49_at (w : IVec S8x2048 32) (k0 k1 : BitVec 32) (x : S8x2048.Idx) : k0_pay49 (F := Ideal) k0 k1 (k0 ^^^ k1 ^^^ 466688986#32) (uy15 w k0 k1) (ux15 w k0 k1) 24#32 x = drawn k0 k1 (w x) := by
  unfold k0_pay49; exact tail_at rfl (u47_at w k0 k1 x) (u48_at w k0 k1 x) rfl rfl rfl rfl rfl rfl rfl rfl rfl

abbrev ubits (w : IVec S8x2048 32) (k0 k1 : BitVec 32) : IVec S8x2048 32 := k0_pay49 (F := Ideal) k0 k1 (k0 ^^^ k1 ^^^ 466688986#32) (uy15 w k0 k1) (ux15 w k0 k1) 24#32

theorem u_at (w : IVec S8x2048 32) (k0 k1 : BitVec 32) (x : S8x2048.Idx) : k0_pay51 (F := Ideal) (ubits w k0 k1) k0_pay50 x = uOf k0 k1 (w x) := by
  have h : ubits w k0 k1 x = drawn k0 k1 (w x) := u49_at w k0 k1 x
  show FloatOps.subf (FloatOps.maximumf _ (FloatOps.subf (FloatOps.ofBits .f32 (IntOp.shrui .vector (ubits w k0 k1 x) 9#32 ||| 1065353216#32)) _)) _ = _
  rw [shr_lit _ _ _ (by decide), h]; rfl

theorem v52_at (w : IVec S8x2048 32) (k2 k3 : BitVec 32) (x : S8x2048.Idx) : k0_pay52 (F := Ideal) w k3 x = (st0 k2 k3 (w x)).2 := by
  unfold k0_pay52; exact sum_at rfl rfl

theorem v53_at (w : IVec S8x2048 32) (k2 k3 : BitVec 32) (x : S8x2048.Idx) : k0_pay53 (F := Ideal) w k2 k3 k0_pay13 x = (st0 k2 k3 (w x)).1 := by
  unfold k0_pay53; exact sum_at ((sum_at (v := 0#32) (w := k2) rfl rfl).trans (BitVec.zero_add _)) (v52_at w k2 k3 x)

theorem v54_at (w : IVec S8x2048 32) (k2 k3 : BitVec 32) (x : S8x2048.Idx) : k0_pay54 (F := Ideal) w k2 k3 k0_pay13 x = (st1 k2 k3 (w x)).2 := by
  unfold k0_pay54; exact half_k (r := 13#32) (r' := 19#32) (v53_at w k2 k3 x) (v52_at w k2 k3 x) rfl rfl (by decide) (by decide)

theorem v55_at (w : IVec S8x2048 32) (k2 k3 : BitVec 32) (x : S8x2048.Idx) : k0_pay55 (F := Ideal) w k2 k3 k0_pay13 x = (st1 k2 k3 (w x)).1 := by
  unfold k0_pay55; exact sum_at (v53_at w k2 k3 x) (v54_at w k2 k3 x)

theorem v56_at (w : IVec S8x2048 32) (k2 k3 : BitVec 32) (x : S8x2048.Idx) : k0_pay56 (F := Ideal) w k2 k3 k0_pay13 x = (st2 k2 k3 (w x)).2 := by
  unfold k0_pay56; exact half_k (r := 15#32) (r' := 17#32) (v55_at w k2 k3 x) (v54_at w k2 k3 x) rfl rfl (by decide) (by decide)

theorem v57_at (w : IVec S8x2048 32) (k2 k3 : BitVec 32) (x : S8x2048.Idx) : k0_pay57 (F := Ideal) w k2 k3 k0_pay13 x = (st2 k2 k3 (w x)).1 := by
  unfold k0_pay57; exact sum_at (v55_at w k2 k3 x) (v56_at w k2 k3 x)

theorem v58_at (w : IVec S8x2048 32) (k2 k3 : BitVec 32) (x : S8x2048.Idx) : k0_pay58 (F := Ideal) w k2 k3 k0_pay13 x = (st3 k2 k3 (w x)).2 := by
  unfold k0_pay58; exact half_k (r := 26#32) (r' := 6#32) (v57_at w k2 k3 x) (v56_at w k2 k3 x) rfl rfl (by decide) (by decide)

theorem v59_at (w : IVec S8x2048 32) (k2 k3 : BitVec 32) (x : S8x2048.Idx) : k0_pay59 (F := Ideal) w k2 k3 k0_pay13 x = (st3 k2 k3 (w x)).1 := by
  unfold k0_pay59; exact sum_at (v57_at w k2 k3 x) (v58_at w k2 k3 x)

theorem v60_at (w : IVec S8x2048 32) (k2 k3 : BitVec 32) (x : S8x2048.Idx) : k0_pay60 (F := Ideal) w k2 k3 k0_pay13 x = (st3 k2 k3 (w x)).1 ^^^ rot 6#32 26#32 (st3 k2 k3 (w x)).2 := by
  unfold k0_pay60; exact half_k (r := 6#32) (r' := 26#32) (v59_at w k2 k3 x) (v58_at w k2 k3 x) rfl rfl (by decide) (by decide)

theorem v61_at (w : IVec S8x2048 32) (k2 k3 : BitVec 32) (x : S8x2048.Idx) : k0_pay61 (F := Ideal) w k2 k3 k0_pay13 x = (st3 k2 k3 (w x)).1 + k3 := by
  unfold k0_pay61; exact sum_at (v59_at w k2 k3 x) rfl

theorem v63_at (w : IVec S8x2048 32) (k2 k3 : BitVec 32) (x : S8x2048.Idx) : k0_pay63 (k0_pay60 (F := Ideal) w k2 k3 k0_pay13) (k0_pay62 (F := Ideal) k2 k3) x = (st4 k2 k3 (w x)).2 := by
  unfold k0_pay63; exact sum_at (sum_at (v60_at w k2 k3 x) rfl) rfl

theorem v64_at (w : IVec S8x2048 32) (k2 k3 : BitVec 32) (x : S8x2048.Idx) : k0_pay64 (k0_pay60 (F := Ideal) w k2 k3 k0_pay13) (k0_pay61 (F := Ideal) w k2 k3 k0_pay13) (k0_pay62 (F := Ideal) k2 k3) x = (st4 k2 k3 (w x)).1 := by
  unfold k0_pay64; exact sum_at (v61_at w k2 k3 x) (v63_at w k2 k3 x)

theorem v65_at (w : IVec S8x2048 32) (k2 k3 : BitVec 32) (x : S8x2048.Idx) : k0_pay65 (k0_pay60 (F := Ideal) w k2 k3 k0_pay13) (k0_pay61 (F := Ideal) w k2 k3 k0_pay13) (k0_pay62 (F := Ideal) k2 k3) x = (st5 k2 k3 (w x)).2 := by
  unfold k0_pay65; exact half_k (r := 17#32) (r' := 15#32) (v64_at w k2 k3 x) (v63_at w k2 k3 x) rfl rfl (by decide) (by decide)

theorem v66_at (w : IVec S8x2048 32) (k2 k3 : BitVec 32) (x : S8x2048.Idx) : k0_pay66 (k0_pay60 (F := Ideal) w k2 k3 k0_pay13) (k0_pay61 (F := Ideal) w k2 k3 k0_pay13) (k0_pay62 (F := Ideal) k2 k3) x = (st5 k2 k3 (w x)).1 := by
  unfold k0_pay66; exact sum_at (v64_at w k2 k3 x) (v65_at w k2 k3 x)

theorem v67_at (w : IVec S8x2048 32) (k2 k3 : BitVec 32) (x : S8x2048.Idx) : k0_pay67 (k0_pay60 (F := Ideal) w k2 k3 k0_pay13) (k0_pay61 (F := Ideal) w k2 k3 k0_pay13) (k0_pay62 (F := Ideal) k2 k3) x = (st6 k2 k3 (w x)).2 := by
  unfold k0_pay67; exact half_k (r := 29#32) (r' := 3#32) (v66_at w k2 k3 x) (v65_at w k2 k3 x) rfl rfl (by decide) (by decide)

theorem v68_at (w : IVec S8x2048 32) (k2 k3 : BitVec 32) (x : S8x2048.Idx) : k0_pay68 (k0_pay60 (F := Ideal) w k2 k3 k0_pay13) (k0_pay61 (F := Ideal) w k2 k3 k0_pay13) (k0_pay62 (F := Ideal) k2 k3) x = (st6 k2 k3 (w x)).1 := by
  unfold k0_pay68; exact sum_at (v66_at w k2 k3 x) (v67_at w k2 k3 x)

theorem v69_at (w : IVec S8x2048 32) (k2 k3 : BitVec 32) (x : S8x2048.Idx) : k0_pay69 (k0_pay60 (F := Ideal) w k2 k3 k0_pay13) (k0_pay61 (F := Ideal) w k2 k3 k0_pay13) (k0_pay62 (F := Ideal) k2 k3) x = (st7 k2 k3 (w x)).2 := by
  unfold k0_pay69; exact half_k (r := 16#32) (r' := 16#32) (v68_at w k2 k3 x) (v67_at w k2 k3 x) rfl rfl (by decide) (by decide)

theorem v70_at (w : IVec S8x2048 32) (k2 k3 : BitVec 32) (x : S8x2048.Idx) : k0_pay70 (k0_pay60 (F := Ideal) w k2 k3 k0_pay13) (k0_pay61 (F := Ideal) w k2 k3 k0_pay13) (k0_pay62 (F := Ideal) k2 k3) x = (st7 k2 k3 (w x)).1 := by
  unfold k0_pay70; exact sum_at (v68_at w k2 k3 x) (v69_at w k2 k3 x)

theorem v71_at (w : IVec S8x2048 32) (k2 k3 : BitVec 32) (x : S8x2048.Idx) : k0_pay71 (F := Ideal) k2 (k0_pay60 (F := Ideal) w k2 k3 k0_pay13) (k0_pay61 (F := Ideal) w k2 k3 k0_pay13) (k0_pay62 (F := Ideal) k2 k3) x = (st8 k2 k3 (w x)).2 := by
  unfold k0_pay71; exact sum_at (sum_at (half_k (r := 24#32) (r' := 8#32) (v70_at w k2 k3 x) (v69_at w k2 k3 x) rfl rfl (by decide) (by decide)) rfl) rfl

theorem v72_at (w : IVec S8x2048 32) (k2 k3 : BitVec 32) (x : S8x2048.Idx) : k0_pay72 (F := Ideal) k2 (k2 ^^^ k3 ^^^ 466688986#32) (k0_pay60 (F := Ideal) w k2 k3 k0_pay13) (k0_pay61 (F := Ideal) w k2 k3 k0_pay13) (k0_pay62 (F := Ideal) k2 k3) x = (st8 k2 k3 (w x)).1 := by
  unfold k0_pay72; exact sum_at (sum_at (v70_at w k2 k3 x) rfl) (v71_at w k2 k3 x)

theorem v73_at (w : IVec S8x2048 32) (k2 k3 : BitVec 32) (x : S8x2048.Idx) : k0_pay73 (F := Ideal) k2 (k2 ^^^ k3 ^^^ 466688986#32) (k0_pay60 (F := Ideal) w k2 k3 k0_pay13) (k0_pay61 (F := Ideal) w k2 k3 k0_pay13) (k0_pay62 (F := Ideal) k2 k3) x = (st9 k2 k3 (w x)).2 := by
  unfold k0_pay73; exact half_k (r := 13#32) (r' := 19#32) (v72_at w k2 k3 x) (v71_at w k2 k3 x) rfl rfl (by decide) (by decide)

theorem v74_at (w : IVec S8x2048 32) (k2 k3 : BitVec 32) (x : S8x2048.Idx) : k0_pay74 (F := Ideal) k2 (k2 ^^^ k3 ^^^ 466688986#32) (k0_pay60 (F := Ideal) w k2 k3 k0_pay13) (k0_pay61 (F := Ideal) w k2 k3 k0_pay13) (k0_pay62 (F := Ideal) k2 k3) x = (st9 k2 k3 (w x)).1 := by
  unfold k0_pay74; exact sum_at (v72_at w k2 k3 x) (v73_at w k2 k3 x)

abbrev vy9 (w : IVec S8x2048 32) (k2 k3 : BitVec 32) : IVec S8x2048 32 := k0_pay73 (F := Ideal) k2 (k2 ^^^ k3 ^^^ 466688986#32) (k0_pay60 (F := Ideal) w k2 k3 k0_pay13) (k0_pay61 (F := Ideal) w k2 k3 k0_pay13) (k0_pay62 (F := Ideal) k2 k3)

abbrev vx9 (w : IVec S8x2048 32) (k2 k3 : BitVec 32) : IVec S8x2048 32 := k0_pay74 (F := Ideal) k2 (k2 ^^^ k3 ^^^ 466688986#32) (k0_pay60 (F := Ideal) w k2 k3 k0_pay13) (k0_pay61 (F := Ideal) w k2 k3 k0_pay13) (k0_pay62 (F := Ideal) k2 k3)

abbrev vs9 (w : IVec S8x2048 32) (k2 k3 : BitVec 32) : IVec S8x2048 32 := k0_pay75 (F := Ideal) k2 (k2 ^^^ k3 ^^^ 466688986#32) (k0_pay60 (F := Ideal) w k2 k3 k0_pay13) (k0_pay61 (F := Ideal) w k2 k3 k0_pay13) (k0_pay62 (F := Ideal) k2 k3)

theorem v76_at (w : IVec S8x2048 32) (k2 k3 : BitVec 32) (x : S8x2048.Idx) : k0_pay76 (vy9 w k2 k3) (vx9 w k2 k3) (vs9 w k2 k3) x = (st10 k2 k3 (w x)).2 := by
  unfold k0_pay76; exact half_k (r := 15#32) (r' := 17#32) (v74_at w k2 k3 x) (v73_at w k2 k3 x) rfl rfl (by decide) (by decide)

theorem v77_at (w : IVec S8x2048 32) (k2 k3 : BitVec 32) (x : S8x2048.Idx) : k0_pay77 (vy9 w k2 k3) (vx9 w k2 k3) (vs9 w k2 k3) x = (st10 k2 k3 (w x)).1 := by
  unfold k0_pay77; exact sum_at (v74_at w k2 k3 x) (v76_at w k2 k3 x)

theorem v78_at (w : IVec S8x2048 32) (k2 k3 : BitVec 32) (x : S8x2048.Idx) : k0_pay78 (vy9 w k2 k3) (vx9 w k2 k3) (vs9 w k2 k3) x = (st11 k2 k3 (w x)).2 := by
  unfold k0_pay78; exact half_k (r := 26#32) (r' := 6#32) (v77_at w k2 k3 x) (v76_at w k2 k3 x) rfl rfl (by decide) (by decide)

theorem v79_at (w : IVec S8x2048 32) (k2 k3 : BitVec 32) (x : S8x2048.Idx) : k0_pay79 (vy9 w k2 k3) (vx9 w k2 k3) (vs9 w k2 k3) x = (st11 k2 k3 (w x)).1 := by
  unfold k0_pay79; exact sum_at (v77_at w k2 k3 x) (v78_at w k2 k3 x)

theorem v80_at (w : IVec S8x2048 32) (k2 k3 : BitVec 32) (x : S8x2048.Idx) : k0_pay80 (F := Ideal) k3 (vy9 w k2 k3) (vx9 w k2 k3) (vs9 w k2 k3) x = (st12 k2 k3 (w x)).2 := by
  unfold k0_pay80; exact sum_at (sum_at (half_k (r := 6#32) (r' := 26#32) (v79_at w k2 k3 x) (v78_at w k2 k3 x) rfl rfl (by decide) (by decide)) rfl) rfl

theorem v81_at (w : IVec S8x2048 32) (k2 k3 : BitVec 32) (x : S8x2048.Idx) : k0_pay81 (F := Ideal) k2 k3 (vy9 w k2 k3) (vx9 w k2 k3) (vs9 w k2 k3) x = (st12 k2 k3 (w x)).1 := by
  unfold k0_pay81; exact sum_at (sum_at (v79_at w k2 k3 x) rfl) (v80_at w k2 k3 x)

theorem v82_at (w : IVec S8x2048 32) (k2 k3 : BitVec 32) (x : S8x2048.Idx) : k0_pay82 (F := Ideal) k2 k3 (vy9 w k2 k3) (vx9 w k2 k3) (vs9 w k2 k3) x = (st13 k2 k3 (w x)).2 := by
  unfold k0_pay82; exact half_k (r := 17#32) (r' := 15#32) (v81_at w k2 k3 x) (v80_at w k2 k3 x) rfl rfl (by decide) (by decide)

theorem v83_at (w : IVec S8x2048 32) (k2 k3 : BitVec 32) (x : S8x2048.Idx) : k0_pay83 (F := Ideal) k2 k3 (vy9 w k2 k3) (vx9 w k2 k3) (vs9 w k2 k3) x = (st13 k2 k3 (w x)).1 := by
  unfold k0_pay83; exact sum_at (v81_at w k2 k3 x) (v82_at w k2 k3 x)

theorem v84_at (w : IVec S8x2048 32) (k2 k3 : BitVec 32) (x : S8x2048.Idx) : k0_pay84 (F := Ideal) k2 k3 (vy9 w k2 k3) (vx9 w k2 k3) (vs9 w k2 k3) x = (st14 k2 k3 (w x)).2 := by
  unfold k0_pay84; exact half_k (r := 29#32) (r' := 3#32) (v83_at w k2 k3 x) (v82_at w k2 k3 x) rfl rfl (by decide) (by decide)

theorem v85_at (w : IVec S8x2048 32) (k2 k3 : BitVec 32) (x : S8x2048.Idx) : k0_pay85 (F := Ideal) k2 k3 (vy9 w k2 k3) (vx9 w k2 k3) (vs9 w k2 k3) x = (st14 k2 k3 (w x)).1 := by
  unfold k0_pay85; exact sum_at (v83_at w k2 k3 x) (v84_at w k2 k3 x)

theorem v86_at (w : IVec S8x2048 32) (k2 k3 : BitVec 32) (x : S8x2048.Idx) : k0_pay86 (F := Ideal) k2 k3 (vy9 w k2 k3) (vx9 w k2 k3) (vs9 w k2 k3) x = (st15 k2 k3 (w x)).2 := by
  unfold k0_pay86; exact half_k (r := 16#32) (r' := 16#32) (v85_at w k2 k3 x) (v84_at w k2 k3 x) rfl rfl (by decide) (by decide)

theorem v87_at (w : IVec S8x2048 32) (k2 k3 : BitVec 32) (x : S8x2048.Idx) : k0_pay87 (F := Ideal) k2 k3 (vy9 w k2 k3) (vx9 w k2 k3) (vs9 w k2 k3) x = (st15 k2 k3 (w x)).1 := by
  unfold k0_pay87; exact sum_at (v85_at w k2 k3 x) (v86_at w k2 k3 x)

abbrev vy15 (w : IVec S8x2048 32) (k2 k3 : BitVec 32) : IVec S8x2048 32 := k0_pay86 (F := Ideal) k2 k3 (vy9 w k2 k3) (vx9 w k2 k3) (vs9 w k2 k3)

abbrev vx15 (w : IVec S8x2048 32) (k2 k3 : BitVec 32) : IVec S8x2048 32 := k0_pay87 (F := Ideal) k2 k3 (vy9 w k2 k3) (vx9 w k2 k3) (vs9 w k2 k3)

theorem v89_at (w : IVec S8x2048 32) (k2 k3 : BitVec 32) (x : S8x2048.Idx) : k0_pay89 (F := Ideal) k2 k3 (k2 ^^^ k3 ^^^ 466688986#32) (vy15 w k2 k3) (vx15 w k2 k3) k0_pay88 x = drawn k2 k3 (w x) >>> 9#32 := by
  unfold k0_pay89
  show IntOp.shrui .vector (xori _ _ x) 9#32 = _
  rw [shr_lit _ _ _ (by decide)]
  exact congrArg (· >>> 9#32) (tail_at rfl (v86_at w k2 k3 x) (v87_at w k2 k3 x) rfl rfl rfl rfl rfl rfl rfl rfl rfl)

abbrev vbits (w : IVec S8x2048 32) (k2 k3 : BitVec 32) : IVec S8x2048 32 := k0_pay89 (F := Ideal) k2 k3 (k2 ^^^ k3 ^^^ 466688986#32) (vy15 w k2 k3) (vx15 w k2 k3) k0_pay88

theorem v_at (w : IVec S8x2048 32) (k2 k3 : BitVec 32) (x : S8x2048.Idx) : k0_pay90 (F := Ideal) (vbits w k2 k3) x = vOf k2 k3 (w x) := by
  have h : vbits w k2 k3 x = drawn k2 k3 (w x) >>> 9#32 := v89_at w k2 k3 x
  show FloatOps.maximumf _ (FloatOps.subf (FloatOps.ofBits .f32 (vbits w k2 k3 x ||| 1065353216#32)) _) = _
  rw [h]; rfl

/-- A lane's parameters out of the six blocks' vectors. -/
def laneOf (a b lam ia ll vr : FVec Ideal S8x2048 .f32) (x : S8x2048.Idx) : Lane := ⟨lam x, a x, b x, ia x, ll x, vr x⟩

section Step

variable (w : IVec S8x2048 32) (a b lam ia ll vr : FVec Ideal S8x2048 .f32) (one : Ideal .f32) (k0 k1 k2 k3 : BitVec 32)
  (g : FVec Ideal S8x2048 .f32) (x : S8x2048.Idx)

theorem cand_at : k0_pay92 (F := Ideal) a b lam (k0_pay51 (F := Ideal) (ubits w k0 k1) k0_pay50) x
    = cand (laneOf a b lam ia ll vr x) (uOf k0 k1 (w x)) := by
  rw [← u_at]; rfl

theorem step0_at : step0 w a b lam ia ll vr one k0 k1 k2 k3 g x
    = Scalar.select (accept (laneOf a b lam ia ll vr x) (uOf k0 k1 (w x)) (vOf k2 k3 (w x))) one (g x) := by
  rw [← u_at, ← v_at]; rfl

end Step

end Cert.Proof.KI
-- ==== Proof.KI.Draw1.lean ====
/-
  The draws of the second kernel: its round computes what the first kernel's does, and the flags and draws it hands on, at an index.
-/
module

public import proofs.«01_k».proof.Proof.KI.Draw0
public import proofs.«01_k».proof.Proof.KI.Body1

@[expose] public section

noncomputable section

namespace Cert.Proof.KI

open Cert.KernelIdeal Cert.KernelIdeal.Gen
open Idealize.ShloMosaic

namespace Same
theorem e22 : @k1_pay46 = @k0_pay22 := rfl
end Same

section Step

variable (w : IVec S8x2048 32) (p : Par Ideal) (one : Ideal .f32) (k0 k1 k2 k3 : BitVec 32) (s : Scan Ideal) (x : S8x2048.Idx)

def laneP (p : Par Ideal) (x : S8x2048.Idx) : Lane := laneOf p.a p.b p.lam p.ia p.ll p.vr x

theorem step1_fst_eq : (step1 w p one k0 k1 k2 k3 s).1 = step0 w p.a p.b p.lam p.ia p.ll p.vr one k0 k1 k2 k3 s.1 := by
  unfold step1 step0
  simp only [Same.e22]
  rfl

theorem step1_fst : (step1 w p one k0 k1 k2 k3 s).1 x
    = Scalar.select (accept (laneP p x) (uOf k0 k1 (w x)) (vOf k2 k3 (w x))) one (s.1 x) := by
  rw [step1_fst_eq, step0_at]; rfl

theorem step1_snd : (step1 w p one k0 k1 k2 k3 s).2 x
    = Scalar.select (IntOp.andi (accept (laneP p x) (uOf k0 k1 (w x)) (vOf k2 k3 (w x))) (FloatOps.cmpf .oeq (s.1 x) (lit 0x00000000#32)))
        (cand (laneP p x) (uOf k0 k1 (w x))) (s.2 x) := by
  rw [← u_at, ← v_at]; rfl

end Step

end Cert.Proof.KI
-- ==== Proof.KI.Counts.lean ====
/-
  How many rounds the first kernel counts: in every block of rows the loop goes on while a draw of the block has not been accepted, so
  the largest count of all blocks and all lanes is the number of rounds after which every draw is accepted, at most 24.
-/
module

public import proofs.«01_k».proof.Proof.KI.Draw1
public import proofs.«01_k».proof.Proof.Model
public import proofs.«01_k».proof.Proof.Lits

@[expose] public section

noncomputable section

namespace Cert.Proof.KI

open Cert.KernelIdeal Cert.KernelIdeal.Gen
open Idealize.ShloMosaic
open scoped Classical

theorem one_idx (i j : S1.Idx) : i = j := by
  funext a; apply Fin.ext
  have h1 := (i a).isLt; have h2 := (j a).isLt
  have : S1.size a = 1 := by fin_cases a; rfl
  omega

set_option maxRecDepth 100000 in
theorem open0_iff (a : FVec Ideal S8x2048 .f32) : Open0 a ↔ ∃ x, a x = (0 : EReal) := by
  unfold Open0 k0_pay11
  exact test_iff a shapeCasts_S8x2048_S1x8x2048 reduces_S1x8x2048_S1 (.inl rfl) rfl _ (fun i => one_idx i _)
set_option maxRecDepth 100000 in
theorem open1_iff (s : Scan Ideal) : Open1 s ↔ ∃ x, s.1 x = (0 : EReal) := by
  unfold Open1 k1_pay11
  exact test_iff s.1 shapeCasts_S8x2048_S1x8x2048 reduces_S1x8x2048_S1 (.inl rfl) rfl _ (fun i => one_idx i _)
set_option maxRecDepth 100000 in
theorem open2_iff (s : Run Ideal) : Open2 s ↔ ∃ x, s.2.2 x = (0 : EReal) := by
  unfold Open2 k1_pay6
  exact test_iff s.2.2 shapeCasts_S1x2048_S1x1x2048 reduces_S1x1x2048_S1 (.inl rfl) rfl _ (fun i => one_idx i _)

/-- The lane parameters of column `c` of six blocks. -/
def laneB (B : Blk6 Ideal) (c : Fin 2048) : Lane :=
  ⟨B 0 (ix2 (0 : Fin 1) c), B 1 (ix2 (0 : Fin 1) c), B 2 (ix2 (0 : Fin 1) c), B 3 (ix2 (0 : Fin 1) c), B 5 (ix2 (0 : Fin 1) c), B 4 (ix2 (0 : Fin 1) c)⟩

theorem cast_self (v : Vec Ideal S1x2048 .f32) : shapeCast S1x2048 v shapeCasts_S1x2048_S1x2048 = v := by
  pointwise

theorem row_bcast {α : Type} (v : S1x2048.Idx → α) (x : S8x2048.Idx) : broadcastTo S8x2048 v broadcasts_S1x2048_S8x2048 x = v (ix2 (0 : Fin 1) (x 1 : Fin 2048)) := by
  idx_vars x
  pointwise

theorem spread (v : Vec Ideal S1x2048 .f32) (x : S8x2048.Idx) : k0_pay2 (F := Ideal) v x = v (ix2 (0 : Fin 1) (x 1 : Fin 2048)) := by
  show (broadcastTo S8x2048 (shapeCast S1x2048 v shapeCasts_S1x2048_S1x2048) broadcasts_S1x2048_S8x2048 x : EReal) + lit 0x00000000#32 = _
  rw [lit_zero, add_zero, cast_self, row_bcast]

theorem laneOf_blk (B : Blk6 Ideal) (x : S8x2048.Idx) :
    laneOf (k0_pay3 (F := Ideal) (B 1)) (k0_pay4 (F := Ideal) (B 2)) (k0_pay2 (F := Ideal) (B 0)) (k0_pay5 (F := Ideal) (B 3)) (k0_pay7 (F := Ideal) (B 5)) (k0_pay6 (F := Ideal) (B 4)) x
      = laneB B (x 1) := by
  have e : ∀ v, k0_pay2 (F := Ideal) v x = v (ix2 (0 : Fin 1) (x 1 : Fin 2048)) := fun v => spread v x
  show Lane.mk (k0_pay2 (F := Ideal) (B 0) x) (k0_pay2 (F := Ideal) (B 1) x) (k0_pay2 (F := Ideal) (B 2) x) (k0_pay2 (F := Ideal) (B 3) x) (k0_pay2 (F := Ideal) (B 5) x) (k0_pay2 (F := Ideal) (B 4) x) = _
  simp only [e]; rfl

/-! ## The words of a block -/

theorem iota0_at (x : S8x2048.Idx) : iota .tc S8x2048 32 [0] iota_S8x2048_d0_w32 x = BitVec.ofNat 32 (x 0).val := by
  show BitVec.ofNat 32 (0 * S8x2048.size 0 + (x 0).val) = _
  rw [Nat.zero_mul, Nat.zero_add]
theorem iota1_at (x : S8x2048.Idx) : iota .tc S8x2048 32 [1] iota_S8x2048_d1_w32 x = BitVec.ofNat 32 (x 1).val := by
  show BitVec.ofNat 32 (0 * S8x2048.size 1 + (x 1).val) = _
  rw [Nat.zero_mul, Nat.zero_add]

theorem row_word (k : Fin k0_t1_loop.trips) (x : S8x2048.Idx) : k0_pay8 k x = BitVec.ofNat 32 (8 * k.val + (x 0).val) := by
  show iota .tc S8x2048 32 [0] iota_S8x2048_d0_w32 x + Scalar.muli (Scf.iv 0#32 1#32 k) 8#32 = _
  rw [iota0_at]
  have : ∀ k : Fin k0_t1_loop.trips, Scalar.muli (Scf.iv 0#32 1#32 k) 8#32 = BitVec.ofNat 32 (8 * k.val) := by decide
  rw [this, ← BitVec.ofNat_add, Nat.add_comm]

theorem col_word (i : grid0.Coords) (x : S8x2048.Idx) :
    addi (iota .tc S8x2048 32 [1] iota_S8x2048_d1_w32) (broadcast S8x2048 (Scalar.muli (BitVec.ofNat 32 (i 0).val) 2048#32)) x
      = BitVec.ofNat 32 (2048 * (i 0).val + (x 1).val) := by
  show iota .tc S8x2048 32 [1] iota_S8x2048_d1_w32 x + BitVec.ofNat 32 (i 0).val * 2048#32 = _
  rw [iota1_at, show (2048#32 : BitVec 32) = BitVec.ofNat 32 2048 from rfl, ← BitVec.ofNat_mul, ← BitVec.ofNat_add]
  congr 1; omega

theorem word_sum (t l : ℕ) : BitVec.ofNat 32 t * 65536#32 + BitVec.ofNat 32 l = word t l := by
  rw [show (65536#32 : BitVec 32) = BitVec.ofNat 32 65536 from rfl, ← BitVec.ofNat_mul, ← BitVec.ofNat_add]; rfl

theorem word_at (i : grid0.Coords) (k : Fin k0_t1_loop.trips) (x : S8x2048.Idx) :
    k0_pay9 i k x = word (8 * k.val + (x 0).val) (2048 * (i 0).val + (x 1).val) := by
  show k0_pay8 k x * 65536#32 + addi (iota .tc S8x2048 32 [1] iota_S8x2048_d1_w32) (broadcast S8x2048 (Scalar.muli (BitVec.ofNat 32 (i 0).val) 2048#32)) x = _
  rw [row_word, col_word, word_sum]

theorem sge201 : ∀ n < 208, Scalar.cmpi .sge (BitVec.ofNat 32 n) 201#32 = 1#1 ↔ 201 ≤ n := by decide

theorem trips0 : k0_t1_loop.trips = 26 := by decide
theorem trips1 : k1_t1_loop.trips = 32 := by decide

theorem start_at (k : Fin k0_t1_loop.trips) (x : S8x2048.Idx) :
    k0_pay10 (F := Ideal) k x = if 201 ≤ 8 * k.val + (x 0).val then (1 : EReal) else 0 := by
  show Scalar.select (Scalar.cmpi .sge (k0_pay8 k x) 201#32) (lit 0x3F800000#32) (lit 0x00000000#32) = _
  have hk : k.val < 26 := trips0 ▸ k.isLt
  have hx : (x 0).val < 8 := (x 0).isLt
  rw [select_if, row_word, lit_one, lit_zero]
  exact if_congr (sge201 _ (by omega)) rfl rfl

/-! ## The rounds of one block -/

section Rounds

variable (D : Data) (i : grid0.Coords) (B : Blk6 Ideal) (K : S24x4.Idx → BitVec 32) (k : Fin k0_t1_loop.trips)
  (hlane : ∀ c : Fin 2048, D.lane (2048 * (i 0).val + c.val) = laneB B c) (hkey : ∀ j q, D.key j q = keyAt K j q)

include hlane hkey

theorem ok_iff (j : ℕ) (x : S8x2048.Idx) :
    accept (laneB B (x 1)) (uOf (keyAt K j 0) (keyAt K j 1) (k0_pay9 i k x)) (vOf (keyAt K j 2) (keyAt K j 3) (k0_pay9 i k x)) = 1#1
      ↔ D.ok j (8 * k.val + (x 0).val) (2048 * (i 0).val + (x 1).val) := by
  unfold Data.ok
  rw [hkey, hkey, hkey, hkey, word_at, hlane (x 1)]

theorem flags_at (r : ℕ) (x : S8x2048.Idx) :
    iter (fun j a => step0 (k0_pay9 i k) (k0_pay3 (B 1)) (k0_pay4 (B 2)) (k0_pay2 (B 0)) (k0_pay5 (B 3)) (k0_pay7 (B 5)) (k0_pay6 (B 4))
      (Scalar.ofBits .f32 0x3F800000#32) (keyAt K j 0) (keyAt K j 1) (keyAt K j 2) (keyAt K j 3) a) 0 (k0_pay10 (F := Ideal) k) r x
      = if 201 ≤ 8 * k.val + (x 0).val ∨ ∃ j < r, D.ok j (8 * k.val + (x 0).val) (2048 * (i 0).val + (x 1).val) then (1 : EReal) else 0 := by
  induction r with
  | zero =>
    show k0_pay10 (F := Ideal) k x = _
    rw [start_at]
    exact if_congr ⟨.inl, fun h => h.elim id fun ⟨j, hj, _⟩ => absurd hj (Nat.not_lt_zero j)⟩ rfl rfl
  | succ r ih =>
    unfold iter
    rw [step0_at, laneOf_blk, select_if, ih, Nat.zero_add]
    have hk := ok_iff D i B K k hlane hkey r x
    have h1 : (Scalar.ofBits .f32 0x3F800000#32 : Ideal .f32) = (1 : EReal) := lit_one
    by_cases h : D.ok r (8 * k.val + (x 0).val) (2048 * (i 0).val + (x 1).val)
    · rw [if_pos (hk.mpr h), if_pos (.inr ⟨r, Nat.lt_succ_self r, h⟩)]; exact h1
    · rw [if_neg fun h' => h (hk.mp h')]
      refine if_congr ⟨?_, ?_⟩ rfl rfl
      · rintro (h' | ⟨j, hj, h'⟩)
        · exact .inl h'
        · exact .inr ⟨j, by omega, h'⟩
      · rintro (h' | ⟨j, hj, h'⟩)
        · exact .inl h'
        · refine .inr ⟨j, ?_, h'⟩
          rcases Nat.lt_succ_iff_lt_or_eq.mp hj with hl | rfl
          · exact hl
          · exact absurd h' h

/-- Some draw of the block is still to be accepted after `n` rounds. -/
def Wait (D : Data) (i : grid0.Coords) (k : ℕ) (n : ℕ) : Prop :=
  ∃ r < 8, ∃ c < 2048, 8 * k + r < 201 ∧ ∀ j < n, ¬ D.ok j (8 * k + r) (2048 * (i 0).val + c)

theorem open_iff_wait (r : ℕ) :
    Open0 (iter (fun j a => step0 (k0_pay9 i k) (k0_pay3 (B 1)) (k0_pay4 (B 2)) (k0_pay2 (B 0)) (k0_pay5 (B 3)) (k0_pay7 (B 5)) (k0_pay6 (B 4))
      (Scalar.ofBits .f32 0x3F800000#32) (keyAt K j 0) (keyAt K j 1) (keyAt K j 2) (keyAt K j 3) a) 0 (k0_pay10 (F := Ideal) k) r)
      ↔ Wait D i k.val r := by
  rw [open0_iff]
  constructor
  · rintro ⟨x, hx⟩
    rw [flags_at D i B K k hlane hkey] at hx
    have : ¬ (201 ≤ 8 * k.val + (x 0).val ∨ ∃ j < r, D.ok j (8 * k.val + (x 0).val) (2048 * (i 0).val + (x 1).val)) := fun h => by
      rw [if_pos h] at hx; exact one_ne_zero hx
    push Not at this
    exact ⟨(x 0).val, (x 0).isLt, (x 1).val, (x 1).isLt, this.1, this.2⟩
  · rintro ⟨t, ht, c, hc, hl, h⟩
    refine ⟨ix2 (⟨t, ht⟩ : Fin 8) (⟨c, hc⟩ : Fin 2048), ?_⟩
    rw [flags_at D i B K k hlane hkey, if_neg]
    rintro (h' | ⟨j, hj, h'⟩)
    · exact absurd (show 201 ≤ 8 * k.val + t from h') (by omega)
    · exact h j hj h'

theorem rounds_lt (n : ℕ) : n < rounds i B K k ↔ n < 24 ∧ Wait D i k.val n := by
  obtain ⟨r, hr, e, hp, hl⟩ := runUp_spec Open0 (fun j a => step0 (k0_pay9 i k) (k0_pay3 (B 1)) (k0_pay4 (B 2)) (k0_pay2 (B 0)) (k0_pay5 (B 3)) (k0_pay7 (B 5)) (k0_pay6 (B 4))
      (Scalar.ofBits .f32 0x3F800000#32) (keyAt K j 0) (keyAt K j 1) (keyAt K j 2) (keyAt K j 3) a) 24 0 (k0_pay10 (F := Ideal) k)
  have hR : rounds i B K k = r := by
    unfold rounds loop0
    rw [e, Nat.zero_add]
  rw [hR]
  have ho := open_iff_wait D i B K k hlane hkey
  constructor
  · intro h
    exact ⟨by omega, (ho n).mp (hp n h)⟩
  · rintro ⟨h24, t, ht, c, hc, hlt, h⟩
    by_contra hn
    rcases hl with hl | hl
    · omega
    · exact hl ((ho r).mpr ⟨t, ht, c, hc, hlt, fun j hj => h j (by omega)⟩)

theorem maxRounds_lt (n N : ℕ) : n < maxRounds i B K N ↔ ∃ k < N, k < 26 ∧ n < 24 ∧ Wait D i k n := by
  induction N with
  | zero => exact ⟨fun h => absurd h (Nat.not_lt_zero n), fun ⟨k, hk, _⟩ => absurd hk (Nat.not_lt_zero k)⟩
  | succ N ih =>
    unfold maxRounds
    rw [lt_max_iff, ih]
    constructor
    · rintro (⟨k, hk, h⟩ | h)
      · exact ⟨k, by omega, h⟩
      · split at h
        · next hN => exact ⟨N, by omega, trips0 ▸ hN, (rounds_lt D i B K ⟨N, hN⟩ hlane hkey n).mp h⟩
        · exact absurd h (Nat.not_lt_zero n)
    · rintro ⟨k, hk, hk', h⟩
      rcases Nat.lt_succ_iff_lt_or_eq.mp hk with hl | rfl
      · exact .inl ⟨k, hl, hk', h⟩
      · have hN : k < k0_t1_loop.trips := trips0.symm ▸ hk'
        rw [dif_pos hN]
        exact .inr ((rounds_lt D i B K ⟨k, hN⟩ hlane hkey n).mpr h)

end Rounds

theorem maxTo_lt (g : ℕ → ℕ) (n N : ℕ) : n < maxTo g N ↔ ∃ k < N, n < g k := by
  induction N with
  | zero => exact ⟨fun h => absurd h (Nat.not_lt_zero n), fun ⟨k, hk, _⟩ => absurd hk (Nat.not_lt_zero k)⟩
  | succ N ih =>
    unfold maxTo
    rw [lt_max_iff, ih]
    constructor
    · rintro (⟨k, hk, h⟩ | h)
      · exact ⟨k, by omega, h⟩
      · exact ⟨N, by omega, h⟩
    · rintro ⟨k, hk, h⟩
      rcases Nat.lt_succ_iff_lt_or_eq.mp hk with hl | rfl
      · exact .inl ⟨k, hl, h⟩
      · exact .inr h

/-- The largest of the 32 counts is the number of rounds. -/
theorem rounds_of (D : Data) (g : ℕ → ℕ) (co : ℕ → grid0.Coords) (hco : ∀ n < 32, ((co n) 0).val = n)
    (hg : ∀ p < 32, ∀ n, n < g p ↔ ∃ k < 26, n < 24 ∧ Wait D (co p) k n) : D.Rounds (maxTo g k1_t1_loop.trips) := by
  intro n
  rw [trips1, maxTo_lt]
  constructor
  · rintro ⟨p, hp, h⟩
    obtain ⟨k, hk, h24, r, hr, c, hc, hl, h⟩ := (hg p hp n).mp h
    rw [hco p hp] at h
    exact ⟨h24, 8 * k + r, hl, 2048 * p + c, by omega, h⟩
  · rintro ⟨h24, t, ht, l, hl, h⟩
    refine ⟨l / 2048, by omega, (hg _ (by omega) n).mpr ⟨t / 8, by omega, h24, t % 8, by omega, l % 2048, by omega, by omega, ?_⟩⟩
    rw [hco _ (by omega), show 8 * (t / 8) + t % 8 = t by omega, show 2048 * (l / 2048) + l % 2048 = l by omega]
    exact h

end Cert.Proof.KI
-- ==== Proof.KI.Marks.lean ====
/-
  The second kernel's marks: a block of eight rows at a lane is the model's block, so the marks the body leaves are the slots the
  lane's prefix sums reach.
-/
module

public import proofs.«01_k».proof.Proof.KI.Counts

@[expose] public section

noncomputable section

namespace Cert.Proof.KI

open Cert.KernelIdeal Cert.KernelIdeal.Gen
open Idealize.ShloMosaic
open scoped Classical

theorem laneP_blk (B : Blk6 Ideal) (x : S8x2048.Idx) : laneP (par1 B) x = laneB B (x 1) := laneOf_blk B x

theorem slt201_at : ∀ n < 208, Scalar.cmpi .slt (BitVec.ofNat 32 n) 201#32 = 1#1 ↔ n < 201 := by decide

section Block

variable (D : Data) (i : grid1.Coords) (B : Blk6 Ideal) (act : Vec Ideal S1x2048 .i32) (K : S24x4.Idx → BitVec 32) (M : ℕ)
  (hlane : ∀ c : Fin 2048, D.lane (2048 * (i 0).val + c.val) = laneB B c) (hkey : ∀ j q, D.key j q = keyAt K j q)
  (hact : ∀ c : Fin 2048, act (ix2 (0 : Fin 1) c) ≠ 0#32 ↔ D.act (2048 * (i 0).val + c.val))
  (h0 : ∀ t l, 0 ≤ D.res M t l)

theorem row1 (q : ℕ) (x : S8x2048.Idx) : k1_pay24 (fix1 (F := Ideal) i act).v6 (BitVec.ofNat 32 (8 * q)) x = BitVec.ofNat 32 (8 * q + (x 0).val) := by
  show iota .tc S8x2048 32 [0] iota_S8x2048_d0_w32 x + BitVec.ofNat 32 (8 * q) = _
  rw [iota0_at, ← BitVec.ofNat_add, Nat.add_comm]

theorem word1 (q : ℕ) (x : S8x2048.Idx) :
    k1_pay26 (fix1 (F := Ideal) i act).v6 (fix1 (F := Ideal) i act).v5 (BitVec.ofNat 32 (8 * q)) x = word (8 * q + (x 0).val) (2048 * (i 0).val + (x 1).val) := by
  show k1_pay24 (fix1 (F := Ideal) i act).v6 (BitVec.ofNat 32 (8 * q)) x * 65536#32 + addi (iota .tc S8x2048 32 [1] iota_S8x2048_d1_w32) (broadcast S8x2048 (Scalar.muli (BitVec.ofNat 32 (i 0).val) 2048#32)) x = _
  rw [row1, col_word, word_sum]

theorem inRow (q : ℕ) (hq : q < 26) (x : S8x2048.Idx) :
    k1_pay25 (fix1 (F := Ideal) i act).v6 (BitVec.ofNat 32 (8 * q)) x = 1#1 ↔ 8 * q + (x 0).val < 201 := by
  show Scalar.cmpi .slt (k1_pay24 (fix1 (F := Ideal) i act).v6 (BitVec.ofNat 32 (8 * q)) x) 201#32 = 1#1 ↔ _
  have hx : (x 0).val < 8 := (x 0).isLt
  rw [row1]; exact slt201_at _ (by omega)

theorem done_row (done : FVec Ideal S1x2048 .f32) (q : ℕ) (hq : q < 26) (x : S8x2048.Idx) :
    k1_pay27 (fix1 (F := Ideal) i act).v6 (Scalar.ofBits .f32 0x3F800000#32) (BitVec.ofNat 32 (8 * q)) done x
      = max (done (ix2 (0 : Fin 1) (x 1 : Fin 2048)) : EReal) (if 8 * q + (x 0).val < 201 then 0 else 1) := by
  show max (broadcastTo S8x2048 (shapeCast S1x2048 done shapeCasts_S1x2048_S1x2048) broadcasts_S1x2048_S8x2048 x : EReal)
    (Scalar.select (k1_pay25 (fix1 (F := Ideal) i act).v6 (BitVec.ofNat 32 (8 * q)) x) (lit 0x00000000#32) (lit 0x3F800000#32)) = _
  rw [cast_self, row_bcast, select_if, lit_zero, lit_one]
  congr 1
  exact if_congr (inRow i act q hq x) rfl rfl

include hlane hkey in
/-- The draws of block `q`, at a row and a lane. -/
theorem draws_at (q : ℕ) (hq : q < 26) (done : FVec Ideal S1x2048 .f32) (hd : ∀ z, done z = (0 : EReal) ∨ done z = (1 : EReal)) (x : S8x2048.Idx) :
    draws1 (fix1 i act) (par1 B) (Scalar.ofBits .f32 0x3F800000#32) K M q done x
      = if done (ix2 (0 : Fin 1) (x 1 : Fin 2048)) = (0 : EReal) ∧ 8 * q + (x 0).val < 201 then D.drew M (8 * q + (x 0).val) (2048 * (i 0).val + (x 1).val) else (0 : EReal) := by
  have one : (Scalar.ofBits .f32 0x3F800000#32 : Ideal .f32) = (1 : EReal) := lit_one
  have hok : ∀ (j : ℕ) (x : S8x2048.Idx), accept (laneP (par1 B) x) (uOf (keyAt K j 0) (keyAt K j 1) (k1_pay26 (fix1 (F := Ideal) i act).v6 (fix1 (F := Ideal) i act).v5 (BitVec.ofNat 32 (8 * q)) x))
      (vOf (keyAt K j 2) (keyAt K j 3) (k1_pay26 (fix1 (F := Ideal) i act).v6 (fix1 (F := Ideal) i act).v5 (BitVec.ofNat 32 (8 * q)) x)) = 1#1
      ↔ D.ok j (8 * q + (x 0).val) (2048 * (i 0).val + (x 1).val) := fun j x => by
    unfold Data.ok
    rw [hkey, hkey, hkey, hkey, word1, laneP_blk, hlane (x 1)]
  have hkc : ∀ (j : ℕ) (x : S8x2048.Idx), cand (laneP (par1 B) x) (uOf (keyAt K j 0) (keyAt K j 1) (k1_pay26 (fix1 (F := Ideal) i act).v6 (fix1 (F := Ideal) i act).v5 (BitVec.ofNat 32 (8 * q)) x))
      = D.kc j (8 * q + (x 0).val) (2048 * (i 0).val + (x 1).val) := fun j x => by
    unfold Data.kc
    rw [hkey, hkey, word1, laneP_blk, hlane (x 1)]
  unfold draws1 scan1
  refine (runDown_spec (X := S8x2048.Idx) (fun s : (S8x2048.Idx → EReal) × (S8x2048.Idx → EReal) => Open1 (F := Ideal) s) _ (fun j x => D.ok j (8 * q + (x 0).val) (2048 * (i 0).val + (x 1).val))
    (fun j x => D.kc j (8 * q + (x 0).val) (2048 * (i 0).val + (x 1).val)) ?_ ?_ ?_ M _ ?_ x).trans ?_
  · intro j s y
    rw [step1_fst, select_if]
    exact if_congr (hok j y) one rfl
  · intro j s y
    rw [step1_snd, select_if]
    refine if_congr ?_ (hkc j y) rfl
    rw [and_iff, oeq_iff, lit_zero, hok]
  · exact open1_iff
  · intro y
    show k1_pay27 (F := Ideal) _ _ _ _ y = (0 : EReal) ∨ k1_pay27 (F := Ideal) _ _ _ _ y = (1 : EReal)
    rw [done_row i act done q hq]
    rcases hd (ix2 (0 : Fin 1) (y 1 : Fin 2048)) with e | e <;> rw [e] <;> split
    · exact .inl (max_self _)
    · exact .inr (max_eq_right zero_le_one)
    · exact .inr (max_eq_left zero_le_one)
    · exact .inr (max_self _)
  · have hz : (fix1 (F := Ideal) i act).v44 x = (0 : EReal) := lit_zero
    refine if_congr ?_ (congrArg (fun b => lastv _ _ b M) hz) hz
    show k1_pay27 (F := Ideal) _ _ _ _ x = (0 : EReal) ↔ _
    rw [done_row i act done q hq]
    rcases hd (ix2 (0 : Fin 1) (x 1 : Fin 2048)) with e | e <;> rw [e] <;> split
    · next h => exact ⟨fun _ => ⟨rfl, h⟩, fun _ => max_self _⟩
    · next h => exact ⟨fun h' => absurd ((le_max_right _ _).trans_eq h') (not_le.mpr zero_lt_one), fun h' => absurd h'.2 h⟩
    · exact ⟨fun h' => absurd ((le_max_left _ _).trans_eq h') (not_le.mpr zero_lt_one), fun h' => absurd h'.1 one_ne_zero⟩
    · exact ⟨fun h' => absurd ((le_max_left _ _).trans_eq h') (not_le.mpr zero_lt_one), fun h' => absurd h'.1 one_ne_zero⟩

theorem spread_row {α : Type} (v : S1x2048.Idx → α) (s : Fin 200) (c : Fin 2048) :
    broadcastTo S200x2048 v broadcasts_S1x2048_S200x2048 (ix2 s c) = v (ix2 (0 : Fin 1) c) := by pointwise

theorem slice_at (v : FVec Ideal S8x2048 .f32) (c : Fin 2048) :
    extractStridedSlice S1x2048 ![0, 0] v slices_S8x2048_o0_0_S1x2048 (ix2 (0 : Fin 1) c) = v (ix2 (0 : Fin 8) c)
    ∧ extractStridedSlice S1x2048 ![1, 0] v slices_S8x2048_o1_0_S1x2048 (ix2 (0 : Fin 1) c) = v (ix2 (1 : Fin 8) c)
    ∧ extractStridedSlice S1x2048 ![2, 0] v slices_S8x2048_o2_0_S1x2048 (ix2 (0 : Fin 1) c) = v (ix2 (2 : Fin 8) c)
    ∧ extractStridedSlice S1x2048 ![3, 0] v slices_S8x2048_o3_0_S1x2048 (ix2 (0 : Fin 1) c) = v (ix2 (3 : Fin 8) c)
    ∧ extractStridedSlice S1x2048 ![4, 0] v slices_S8x2048_o4_0_S1x2048 (ix2 (0 : Fin 1) c) = v (ix2 (4 : Fin 8) c)
    ∧ extractStridedSlice S1x2048 ![5, 0] v slices_S8x2048_o5_0_S1x2048 (ix2 (0 : Fin 1) c) = v (ix2 (5 : Fin 8) c)
    ∧ extractStridedSlice S1x2048 ![6, 0] v slices_S8x2048_o6_0_S1x2048 (ix2 (0 : Fin 1) c) = v (ix2 (6 : Fin 8) c)
    ∧ extractStridedSlice S1x2048 ![7, 0] v slices_S8x2048_o7_0_S1x2048 (ix2 (0 : Fin 1) c) = v (ix2 (7 : Fin 8) c) := by
  refine ⟨?_, ?_, ?_, ?_, ?_, ?_, ?_, ?_⟩ <;> pointwise

/-- The eight intervals of a block at a lane. -/
def ivl (v : FVec Ideal S8x2048 .f32) (c : Fin 2048) (r : ℕ) : EReal := if h : r < 8 then v (ix2 (⟨r, h⟩ : Fin 8) c) else 0

/-- The slots are the numbers from 1 on. -/
theorem slot_at (s : Fin 200) (c : Fin 2048) : k1_pay2 (F := Ideal) (ix2 s c) = ((s.val + 1 : ℕ) : EReal) := by
  have e : iota .tc S200x2048 32 [0] iota_S200x2048_d0_w32 (ix2 s c) = BitVec.ofNat 32 s.val := by
    show BitVec.ofNat 32 (0 * S200x2048.size 0 + s.val) = _
    rw [Nat.zero_mul, Nat.zero_add]
  have hw : ∀ s : Fin 200, (BitVec.ofNat 32 s.val + 1#32).toInt = ((s.val + 1 : ℕ) : ℤ) := by decide
  show (((iota .tc S200x2048 32 [0] iota_S200x2048_d0_w32 (ix2 s c) + 1#32).toInt : ℝ) : EReal) = _
  rw [e, hw]; norm_cast

section Sums

variable (q : ℕ) (s : Run Ideal) (c : Fin 2048)

theorem sums_at (x : Fix Ideal) (arg : BitVec 32) (acc : FVec Ideal S1x2048 .f32) (kk v : FVec Ideal S8x2048 .f32) (hv : k1_pay28 x.v6 x.v35 arg kk = v) :
    k1_pay29 x.v6 x.v35 arg acc kk (ix2 (0 : Fin 1) c) = run (acc (ix2 (0 : Fin 1) c)) (ivl v c) 0
    ∧ k1_pay30 x.v6 x.v35 arg acc kk (ix2 (0 : Fin 1) c) = run (acc (ix2 (0 : Fin 1) c)) (ivl v c) 1
    ∧ k1_pay31 x.v6 x.v35 arg acc kk (ix2 (0 : Fin 1) c) = run (acc (ix2 (0 : Fin 1) c)) (ivl v c) 2
    ∧ k1_pay32 x.v6 x.v35 arg acc kk (ix2 (0 : Fin 1) c) = run (acc (ix2 (0 : Fin 1) c)) (ivl v c) 3
    ∧ k1_pay33 x.v6 x.v35 arg acc kk (ix2 (0 : Fin 1) c) = run (acc (ix2 (0 : Fin 1) c)) (ivl v c) 4
    ∧ k1_pay35 x.v6 x.v35 arg acc kk (ix2 (0 : Fin 1) c) = run (acc (ix2 (0 : Fin 1) c)) (ivl v c) 5
    ∧ k1_pay7 v (k1_pay35 x.v6 x.v35 arg acc kk) (ix2 (0 : Fin 1) c) = run (acc (ix2 (0 : Fin 1) c)) (ivl v c) 6
    ∧ k1_pay8 v (k1_pay35 x.v6 x.v35 arg acc kk) (ix2 (0 : Fin 1) c) = run (acc (ix2 (0 : Fin 1) c)) (ivl v c) 7 := by
  obtain ⟨s0, s1, s2, s3, s4, s5, s6, s7⟩ := slice_at v c
  have e0 : k1_pay29 x.v6 x.v35 arg acc kk (ix2 (0 : Fin 1) c) = run (acc (ix2 (0 : Fin 1) c)) (ivl v c) 0 := by
    refine Eq.trans ?_ (congrArg (fun z : EReal => (acc (ix2 (0 : Fin 1) c) : EReal) + z) s0)
    rw [← hv]; rfl
  have e1 : k1_pay30 x.v6 x.v35 arg acc kk (ix2 (0 : Fin 1) c) = run (acc (ix2 (0 : Fin 1) c)) (ivl v c) 1 := by
    refine Eq.trans ?_ (congrArg₂ (fun y z : EReal => y + z) e0 s1)
    rw [← hv]; rfl
  have e2 : k1_pay31 x.v6 x.v35 arg acc kk (ix2 (0 : Fin 1) c) = run (acc (ix2 (0 : Fin 1) c)) (ivl v c) 2 := by
    refine Eq.trans ?_ (congrArg₂ (fun y z : EReal => y + z) e1 s2)
    rw [← hv]; rfl
  have e3 : k1_pay32 x.v6 x.v35 arg acc kk (ix2 (0 : Fin 1) c) = run (acc (ix2 (0 : Fin 1) c)) (ivl v c) 3 := by
    refine Eq.trans ?_ (congrArg₂ (fun y z : EReal => y + z) e2 s3)
    rw [← hv]; rfl
  have e4 : k1_pay33 x.v6 x.v35 arg acc kk (ix2 (0 : Fin 1) c) = run (acc (ix2 (0 : Fin 1) c)) (ivl v c) 4 := by
    refine Eq.trans ?_ (congrArg₂ (fun y z : EReal => y + z) e3 s4)
    rw [← hv]; rfl
  have e5 : k1_pay35 x.v6 x.v35 arg acc kk (ix2 (0 : Fin 1) c) = run (acc (ix2 (0 : Fin 1) c)) (ivl v c) 5 := by
    refine Eq.trans ?_ (congrArg₂ (fun y z : EReal => y + z) e4 s5)
    rw [← hv]; rfl
  have e6 : k1_pay7 v (k1_pay35 x.v6 x.v35 arg acc kk) (ix2 (0 : Fin 1) c) = run (acc (ix2 (0 : Fin 1) c)) (ivl v c) 6 :=
    Eq.trans rfl (congrArg₂ (fun y z : EReal => y + z) e5 s6)
  have e7 : k1_pay8 v (k1_pay35 x.v6 x.v35 arg acc kk) (ix2 (0 : Fin 1) c) = run (acc (ix2 (0 : Fin 1) c)) (ivl v c) 7 :=
    Eq.trans rfl (congrArg₂ (fun y z : EReal => y + z) e6 s7)
  exact ⟨e0, e1, e2, e3, e4, e5, e6, e7⟩

theorem self200 (v : Vec Ideal S200x2048 .i32) : shapeCast S200x2048 v shapeCasts_S200x2048_S200x2048 = v := by pointwise

theorem cmpi_ne (a : BitVec 32) : IntOp.cmpi .ne a 0#32 = 1#1 ↔ a ≠ 0#32 := by
  show BitVec.ofBool (a != 0#32) = 1#1 ↔ _
  by_cases h : a = 0#32
  · subst h; decide
  · rw [bne_iff_ne.mpr h]; exact ⟨fun _ => h, fun _ => rfl⟩

/-- The marks after a block. -/
theorem mark_at (x : Fix Ideal) (hx : x.v43 = k1_pay2 (F := Ideal)) (arg : BitVec 32) (old : Vec Ideal S200x2048 .i32) (acc : FVec Ideal S1x2048 .f32)
    (kk v : FVec Ideal S8x2048 .f32) (hv : k1_pay28 x.v6 x.v35 arg kk = v) (t : Fin 200) :
    k1_pay9 x.v43 v (k1_pay34 x.v6 x.v35 x.v43 arg acc kk) (k1_pay35 x.v6 x.v35 arg acc kk) (k1_pay36 x.v6 x.v35 arg acc kk) old (ix2 t c) ≠ 0#32
      ↔ old (ix2 t c) ≠ 0#32 ∨ ∃ r < 8, ((t.val + 1 : ℕ) : EReal) = run (acc (ix2 (0 : Fin 1) c)) (ivl v c) r := by
  obtain ⟨e0, e1, e2, e3, e4, e5, e6, e7⟩ := sums_at c x arg acc kk v hv
  have hs : x.v43 (ix2 t c) = ((t.val + 1 : ℕ) : EReal) := hx ▸ slot_at t c
  have hb : ∀ (y : FVec Ideal S1x2048 .f32) (z : EReal), y (ix2 (0 : Fin 1) c) = z →
      (FloatOps.cmpf .oeq (x.v43 (ix2 t c)) (broadcastTo S200x2048 y broadcasts_S1x2048_S200x2048 (ix2 t c)) = 1#1 ↔ ((t.val + 1 : ℕ) : EReal) = z) := fun y z e => by
    rw [spread_row, oeq_iff, hs, e]
  show BitVec.setWidth 32 (IntOp.ori (IntOp.cmpi .ne (shapeCast S200x2048 old shapeCasts_S200x2048_S200x2048 (ix2 t c)) 0#32)
    (IntOp.ori (IntOp.ori (IntOp.ori (IntOp.ori (IntOp.ori (IntOp.ori (IntOp.ori (IntOp.ori 0#1
      (FloatOps.cmpf .oeq (x.v43 (ix2 t c)) (broadcastTo S200x2048 (k1_pay29 x.v6 x.v35 arg acc kk) broadcasts_S1x2048_S200x2048 (ix2 t c))))
      (FloatOps.cmpf .oeq (x.v43 (ix2 t c)) (broadcastTo S200x2048 (k1_pay30 x.v6 x.v35 arg acc kk) broadcasts_S1x2048_S200x2048 (ix2 t c))))
      (FloatOps.cmpf .oeq (x.v43 (ix2 t c)) (broadcastTo S200x2048 (k1_pay31 x.v6 x.v35 arg acc kk) broadcasts_S1x2048_S200x2048 (ix2 t c))))
      (FloatOps.cmpf .oeq (x.v43 (ix2 t c)) (broadcastTo S200x2048 (k1_pay32 x.v6 x.v35 arg acc kk) broadcasts_S1x2048_S200x2048 (ix2 t c))))
      (FloatOps.cmpf .oeq (x.v43 (ix2 t c)) (broadcastTo S200x2048 (k1_pay33 x.v6 x.v35 arg acc kk) broadcasts_S1x2048_S200x2048 (ix2 t c))))
      (FloatOps.cmpf .oeq (x.v43 (ix2 t c)) (broadcastTo S200x2048 (k1_pay35 x.v6 x.v35 arg acc kk) broadcasts_S1x2048_S200x2048 (ix2 t c))))
      (FloatOps.cmpf .oeq (x.v43 (ix2 t c)) (broadcastTo S200x2048 (k1_pay7 v (k1_pay35 x.v6 x.v35 arg acc kk)) broadcasts_S1x2048_S200x2048 (ix2 t c))))
      (FloatOps.cmpf .oeq (x.v43 (ix2 t c)) (broadcastTo S200x2048 (k1_pay8 v (k1_pay35 x.v6 x.v35 arg acc kk)) broadcasts_S1x2048_S200x2048 (ix2 t c))))) ≠ 0#32 ↔ _
  rw [extui_ne, or_iff, or_iff, or_iff, or_iff, or_iff, or_iff, or_iff, or_iff, or_iff, self200, cmpi_ne,
    hb _ _ e0, hb _ _ e1, hb _ _ e2, hb _ _ e3, hb _ _ e4, hb _ _ e5, hb _ _ e6, hb _ _ e7]
  refine or_congr Iff.rfl ⟨?_, ?_⟩
  · rintro (((((((((h | h) | h) | h) | h) | h) | h) | h) | h))
    · exact absurd h (by decide)
    · exact ⟨0, by omega, h⟩
    · exact ⟨1, by omega, h⟩
    · exact ⟨2, by omega, h⟩
    · exact ⟨3, by omega, h⟩
    · exact ⟨4, by omega, h⟩
    · exact ⟨5, by omega, h⟩
    · exact ⟨6, by omega, h⟩
    · exact ⟨7, by omega, h⟩
  · rintro ⟨r, hr, h⟩
    interval_cases r
    · exact .inl (.inl (.inl (.inl (.inl (.inl (.inl (.inr h)))))))
    · exact .inl (.inl (.inl (.inl (.inl (.inl (.inr h))))))
    · exact .inl (.inl (.inl (.inl (.inl (.inr h)))))
    · exact .inl (.inl (.inl (.inl (.inr h))))
    · exact .inl (.inl (.inl (.inr h)))
    · exact .inl (.inl (.inr h))
    · exact .inl (.inr h)
    · exact .inr h

end Sums

include hact in
theorem active_at (c : Fin 2048) : k1_pay23 act (ix2 (0 : Fin 1) c) = 1#1 ↔ D.act (2048 * (i 0).val + c.val) := by
  have e : shapeCast S1x2048 act shapeCasts_S1x2048_S1x2048 = act := by pointwise
  show IntOp.cmpi .ne (shapeCast S1x2048 act shapeCasts_S1x2048_S1x2048 (ix2 (0 : Fin 1) c)) 0#32 = 1#1 ↔ _
  rw [e, cmpi_ne]; exact hact c

include hact in
/-- The intervals of block `q`: nothing past row 201, one where an active lane drew nothing. -/
theorem ivl_at (q : ℕ) (hq : q < 26) (kk : FVec Ideal S8x2048 .f32) (c : Fin 2048) (r : ℕ) (hr : r < 8) :
    ivl (k1_pay28 (fix1 (F := Ideal) i act).v6 (fix1 (F := Ideal) i act).v35 (BitVec.ofNat 32 (8 * q)) kk) c r
      = if 8 * q + r < 201 then (if D.act (2048 * (i 0).val + c.val) ∧ kk (ix2 (⟨r, hr⟩ : Fin 8) c) = (0 : EReal) then 1 else kk (ix2 (⟨r, hr⟩ : Fin 8) c)) else (0 : EReal) := by
  rw [ivl, dif_pos hr]
  show Scalar.select (k1_pay25 (fix1 (F := Ideal) i act).v6 (BitVec.ofNat 32 (8 * q)) (ix2 (⟨r, hr⟩ : Fin 8) c))
    (Scalar.select (IntOp.andi (broadcastTo S8x2048 (k1_pay23 act) broadcasts_S1x2048_S8x2048 (ix2 (⟨r, hr⟩ : Fin 8) c)) (FloatOps.cmpf .oeq (kk (ix2 (⟨r, hr⟩ : Fin 8) c)) (lit 0x00000000#32)))
      (lit 0x3F800000#32) (kk (ix2 (⟨r, hr⟩ : Fin 8) c))) (lit 0x00000000#32) = _
  rw [select_if, select_if, lit_zero, lit_one]
  refine if_congr (inRow i act q hq _) (if_congr ?_ rfl rfl) rfl
  rw [and_iff, oeq_iff, row_bcast]
  exact and_congr (active_at D i act hact c) Iff.rfl

/-- What holds of the state before block `q`. -/
def Inv (q : ℕ) (s : Run Ideal) : Prop :=
  ∀ (c : Fin 2048) (t : Fin 200), Held D M (2048 * (i 0).val + c.val) q (s.2.1 (ix2 (0 : Fin 1) c)) (s.2.2 (ix2 (0 : Fin 1) c)) ((t.val + 1 : ℕ) : EReal) (s.1 (ix2 t c) ≠ 0#32)

theorem slot_pos (t : Fin 200) : (0 : EReal) < ((t.val + 1 : ℕ) : EReal) := by exact_mod_cast Nat.succ_pos _
theorem slot_le (t : Fin 200) : ((t.val + 1 : ℕ) : EReal) ≤ 200 := by
  have : ((t.val + 1 : ℕ) : EReal) ≤ ((200 : ℕ) : EReal) := by exact_mod_cast (show t.val + 1 ≤ 200 by omega)
  exact this

theorem idx1 (z : S1x2048.Idx) : z = ix2 (0 : Fin 1) (z 1 : Fin 2048) := by
  funext a; fin_cases a
  · exact Fin.ext (Nat.lt_one_iff.mp (z 0).isLt)
  · rfl

include hlane hkey hact h0 in
theorem inv_step (q : ℕ) (hq : q < 26) (s : Run Ideal) (H : Inv D i M q s) :
    Inv D i M (q + 1) (chunk1 (fix1 i act) (par1 B) (Scalar.ofBits .f32 0x3F800000#32) K M q s) := by
  have hd : ∀ z, s.2.2 z = (0 : EReal) ∨ s.2.2 z = (1 : EReal) := fun z => by
    rw [idx1 z]
    have h := H (z 1) 0
    by_cases ha : D.act (2048 * (i 0).val + (z 1).val)
    · rcases h.active ha with h' | h'
      · exact .inl h'.1
      · exact .inr h'.1
    · exact .inr (h.inactive ha).1
  intro c t
  obtain ⟨-, -, -, -, -, -, -, e7⟩ := sums_at c (fix1 (F := Ideal) i act) (BitVec.ofNat 32 (8 * q)) s.2.1
    (draws1 (fix1 i act) (par1 B) (Scalar.ofBits .f32 0x3F800000#32) K M q s.2.2) _ rfl
  have hk : ∀ (r : ℕ) (hr : r < 8), draws1 (fix1 i act) (par1 B) (Scalar.ofBits .f32 0x3F800000#32) K M q s.2.2 (ix2 (⟨r, hr⟩ : Fin 8) c)
      = if s.2.2 (ix2 (0 : Fin 1) c) = (0 : EReal) ∧ 8 * q + r < 201 then D.drew M (8 * q + r) (2048 * (i 0).val + c.val) else (0 : EReal) := fun r hr =>
    draws_at D i B act K M hlane hkey q hq s.2.2 hd (ix2 (⟨r, hr⟩ : Fin 8) c)
  refine Held.step (slot_pos t) (slot_le t) (H c t) (fun t => h0 t _)
    (ivl (k1_pay28 (fix1 (F := Ideal) i act).v6 (fix1 (F := Ideal) i act).v35 (BitVec.ofNat 32 (8 * q)) (draws1 (fix1 i act) (par1 B) (Scalar.ofBits .f32 0x3F800000#32) K M q s.2.2)) c)
    ?_ ?_ ?_ e7 ?_ ?_
  · intro ha hdn r hr
    rw [ivl_at D i act hact q hq _ c r hr, hk r hr, Data.res]
    by_cases hl : 8 * q + r < 201
    · have hkk : (if s.2.2 (ix2 (0 : Fin 1) c) = (0 : EReal) ∧ 8 * q + r < 201 then D.drew M (8 * q + r) (2048 * (i 0).val + c.val) else (0 : EReal))
          = D.drew M (8 * q + r) (2048 * (i 0).val + c.val) := if_pos ⟨hdn, hl⟩
      rw [hkk, if_pos hl, if_pos (show 8 * q + r < 201 ∧ D.act (2048 * (i 0).val + c.val) from ⟨hl, ha⟩)]
      exact if_congr ⟨fun h => h.2, fun h => ⟨ha, h⟩⟩ rfl rfl
    · rw [if_neg hl, if_neg fun h => hl h.1]
  · intro ha hdn r
    by_cases hr : r < 8
    · rw [ivl_at D i act hact q hq _ c r hr, hk r hr, if_neg (show ¬ (s.2.2 (ix2 (0 : Fin 1) c) = (0 : EReal) ∧ 8 * q + r < 201) from fun h => one_ne_zero (hdn.symm.trans h.1))]
      split
      · split
        · exact zero_le_one
        · exact le_rfl
      · exact le_rfl
    · rw [ivl, dif_neg hr]
  · intro ha r
    have hdn := ((H c t).inactive ha).1
    by_cases hr : r < 8
    · have hkk : (if s.2.2 (ix2 (0 : Fin 1) c) = (0 : EReal) ∧ 8 * q + r < 201 then D.drew M (8 * q + r) (2048 * (i 0).val + c.val) else (0 : EReal)) = 0 :=
        if_neg fun h => one_ne_zero (hdn.symm.trans h.1)
      rw [ivl_at D i act hact q hq _ c r hr, hk r hr, hkk, if_neg (show ¬ (D.act (2048 * (i 0).val + c.val) ∧ (0 : EReal) = 0) from fun h => ha h.1), ite_self]
    · rw [ivl, dif_neg hr]
  · show Scalar.select (FloatOps.cmpf .ogt (k1_pay8 _ _ (ix2 (0 : Fin 1) c)) (lit 0x43480000#32)) (Scalar.ofBits .f32 0x3F800000#32 : Ideal .f32) (s.2.2 (ix2 (0 : Fin 1) c)) = _
    rw [select_if]
    refine if_congr ?_ lit_one rfl
    rw [ogt_iff, lit_200]
    exact iff_of_eq (congrArg (fun z : EReal => 200 < z) e7)
  · exact mark_at c (fix1 (F := Ideal) i act) rfl (BitVec.ofNat 32 (8 * q)) s.1 s.2.1 _ _ rfl t

include hact in
theorem inv_start : Inv D i M 0 (k1_pay1 0#1, k1_pay4 (F := Ideal), k1_pay5 (F := Ideal) (k1_pay23 act)) := by
  intro c t
  have h5 : k1_pay5 (F := Ideal) (k1_pay23 act) (ix2 (0 : Fin 1) c) = if D.act (2048 * (i 0).val + c.val) then (0 : EReal) else 1 := by
    show Scalar.select (k1_pay23 act (ix2 (0 : Fin 1) c)) (lit 0x00000000#32) (lit 0x3F800000#32) = _
    rw [select_if, lit_zero, lit_one]
    exact if_congr (active_at D i act hact c) rfl rfl
  have h4 : k1_pay4 (F := Ideal) (ix2 (0 : Fin 1) c) = (0 : EReal) := lit_zero
  show Held D M _ 0 (k1_pay4 (F := Ideal) (ix2 (0 : Fin 1) c)) (k1_pay5 (F := Ideal) (k1_pay23 act) (ix2 (0 : Fin 1) c)) _ (BitVec.setWidth 32 0#1 ≠ 0#32)
  rw [h5, h4]
  exact Held.start D M _ _ _ _ (fun h => if_pos h) (fun h => if_neg h) (fun h => h (by decide))

include hlane hkey hact h0 in
/-- The marks the second kernel's body leaves. -/
theorem marks_iff (t : Fin 200) (c : Fin 2048) :
    marks i B act K M (ix2 t c) ≠ 0#32 ↔ D.Mark M (2048 * (i 0).val + c.val) ((t.val + 1 : ℕ) : EReal) := by
  obtain ⟨r, hr, e, -, hl⟩ := runUp_spec Open2 (chunk1 (fix1 i act) (par1 B) (Scalar.ofBits .f32 0x3F800000#32) K M) 26 0
    (k1_pay1 0#1, k1_pay4 (F := Ideal), k1_pay5 (F := Ideal) (k1_pay23 act))
  have hinv : ∀ r ≤ 26, Inv D i M r (iter (chunk1 (fix1 i act) (par1 B) (Scalar.ofBits .f32 0x3F800000#32) K M) 0
      (k1_pay1 0#1, k1_pay4 (F := Ideal), k1_pay5 (F := Ideal) (k1_pay23 act)) r) := by
    intro r
    induction r with
    | zero => exact fun _ => inv_start D i act M hact
    | succ r ih =>
      intro hr
      have := inv_step D i B act K M hlane hkey hact h0 r (by omega) _ (ih (by omega))
      unfold iter
      rw [Nat.zero_add]; exact this
  have hm : marks i B act K M = (iter (chunk1 (fix1 i act) (par1 B) (Scalar.ofBits .f32 0x3F800000#32) K M) 0
      (k1_pay1 0#1, k1_pay4 (F := Ideal), k1_pay5 (F := Ideal) (k1_pay23 act)) r).1 := by
    unfold marks loop1
    rw [e]
  rw [hm]
  refine (hinv r hr c t).final (fun t => h0 t _) hr ?_ (slot_pos t) (slot_le t)
  rcases hl with hl | hl
  · exact .inl hl
  · exact .inr fun h => hl ((open2_iff _).mpr ⟨_, h⟩)

end Block

end Cert.Proof.KI
-- ==== Proof.KI.Array.lean ====
/-
  Where a block of either region lies in its array, and the second region's array as one array of marks.
-/
module

public import proofs.«01_k».proof.Proof.KI.Run

@[expose] public section

noncomputable section

namespace Cert.Proof.KI

open Cert.KernelIdeal Cert.KernelIdeal.Gen
open Idealize.ShloMosaic
open Idealize.ShloMosaic.TcCoe Idealize.ShloMosaic.Tactic
open Idealize.ShloMosaic.Pipeline

/-! ## Where a block lies in its array -/

theorem grid0_at : ∀ t : Fin grid0.N, ((grid0.coords t) 0).val = t.val := by decide +kernel
theorem grid1_at : ∀ t : Fin grid1.N, ((grid1.coords t) 0).val = t.val := by decide +kernel
theorem grid0_N : grid0.N = 32 := by decide
theorem grid1_N : grid1.N = 32 := by decide

/-- Lane `c` of block `t`. -/
def laneAt (t : ℕ) (ht : t < 32) (c : Fin 2048) : Fin 65536 := ⟨2048 * t + c.val, by have := c.isLt; omega⟩

theorem place0_0 (t : Fin grid0.N) (c : Fin 2048) :
    (win0_0.rect t).emb (show (win0_0.xblock (grid0.coords t)).Idx from ix2 (0 : Fin 1) c) = ix2 (0 : Fin 1) (laneAt t.val (grid0_N ▸ t.isLt) c) := by
  have h : ∀ t : Fin grid0.N, win0_0.index t ⟨0, by decide⟩ = 0 ∧ win0_0.index t ⟨1, by decide⟩ = t.val := by decide +kernel
  refine funext fun a => Fin.ext ?_
  refine (win0_0.rect_emb_val t (show (win0_0.xblock (grid0.coords t)).Idx from ix2 (0 : Fin 1) c) a).trans ?_
  match a with
  | ⟨0, _⟩ => show win0_0.index t ⟨0, _⟩ * 1 + 0 = 0; rw [(h t).1]
  | ⟨1, _⟩ => show win0_0.index t ⟨1, _⟩ * 2048 + c.val = 2048 * t.val + c.val; rw [(h t).2, Nat.mul_comm]
theorem place0_1 (t : Fin grid0.N) (c : Fin 2048) :
    (win0_1.rect t).emb (show (win0_1.xblock (grid0.coords t)).Idx from ix2 (0 : Fin 1) c) = ix2 (0 : Fin 1) (laneAt t.val (grid0_N ▸ t.isLt) c) := by
  have h : ∀ t : Fin grid0.N, win0_1.index t ⟨0, by decide⟩ = 0 ∧ win0_1.index t ⟨1, by decide⟩ = t.val := by decide +kernel
  refine funext fun a => Fin.ext ?_
  refine (win0_1.rect_emb_val t (show (win0_1.xblock (grid0.coords t)).Idx from ix2 (0 : Fin 1) c) a).trans ?_
  match a with
  | ⟨0, _⟩ => show win0_1.index t ⟨0, _⟩ * 1 + 0 = 0; rw [(h t).1]
  | ⟨1, _⟩ => show win0_1.index t ⟨1, _⟩ * 2048 + c.val = 2048 * t.val + c.val; rw [(h t).2, Nat.mul_comm]
theorem place0_2 (t : Fin grid0.N) (c : Fin 2048) :
    (win0_2.rect t).emb (show (win0_2.xblock (grid0.coords t)).Idx from ix2 (0 : Fin 1) c) = ix2 (0 : Fin 1) (laneAt t.val (grid0_N ▸ t.isLt) c) := by
  have h : ∀ t : Fin grid0.N, win0_2.index t ⟨0, by decide⟩ = 0 ∧ win0_2.index t ⟨1, by decide⟩ = t.val := by decide +kernel
  refine funext fun a => Fin.ext ?_
  refine (win0_2.rect_emb_val t (show (win0_2.xblock (grid0.coords t)).Idx from ix2 (0 : Fin 1) c) a).trans ?_
  match a with
  | ⟨0, _⟩ => show win0_2.index t ⟨0, _⟩ * 1 + 0 = 0; rw [(h t).1]
  | ⟨1, _⟩ => show win0_2.index t ⟨1, _⟩ * 2048 + c.val = 2048 * t.val + c.val; rw [(h t).2, Nat.mul_comm]
theorem place0_3 (t : Fin grid0.N) (c : Fin 2048) :
    (win0_3.rect t).emb (show (win0_3.xblock (grid0.coords t)).Idx from ix2 (0 : Fin 1) c) = ix2 (0 : Fin 1) (laneAt t.val (grid0_N ▸ t.isLt) c) := by
  have h : ∀ t : Fin grid0.N, win0_3.index t ⟨0, by decide⟩ = 0 ∧ win0_3.index t ⟨1, by decide⟩ = t.val := by decide +kernel
  refine funext fun a => Fin.ext ?_
  refine (win0_3.rect_emb_val t (show (win0_3.xblock (grid0.coords t)).Idx from ix2 (0 : Fin 1) c) a).trans ?_
  match a with
  | ⟨0, _⟩ => show win0_3.index t ⟨0, _⟩ * 1 + 0 = 0; rw [(h t).1]
  | ⟨1, _⟩ => show win0_3.index t ⟨1, _⟩ * 2048 + c.val = 2048 * t.val + c.val; rw [(h t).2, Nat.mul_comm]
theorem place0_4 (t : Fin grid0.N) (c : Fin 2048) :
    (win0_4.rect t).emb (show (win0_4.xblock (grid0.coords t)).Idx from ix2 (0 : Fin 1) c) = ix2 (0 : Fin 1) (laneAt t.val (grid0_N ▸ t.isLt) c) := by
  have h : ∀ t : Fin grid0.N, win0_4.index t ⟨0, by decide⟩ = 0 ∧ win0_4.index t ⟨1, by decide⟩ = t.val := by decide +kernel
  refine funext fun a => Fin.ext ?_
  refine (win0_4.rect_emb_val t (show (win0_4.xblock (grid0.coords t)).Idx from ix2 (0 : Fin 1) c) a).trans ?_
  match a with
  | ⟨0, _⟩ => show win0_4.index t ⟨0, _⟩ * 1 + 0 = 0; rw [(h t).1]
  | ⟨1, _⟩ => show win0_4.index t ⟨1, _⟩ * 2048 + c.val = 2048 * t.val + c.val; rw [(h t).2, Nat.mul_comm]
theorem place0_5 (t : Fin grid0.N) (c : Fin 2048) :
    (win0_5.rect t).emb (show (win0_5.xblock (grid0.coords t)).Idx from ix2 (0 : Fin 1) c) = ix2 (0 : Fin 1) (laneAt t.val (grid0_N ▸ t.isLt) c) := by
  have h : ∀ t : Fin grid0.N, win0_5.index t ⟨0, by decide⟩ = 0 ∧ win0_5.index t ⟨1, by decide⟩ = t.val := by decide +kernel
  refine funext fun a => Fin.ext ?_
  refine (win0_5.rect_emb_val t (show (win0_5.xblock (grid0.coords t)).Idx from ix2 (0 : Fin 1) c) a).trans ?_
  match a with
  | ⟨0, _⟩ => show win0_5.index t ⟨0, _⟩ * 1 + 0 = 0; rw [(h t).1]
  | ⟨1, _⟩ => show win0_5.index t ⟨1, _⟩ * 2048 + c.val = 2048 * t.val + c.val; rw [(h t).2, Nat.mul_comm]
theorem place1_0 (t : Fin grid1.N) (c : Fin 2048) :
    (win1_0.rect t).emb (show (win1_0.xblock (grid1.coords t)).Idx from ix2 (0 : Fin 1) c) = ix2 (0 : Fin 1) (laneAt t.val (grid1_N ▸ t.isLt) c) := by
  have h : ∀ t : Fin grid1.N, win1_0.index t ⟨0, by decide⟩ = 0 ∧ win1_0.index t ⟨1, by decide⟩ = t.val := by decide +kernel
  refine funext fun a => Fin.ext ?_
  refine (win1_0.rect_emb_val t (show (win1_0.xblock (grid1.coords t)).Idx from ix2 (0 : Fin 1) c) a).trans ?_
  match a with
  | ⟨0, _⟩ => show win1_0.index t ⟨0, _⟩ * 1 + 0 = 0; rw [(h t).1]
  | ⟨1, _⟩ => show win1_0.index t ⟨1, _⟩ * 2048 + c.val = 2048 * t.val + c.val; rw [(h t).2, Nat.mul_comm]
theorem place1_1 (t : Fin grid1.N) (c : Fin 2048) :
    (win1_1.rect t).emb (show (win1_1.xblock (grid1.coords t)).Idx from ix2 (0 : Fin 1) c) = ix2 (0 : Fin 1) (laneAt t.val (grid1_N ▸ t.isLt) c) := by
  have h : ∀ t : Fin grid1.N, win1_1.index t ⟨0, by decide⟩ = 0 ∧ win1_1.index t ⟨1, by decide⟩ = t.val := by decide +kernel
  refine funext fun a => Fin.ext ?_
  refine (win1_1.rect_emb_val t (show (win1_1.xblock (grid1.coords t)).Idx from ix2 (0 : Fin 1) c) a).trans ?_
  match a with
  | ⟨0, _⟩ => show win1_1.index t ⟨0, _⟩ * 1 + 0 = 0; rw [(h t).1]
  | ⟨1, _⟩ => show win1_1.index t ⟨1, _⟩ * 2048 + c.val = 2048 * t.val + c.val; rw [(h t).2, Nat.mul_comm]
theorem place1_2 (t : Fin grid1.N) (c : Fin 2048) :
    (win1_2.rect t).emb (show (win1_2.xblock (grid1.coords t)).Idx from ix2 (0 : Fin 1) c) = ix2 (0 : Fin 1) (laneAt t.val (grid1_N ▸ t.isLt) c) := by
  have h : ∀ t : Fin grid1.N, win1_2.index t ⟨0, by decide⟩ = 0 ∧ win1_2.index t ⟨1, by decide⟩ = t.val := by decide +kernel
  refine funext fun a => Fin.ext ?_
  refine (win1_2.rect_emb_val t (show (win1_2.xblock (grid1.coords t)).Idx from ix2 (0 : Fin 1) c) a).trans ?_
  match a with
  | ⟨0, _⟩ => show win1_2.index t ⟨0, _⟩ * 1 + 0 = 0; rw [(h t).1]
  | ⟨1, _⟩ => show win1_2.index t ⟨1, _⟩ * 2048 + c.val = 2048 * t.val + c.val; rw [(h t).2, Nat.mul_comm]
theorem place1_3 (t : Fin grid1.N) (c : Fin 2048) :
    (win1_3.rect t).emb (show (win1_3.xblock (grid1.coords t)).Idx from ix2 (0 : Fin 1) c) = ix2 (0 : Fin 1) (laneAt t.val (grid1_N ▸ t.isLt) c) := by
  have h : ∀ t : Fin grid1.N, win1_3.index t ⟨0, by decide⟩ = 0 ∧ win1_3.index t ⟨1, by decide⟩ = t.val := by decide +kernel
  refine funext fun a => Fin.ext ?_
  refine (win1_3.rect_emb_val t (show (win1_3.xblock (grid1.coords t)).Idx from ix2 (0 : Fin 1) c) a).trans ?_
  match a with
  | ⟨0, _⟩ => show win1_3.index t ⟨0, _⟩ * 1 + 0 = 0; rw [(h t).1]
  | ⟨1, _⟩ => show win1_3.index t ⟨1, _⟩ * 2048 + c.val = 2048 * t.val + c.val; rw [(h t).2, Nat.mul_comm]
theorem place1_4 (t : Fin grid1.N) (c : Fin 2048) :
    (win1_4.rect t).emb (show (win1_4.xblock (grid1.coords t)).Idx from ix2 (0 : Fin 1) c) = ix2 (0 : Fin 1) (laneAt t.val (grid1_N ▸ t.isLt) c) := by
  have h : ∀ t : Fin grid1.N, win1_4.index t ⟨0, by decide⟩ = 0 ∧ win1_4.index t ⟨1, by decide⟩ = t.val := by decide +kernel
  refine funext fun a => Fin.ext ?_
  refine (win1_4.rect_emb_val t (show (win1_4.xblock (grid1.coords t)).Idx from ix2 (0 : Fin 1) c) a).trans ?_
  match a with
  | ⟨0, _⟩ => show win1_4.index t ⟨0, _⟩ * 1 + 0 = 0; rw [(h t).1]
  | ⟨1, _⟩ => show win1_4.index t ⟨1, _⟩ * 2048 + c.val = 2048 * t.val + c.val; rw [(h t).2, Nat.mul_comm]
theorem place1_5 (t : Fin grid1.N) (c : Fin 2048) :
    (win1_5.rect t).emb (show (win1_5.xblock (grid1.coords t)).Idx from ix2 (0 : Fin 1) c) = ix2 (0 : Fin 1) (laneAt t.val (grid1_N ▸ t.isLt) c) := by
  have h : ∀ t : Fin grid1.N, win1_5.index t ⟨0, by decide⟩ = 0 ∧ win1_5.index t ⟨1, by decide⟩ = t.val := by decide +kernel
  refine funext fun a => Fin.ext ?_
  refine (win1_5.rect_emb_val t (show (win1_5.xblock (grid1.coords t)).Idx from ix2 (0 : Fin 1) c) a).trans ?_
  match a with
  | ⟨0, _⟩ => show win1_5.index t ⟨0, _⟩ * 1 + 0 = 0; rw [(h t).1]
  | ⟨1, _⟩ => show win1_5.index t ⟨1, _⟩ * 2048 + c.val = 2048 * t.val + c.val; rw [(h t).2, Nat.mul_comm]
theorem place1_6 (t : Fin grid1.N) (c : Fin 2048) :
    (win1_6.rect t).emb (show (win1_6.xblock (grid1.coords t)).Idx from ix2 (0 : Fin 1) c) = ix2 (0 : Fin 1) (laneAt t.val (grid1_N ▸ t.isLt) c) := by
  have h : ∀ t : Fin grid1.N, win1_6.index t ⟨0, by decide⟩ = 0 ∧ win1_6.index t ⟨1, by decide⟩ = t.val := by decide +kernel
  refine funext fun a => Fin.ext ?_
  refine (win1_6.rect_emb_val t (show (win1_6.xblock (grid1.coords t)).Idx from ix2 (0 : Fin 1) c) a).trans ?_
  match a with
  | ⟨0, _⟩ => show win1_6.index t ⟨0, _⟩ * 1 + 0 = 0; rw [(h t).1]
  | ⟨1, _⟩ => show win1_6.index t ⟨1, _⟩ * 2048 + c.val = 2048 * t.val + c.val; rw [(h t).2, Nat.mul_comm]
theorem place0_6 (t : Fin grid0.N) (y : S24x4.Idx) : (win0_6.rect t).emb (show (win0_6.xblock (grid0.coords t)).Idx from y) = y := by
  have h : ∀ t : Fin grid0.N, ∀ a, win0_6.index t a = 0 := by decide +kernel
  exact funext fun a => Fin.ext (win0_6.rect_emb_val_of_index_zero t a (h t a) _)
theorem place1_7 (t : Fin grid1.N) (y : S24x4.Idx) : (win1_7.rect t).emb (show (win1_7.xblock (grid1.coords t)).Idx from y) = y := by
  have h : ∀ t : Fin grid1.N, ∀ a, win1_7.index t a = 0 := by decide +kernel
  exact funext fun a => Fin.ext (win1_7.rect_emb_val_of_index_zero t a (h t a) _)

/-! ## The marks as one array -/

variable {F : FTy → Type} [FloatOps F]

section Marks

variable (m : (ℓ : Loc nD τ sig) → Buf (Elt F) ℓ) (c : Dev nD)

/-- The number of rounds both regions run. -/
def rds : ℕ := maxTo (counts m c) k1_t1_loop.trips

/-- Block `t` of the marks. -/
def markB (t : Fin grid1.N) : S200x2048.Idx → BitVec 32 :=
  marks (grid1.coords t) (sixB (V6 m (outs0 m) c) t) (blkB (V6 m (outs0 m) c) t 6) (blkB (V6 m (outs0 m) c) t 7) (rds m c)

theorem blk_lt (z : S200x65536.Idx) : (z 1).val / 2048 < grid1.N := by
  have : (z 1).val < 65536 := (z 1).isLt
  rw [grid1_N]; omega

/-- The marks as one array. -/
def markA (z : S200x65536.Idx) : BitVec 32 := markB m c ⟨(z 1).val / 2048, blk_lt z⟩
    (ix2 (z 0 : Fin 200) (⟨(z 1).val % 2048, Nat.mod_lt _ (by decide)⟩ : Fin 2048))

theorem mark_place (t : Fin grid1.N) (y : S200x2048.Idx) (z : S200x65536.Idx) (e : z = ix2 (y 0 : Fin 200) (laneAt t.val (grid1_N ▸ t.isLt) (y 1))) :
    markB m c t y = markA m c z := by
  have hy : (y 1).val < 2048 := (y 1).isLt
  have e1 : (z 1).val = 2048 * t.val + (y 1).val := by rw [e]; rfl
  have e0 : (z 0).val = (y 0).val := by rw [e]; rfl
  have et : (⟨(z 1).val / 2048, blk_lt z⟩ : Fin grid1.N) = t := Fin.ext (by
    show (z 1).val / 2048 = t.val
    rw [e1]; omega)
  unfold markA
  rw [et]
  refine congrArg (markB m c t) (funext fun a => Fin.ext ?_)
  match a with
  | ⟨0, _⟩ => exact e0.symm
  | ⟨1, _⟩ =>
    show (y 1).val = (z 1).val % 2048
    rw [e1]; omega

set_option maxHeartbeats 1000000 in
theorem v7_38 : V7 m (outs m) c main_v38 = markA m c := by
  rw [show V7 m (outs m) c main_v38 = outs m 7 main_v38 c from Function.update_self _ _ _]
  rw [show outs m 7 main_v38 c = (datB m c).arrAt 9 (cfg1 (F := F)).N from afterRegion_arr (datB m c) (V6 m (outs0 m) c) winFacts1.arr_inj 9]
  refine (datB m c).arrAt_eq_of_covers 9 _ (show win1_9.Covers by decide +kernel) fun t _ y => ?_
  have h : ∀ t : Fin grid1.N, win1_9.index t ⟨0, by decide⟩ = 0 ∧ win1_9.index t ⟨1, by decide⟩ = t.val := by decide +kernel
  have y0 : ∀ y : S200x2048.Idx, ((win1_9.rect t).emb (show (win1_9.xblock (grid1.coords t)).Idx from y)) = ix2 (y 0 : Fin 200) (laneAt t.val (grid1_N ▸ t.isLt) (y 1)) := fun y => by
    refine funext fun a => Fin.ext ?_
    refine (win1_9.rect_emb_val t (show (win1_9.xblock (grid1.coords t)).Idx from y) a).trans ?_
    match a with
    | ⟨0, _⟩ => show win1_9.index t ⟨0, _⟩ * 200 + (y 0).val = (y 0).val; rw [(h t).1, Nat.zero_mul, Nat.zero_add]
    | ⟨1, _⟩ => show win1_9.index t ⟨1, _⟩ * 2048 + (y 1).val = 2048 * t.val + (y 1).val; rw [(h t).2, Nat.mul_comm]
  exact mark_place m c t y _ (y0 y)

end Marks

end Cert.Proof.KI
-- ==== Proof.KI.Value.lean ====
/-
  The kernel program's result as the draws of the image: what the blocks of both regions hold, the number of rounds, and the marks
  the second region writes.
-/
module

public import proofs.«01_k».proof.Proof.KI.Params
public import proofs.«01_k».proof.Proof.KI.Marks
public import proofs.«01_k».proof.Proof.KI.Array

@[expose] public section

noncomputable section

namespace Cert.Proof.KI

open Cert.KernelIdeal Cert.KernelIdeal.Gen
open Idealize.ShloMosaic
open Idealize.ShloMosaic.TcCoe Idealize.ShloMosaic.Tactic
open Idealize.ShloMosaic.Pipeline

/-! ## The draws -/

section Run

variable (m : (ℓ : Loc nD τ sig) → Buf (Elt Ideal) ℓ) (c : Dev nD)

/-- The draws of the launched image. -/
def datD : Data := dataOf (fun r q => img m c (ix2 r q)) (fun r q => lit0 (S24x4.rowMajor (ix2 r q)))

theorem lane_of (t : ℕ) (ht : t < 32) (q : Fin 2048) : laneX (img m c (lay (ix2 (0 : Fin 1) (laneAt t ht q)))) = (datD m c).lane (2048 * t + q.val) := by
  rw [lay_eq]; rfl

theorem lane_mk {L : Lane} {a b d e f g : R} (h1 : a = L.lam) (h2 : b = L.a) (h3 : d = L.b) (h4 : e = L.ia) (h5 : f = L.ll) (h6 : g = L.vr) :
    L = Lane.mk a b d e f g := by subst h1 h2 h3 h4 h5 h6; rfl

theorem fieldA0 (t : Fin grid0.N) (q : Fin 2048) : blkA (V5 m c) t 0 (ix2 (0 : Fin 1) q) = ((datD m c).lane (2048 * t.val + q.val)).lam := by
  rw [← lane_of m c t.val (grid0_N ▸ t.isLt) q]
  exact (congrArg (V5 m c main_v12) (place0_0 t q)).trans (congrFun (v5_12 m c) _)
theorem fieldA1 (t : Fin grid0.N) (q : Fin 2048) : blkA (V5 m c) t 1 (ix2 (0 : Fin 1) q) = ((datD m c).lane (2048 * t.val + q.val)).a := by
  rw [← lane_of m c t.val (grid0_N ▸ t.isLt) q]
  exact (congrArg (V5 m c main_v22) (place0_1 t q)).trans (congrFun (v5_22 m c) _)
theorem fieldA2 (t : Fin grid0.N) (q : Fin 2048) : blkA (V5 m c) t 2 (ix2 (0 : Fin 1) q) = ((datD m c).lane (2048 * t.val + q.val)).b := by
  rw [← lane_of m c t.val (grid0_N ▸ t.isLt) q]
  exact (congrArg (V5 m c main_v18) (place0_2 t q)).trans (congrFun (v5_18 m c) _)
theorem fieldA3 (t : Fin grid0.N) (q : Fin 2048) : blkA (V5 m c) t 3 (ix2 (0 : Fin 1) q) = ((datD m c).lane (2048 * t.val + q.val)).ia := by
  rw [← lane_of m c t.val (grid0_N ▸ t.isLt) q]
  exact (congrArg (V5 m c main_v28) (place0_3 t q)).trans (congrFun (v5_28 m c) _)
theorem fieldA5 (t : Fin grid0.N) (q : Fin 2048) : blkA (V5 m c) t 5 (ix2 (0 : Fin 1) q) = ((datD m c).lane (2048 * t.val + q.val)).ll := by
  rw [← lane_of m c t.val (grid0_N ▸ t.isLt) q]
  exact (congrArg (V5 m c main_v13) (place0_5 t q)).trans (congrFun (v5_13 m c) _)
theorem fieldA4 (t : Fin grid0.N) (q : Fin 2048) : blkA (V5 m c) t 4 (ix2 (0 : Fin 1) q) = ((datD m c).lane (2048 * t.val + q.val)).vr := by
  rw [← lane_of m c t.val (grid0_N ▸ t.isLt) q]
  exact (congrArg (V5 m c main_v34) (place0_4 t q)).trans (congrFun (v5_34 m c) _)
set_option maxHeartbeats 4000000 in
theorem laneA (t : Fin grid0.N) (q : Fin 2048) : (datD m c).lane (2048 * ((grid0.coords t) 0).val + q.val) = laneB (sixA (V5 m c) t) q :=
  (congrArg (fun n => (datD m c).lane (2048 * n + q.val)) (grid0_at t)).trans (lane_mk (fieldA0 m c t q) (fieldA1 m c t q) (fieldA2 m c t q) (fieldA3 m c t q) (fieldA5 m c t q) (fieldA4 m c t q))

theorem v6_12 : V6 m (outs0 m) c main_v12 = V5 m c main_v12 := V6_of m (outs0 m) c main_v12 (by decide)
theorem v6_22 : V6 m (outs0 m) c main_v22 = V5 m c main_v22 := V6_of m (outs0 m) c main_v22 (by decide)
theorem v6_18 : V6 m (outs0 m) c main_v18 = V5 m c main_v18 := V6_of m (outs0 m) c main_v18 (by decide)
theorem v6_28 : V6 m (outs0 m) c main_v28 = V5 m c main_v28 := V6_of m (outs0 m) c main_v28 (by decide)
theorem v6_13 : V6 m (outs0 m) c main_v13 = V5 m c main_v13 := V6_of m (outs0 m) c main_v13 (by decide)
theorem v6_34 : V6 m (outs0 m) c main_v34 = V5 m c main_v34 := V6_of m (outs0 m) c main_v34 (by decide)
theorem v6_36 : V6 m (outs0 m) c main_v36 = V5 m c main_v36 := V6_of m (outs0 m) c main_v36 (by decide)
theorem v6_c : V6 m (outs0 m) c main_c = V5 m c main_c := V6_of m (outs0 m) c main_c (by decide)

theorem fieldB0 (t : Fin grid1.N) (q : Fin 2048) : blkB (V6 m (outs0 m) c) t 0 (ix2 (0 : Fin 1) q) = ((datD m c).lane (2048 * t.val + q.val)).lam := by
  rw [← lane_of m c t.val (grid1_N ▸ t.isLt) q]
  exact (congrArg (V6 m (outs0 m) c main_v12) (place1_0 t q)).trans (congrFun ((v6_12 m c).trans (v5_12 m c)) _)
theorem fieldB1 (t : Fin grid1.N) (q : Fin 2048) : blkB (V6 m (outs0 m) c) t 1 (ix2 (0 : Fin 1) q) = ((datD m c).lane (2048 * t.val + q.val)).a := by
  rw [← lane_of m c t.val (grid1_N ▸ t.isLt) q]
  exact (congrArg (V6 m (outs0 m) c main_v22) (place1_1 t q)).trans (congrFun ((v6_22 m c).trans (v5_22 m c)) _)
theorem fieldB2 (t : Fin grid1.N) (q : Fin 2048) : blkB (V6 m (outs0 m) c) t 2 (ix2 (0 : Fin 1) q) = ((datD m c).lane (2048 * t.val + q.val)).b := by
  rw [← lane_of m c t.val (grid1_N ▸ t.isLt) q]
  exact (congrArg (V6 m (outs0 m) c main_v18) (place1_2 t q)).trans (congrFun ((v6_18 m c).trans (v5_18 m c)) _)
theorem fieldB3 (t : Fin grid1.N) (q : Fin 2048) : blkB (V6 m (outs0 m) c) t 3 (ix2 (0 : Fin 1) q) = ((datD m c).lane (2048 * t.val + q.val)).ia := by
  rw [← lane_of m c t.val (grid1_N ▸ t.isLt) q]
  exact (congrArg (V6 m (outs0 m) c main_v28) (place1_3 t q)).trans (congrFun ((v6_28 m c).trans (v5_28 m c)) _)
theorem fieldB5 (t : Fin grid1.N) (q : Fin 2048) : blkB (V6 m (outs0 m) c) t 5 (ix2 (0 : Fin 1) q) = ((datD m c).lane (2048 * t.val + q.val)).ll := by
  rw [← lane_of m c t.val (grid1_N ▸ t.isLt) q]
  exact (congrArg (V6 m (outs0 m) c main_v13) (place1_5 t q)).trans (congrFun ((v6_13 m c).trans (v5_13 m c)) _)
theorem fieldB4 (t : Fin grid1.N) (q : Fin 2048) : blkB (V6 m (outs0 m) c) t 4 (ix2 (0 : Fin 1) q) = ((datD m c).lane (2048 * t.val + q.val)).vr := by
  rw [← lane_of m c t.val (grid1_N ▸ t.isLt) q]
  exact (congrArg (V6 m (outs0 m) c main_v34) (place1_4 t q)).trans (congrFun ((v6_34 m c).trans (v5_34 m c)) _)
set_option maxHeartbeats 4000000 in
theorem laneB1 (t : Fin grid1.N) (q : Fin 2048) : (datD m c).lane (2048 * ((grid1.coords t) 0).val + q.val) = laneB (sixB (V6 m (outs0 m) c) t) q :=
  (congrArg (fun n => (datD m c).lane (2048 * n + q.val)) (grid1_at t)).trans (lane_mk (fieldB0 m c t q) (fieldB1 m c t q) (fieldB2 m c t q) (fieldB3 m c t q) (fieldB5 m c t q) (fieldB4 m c t q))

theorem keysA (t : Fin grid0.N) : blkA (V5 m c) t 6 = fun i => lit0 (S24x4.rowMajor i) := by
  funext y
  show V5 m c main_c ((win0_6.rect t).emb (show (win0_6.xblock (grid0.coords t)).Idx from y)) = _
  rw [place0_6, v5_c]
theorem keysB (t : Fin grid1.N) : blkB (V6 m (outs0 m) c) t 7 = fun i => lit0 (S24x4.rowMajor i) := by
  funext y
  show V6 m (outs0 m) c main_c ((win1_7.rect t).emb (show (win1_7.xblock (grid1.coords t)).Idx from y)) = _
  rw [place1_7, v6_c, v5_c]

theorem key_of (j : ℕ) (q : Fin 4) : (datD m c).key j q = keyAt (fun i => lit0 (S24x4.rowMajor i)) j q := by
  show lit0 (S24x4.rowMajor (ix2 _ q)) = lit0 (S24x4.rowMajor _)
  refine congrArg (fun z => lit0 (S24x4.rowMajor z)) (funext fun a => ?_)
  match a with
  | ⟨0, _⟩ => rfl
  | ⟨1, _⟩ => rfl

theorem actB (t : Fin grid1.N) (q : Fin 2048) :
    blkB (V6 m (outs0 m) c) t 6 (ix2 (0 : Fin 1) q) ≠ 0#32 ↔ (datD m c).act (2048 * ((grid1.coords t) 0).val + q.val) := by
  show V6 m (outs0 m) c main_v36 ((win1_6.rect t).emb (show (win1_6.xblock (grid1.coords t)).Idx from ix2 (0 : Fin 1) q)) ≠ 0#32 ↔ _
  rw [grid1_at, place1_6, v6_36, v5_36]
  show (~~~ lowX (img m c (lay (ix2 (0 : Fin 1) (laneAt t.val (grid1_N ▸ t.isLt) q))))).setWidth 32 ≠ 0#32 ↔ _
  rw [lay_eq]
  show (~~~ lowX (img m c (ix2 (rowOf (2048 * t.val + q.val)) (colOf (2048 * t.val + q.val))))).setWidth 32 ≠ 0#32
    ↔ ¬ lowX (img m c (ix2 (rowOf (2048 * t.val + q.val)) (colOf (2048 * t.val + q.val)))) = 1#1
  generalize lowX _ = b
  revert b; decide

theorem rounds_rds : (datD m c).Rounds (rds m c) := by
  refine rounds_of (datD m c) (counts m c) (fun n => if h : n < 32 then grid0.coords ⟨n, grid0_N ▸ h⟩ else grid0.coords ⟨0, by decide⟩) (fun n hn => ?_) (fun p hp n => ?_)
  · rw [dif_pos hn]; exact grid0_at ⟨n, grid0_N ▸ hn⟩
  · simp only [dif_pos hp]
    have hp' : p < grid0.N := grid0_N ▸ hp
    have e : counts m c p = maxRounds (grid0.coords ⟨p, hp'⟩) (sixA (V5 m c) ⟨p, hp'⟩) (blkA (V5 m c) ⟨p, hp'⟩ 6) k0_t1_loop.trips := dif_pos hp'
    rw [e, maxRounds_lt (datD m c) _ _ _ (laneA m c ⟨p, hp'⟩) (fun j q => by rw [keysA]; exact key_of m c j q) n, trips0]
    exact ⟨fun ⟨k, h, _, h'⟩ => ⟨k, h, h'⟩, fun ⟨k, h, h'⟩ => ⟨k, h, h, h'⟩⟩

theorem markB_iff (h0 : ∀ t l, 0 ≤ (datD m c).res (rds m c) t l) (t : Fin grid1.N) (s : Fin 200) (q : Fin 2048) :
    markB m c t (ix2 s q) ≠ 0#32 ↔ (datD m c).Mark (rds m c) (2048 * t.val + q.val) ((s.val + 1 : ℕ) : EReal) := by
  have := marks_iff (datD m c) (grid1.coords t) (sixB (V6 m (outs0 m) c) t) (blkB (V6 m (outs0 m) c) t 6) (blkB (V6 m (outs0 m) c) t 7) (rds m c)
    (laneB1 m c t) (fun j q => by rw [keysB]; exact key_of m c j q) (actB m c t) h0 s q
  rw [grid1_at] at this
  exact this

theorem read8 (V : Valuation τ sig (Elt Ideal)) (f : S200x65536.Idx → BitVec 32) (h : V main_v38 = f) :
    StableHlo.after hostOps2 V main_v42 = shapeCast S200x64x1024 (fun z => IntOp.cmpi .ne (f z) 0#32) shapeCasts_S200x65536_S200x64x1024 := by
  after_reads_simp
  rw [h]
  rfl

/-- The kernel program's result: entry `(s, r, q)` is one where a prefix sum of its lane is `s + 1`. -/
theorem result_iff (h0 : ∀ t l, 0 ≤ (datD m c).res (rds m c) t l) (s : Fin 200) (r : Fin 64) (q : Fin 1024) :
    V8 m (outs m) c main_v42 (ix3 s r q) = 1#1 ↔ (datD m c).Mark (rds m c) (1024 * r.val + q.val) ((s.val + 1 : ℕ) : EReal) := by
  have hr := r.isLt
  have hq := q.isLt
  rw [show V8 m (outs m) c main_v42 = _ from read8 _ _ (v7_38 m c)]
  have e : ∀ f : S200x65536.Idx → BitVec 1, shapeCast S200x64x1024 f shapeCasts_S200x65536_S200x64x1024 (ix3 s r q)
      = f (ix2 s (⟨1024 * r.val + q.val, by omega⟩ : Fin 65536)) := fun f => by
    pointwise
    exact congrArg (fun z => f (ix2 s z)) (Fin.ext (by show r.val * 1024 + q.val = 1024 * r.val + q.val; omega))
  rw [e]
  have hw : ∀ w : BitVec 32, IntOp.cmpi .ne w 0#32 = 1#1 ↔ w ≠ 0#32 := fun w => by
    show BitVec.ofBool (w != 0#32) = 1#1 ↔ _
    by_cases h : w = 0#32
    · simp [h]
    · rw [show (w != 0#32) = true from bne_iff_ne.mpr h]; exact ⟨fun _ => h, fun _ => rfl⟩
  rw [hw]
  refine (markB_iff m c h0 _ s _).trans ?_
  show (datD m c).Mark (rds m c) (2048 * ((1024 * r.val + q.val) / 2048) + (1024 * r.val + q.val) % 2048) _ ↔ _
  rw [Nat.div_add_mod]

end Run

end Cert.Proof.KI
-- ==== Proof.RI.Draw.lean ====
/-
  The reference's draws at an index: its words stage by stage, the two numbers of a round, the candidate and the test.
-/
module

public import proofs.«01_k».proof.Proof.Draw
public import proofs.«01_k».proof.Proof.Gen.ReferenceIdeal.Run

@[expose] public section

set_option maxRecDepth 8192

noncomputable section

namespace Cert.Proof.RI

open Cert.ReferenceIdeal Cert.ReferenceIdeal.Gen Cert.ReferenceIdeal.Value
open Idealize.ShloMosaic

abbrev rv43 (V : Valuation τ sig (Elt Ideal)) (i : S24x201x64x1024.Idx) : BitVec 32 := res_main_v43 V i

abbrev rv46 (V : Valuation τ sig (Elt Ideal)) (i : S24x201x64x1024.Idx) : BitVec 32 := res_main_v46 V i

abbrev rv49 (V : Valuation τ sig (Elt Ideal)) (i : S24x201x64x1024.Idx) : BitVec 32 := res_main_v49 V i

abbrev rv52 (V : Valuation τ sig (Elt Ideal)) (i : S24x201x64x1024.Idx) : BitVec 32 := res_main_v52 V i

abbrev rv55 (V : Valuation τ sig (Elt Ideal)) (i : S24x201x64x1024.Idx) : BitVec 32 := res_main_v55 V i

theorem r46' (V : Valuation τ sig (Elt Ideal)) (i : S24x201x64x1024.Idx) : res_main_v46 V i = rv46 V i := rfl

theorem r49' (V : Valuation τ sig (Elt Ideal)) (i : S24x201x64x1024.Idx) : res_main_v49 V i = rv49 V i := rfl

theorem r52' (V : Valuation τ sig (Elt Ideal)) (i : S24x201x64x1024.Idx) : res_main_v52 V i = rv52 V i := rfl

theorem r55' (V : Valuation τ sig (Elt Ideal)) (i : S24x201x64x1024.Idx) : res_main_v55 V i = rv55 V i := rfl

theorem r64' (V : Valuation τ sig (Elt Ideal)) (i : S24x201x64x1024.Idx) : res_main_v64 V i = (rv46 V i) ^^^ (rv49 V i) ^^^ 466688986#32 := rfl

theorem r242' (V : Valuation τ sig (Elt Ideal)) (i : S24x201x64x1024.Idx) : res_main_v242 V i = (rv52 V i) ^^^ (rv55 V i) ^^^ 466688986#32 := rfl

theorem r67 (V : Valuation τ sig (Elt Ideal)) (i : S24x201x64x1024.Idx) : res_main_v67 V i = (st0 (rv46 V i) (rv49 V i) (rv43 V i)).2 := by
  unfold res_main_v67; exact (BitVec.add_comm _ _)

theorem r68 (V : Valuation τ sig (Elt Ideal)) (i : S24x201x64x1024.Idx) : res_main_v68 V i = (st0 (rv46 V i) (rv49 V i) (rv43 V i)).1 := by
  unfold res_main_v68; exact sum_at ((sum_at (v := (rv46 V i)) (w := 0#32) rfl rfl).trans (BitVec.add_zero _)) (r67 V i)

theorem r74 (V : Valuation τ sig (Elt Ideal)) (i : S24x201x64x1024.Idx) : res_main_v74 V i = (st1 (rv46 V i) (rv49 V i) (rv43 V i)).2 := by
  unfold res_main_v74; exact half_h (r := 13#32) (r' := 19#32) (r68 V i) (r67 V i) rfl rfl (by decide) (by decide)

theorem r75 (V : Valuation τ sig (Elt Ideal)) (i : S24x201x64x1024.Idx) : res_main_v75 V i = (st1 (rv46 V i) (rv49 V i) (rv43 V i)).1 := by
  unfold res_main_v75; exact sum_at (r68 V i) (r74 V i)

theorem r81 (V : Valuation τ sig (Elt Ideal)) (i : S24x201x64x1024.Idx) : res_main_v81 V i = (st2 (rv46 V i) (rv49 V i) (rv43 V i)).2 := by
  unfold res_main_v81; exact half_h (r := 15#32) (r' := 17#32) (r75 V i) (r74 V i) rfl rfl (by decide) (by decide)

theorem r82 (V : Valuation τ sig (Elt Ideal)) (i : S24x201x64x1024.Idx) : res_main_v82 V i = (st2 (rv46 V i) (rv49 V i) (rv43 V i)).1 := by
  unfold res_main_v82; exact sum_at (r75 V i) (r81 V i)

theorem r88 (V : Valuation τ sig (Elt Ideal)) (i : S24x201x64x1024.Idx) : res_main_v88 V i = (st3 (rv46 V i) (rv49 V i) (rv43 V i)).2 := by
  unfold res_main_v88; exact half_h (r := 26#32) (r' := 6#32) (r82 V i) (r81 V i) rfl rfl (by decide) (by decide)

theorem r89 (V : Valuation τ sig (Elt Ideal)) (i : S24x201x64x1024.Idx) : res_main_v89 V i = (st3 (rv46 V i) (rv49 V i) (rv43 V i)).1 := by
  unfold res_main_v89; exact sum_at (r82 V i) (r88 V i)

theorem r99 (V : Valuation τ sig (Elt Ideal)) (i : S24x201x64x1024.Idx) : res_main_v99 V i = (st4 (rv46 V i) (rv49 V i) (rv43 V i)).2 := by
  unfold res_main_v99; exact sum_at (sum_at (half_h (r := 6#32) (r' := 26#32) (r89 V i) (r88 V i) rfl rfl (by decide) (by decide)) (r64' V i)) rfl

theorem r100 (V : Valuation τ sig (Elt Ideal)) (i : S24x201x64x1024.Idx) : res_main_v100 V i = (st4 (rv46 V i) (rv49 V i) (rv43 V i)).1 := by
  unfold res_main_v100; exact sum_at (sum_at (r89 V i) (r49' V i)) (r99 V i)

theorem r106 (V : Valuation τ sig (Elt Ideal)) (i : S24x201x64x1024.Idx) : res_main_v106 V i = (st5 (rv46 V i) (rv49 V i) (rv43 V i)).2 := by
  unfold res_main_v106; exact half_h (r := 17#32) (r' := 15#32) (r100 V i) (r99 V i) rfl rfl (by decide) (by decide)

theorem r107 (V : Valuation τ sig (Elt Ideal)) (i : S24x201x64x1024.Idx) : res_main_v107 V i = (st5 (rv46 V i) (rv49 V i) (rv43 V i)).1 := by
  unfold res_main_v107; exact sum_at (r100 V i) (r106 V i)

theorem r113 (V : Valuation τ sig (Elt Ideal)) (i : S24x201x64x1024.Idx) : res_main_v113 V i = (st6 (rv46 V i) (rv49 V i) (rv43 V i)).2 := by
  unfold res_main_v113; exact half_h (r := 29#32) (r' := 3#32) (r107 V i) (r106 V i) rfl rfl (by decide) (by decide)

theorem r114 (V : Valuation τ sig (Elt Ideal)) (i : S24x201x64x1024.Idx) : res_main_v114 V i = (st6 (rv46 V i) (rv49 V i) (rv43 V i)).1 := by
  unfold res_main_v114; exact sum_at (r107 V i) (r113 V i)

theorem r120 (V : Valuation τ sig (Elt Ideal)) (i : S24x201x64x1024.Idx) : res_main_v120 V i = (st7 (rv46 V i) (rv49 V i) (rv43 V i)).2 := by
  unfold res_main_v120; exact half_h (r := 16#32) (r' := 16#32) (r114 V i) (r113 V i) rfl rfl (by decide) (by decide)

theorem r121 (V : Valuation τ sig (Elt Ideal)) (i : S24x201x64x1024.Idx) : res_main_v121 V i = (st7 (rv46 V i) (rv49 V i) (rv43 V i)).1 := by
  unfold res_main_v121; exact sum_at (r114 V i) (r120 V i)

theorem r131 (V : Valuation τ sig (Elt Ideal)) (i : S24x201x64x1024.Idx) : res_main_v131 V i = (st8 (rv46 V i) (rv49 V i) (rv43 V i)).2 := by
  unfold res_main_v131; exact sum_at (sum_at (half_h (r := 24#32) (r' := 8#32) (r121 V i) (r120 V i) rfl rfl (by decide) (by decide)) (r46' V i)) rfl

theorem r132 (V : Valuation τ sig (Elt Ideal)) (i : S24x201x64x1024.Idx) : res_main_v132 V i = (st8 (rv46 V i) (rv49 V i) (rv43 V i)).1 := by
  unfold res_main_v132; exact sum_at (sum_at (r121 V i) (r64' V i)) (r131 V i)

theorem r138 (V : Valuation τ sig (Elt Ideal)) (i : S24x201x64x1024.Idx) : res_main_v138 V i = (st9 (rv46 V i) (rv49 V i) (rv43 V i)).2 := by
  unfold res_main_v138; exact half_h (r := 13#32) (r' := 19#32) (r132 V i) (r131 V i) rfl rfl (by decide) (by decide)

theorem r139 (V : Valuation τ sig (Elt Ideal)) (i : S24x201x64x1024.Idx) : res_main_v139 V i = (st9 (rv46 V i) (rv49 V i) (rv43 V i)).1 := by
  unfold res_main_v139; exact sum_at (r132 V i) (r138 V i)

theorem r145 (V : Valuation τ sig (Elt Ideal)) (i : S24x201x64x1024.Idx) : res_main_v145 V i = (st10 (rv46 V i) (rv49 V i) (rv43 V i)).2 := by
  unfold res_main_v145; exact half_h (r := 15#32) (r' := 17#32) (r139 V i) (r138 V i) rfl rfl (by decide) (by decide)

theorem r146 (V : Valuation τ sig (Elt Ideal)) (i : S24x201x64x1024.Idx) : res_main_v146 V i = (st10 (rv46 V i) (rv49 V i) (rv43 V i)).1 := by
  unfold res_main_v146; exact sum_at (r139 V i) (r145 V i)

theorem r152 (V : Valuation τ sig (Elt Ideal)) (i : S24x201x64x1024.Idx) : res_main_v152 V i = (st11 (rv46 V i) (rv49 V i) (rv43 V i)).2 := by
  unfold res_main_v152; exact half_h (r := 26#32) (r' := 6#32) (r146 V i) (r145 V i) rfl rfl (by decide) (by decide)

theorem r153 (V : Valuation τ sig (Elt Ideal)) (i : S24x201x64x1024.Idx) : res_main_v153 V i = (st11 (rv46 V i) (rv49 V i) (rv43 V i)).1 := by
  unfold res_main_v153; exact sum_at (r146 V i) (r152 V i)

theorem r163 (V : Valuation τ sig (Elt Ideal)) (i : S24x201x64x1024.Idx) : res_main_v163 V i = (st12 (rv46 V i) (rv49 V i) (rv43 V i)).2 := by
  unfold res_main_v163; exact sum_at (sum_at (half_h (r := 6#32) (r' := 26#32) (r153 V i) (r152 V i) rfl rfl (by decide) (by decide)) (r49' V i)) rfl

theorem r164 (V : Valuation τ sig (Elt Ideal)) (i : S24x201x64x1024.Idx) : res_main_v164 V i = (st12 (rv46 V i) (rv49 V i) (rv43 V i)).1 := by
  unfold res_main_v164; exact sum_at (sum_at (r153 V i) (r46' V i)) (r163 V i)

theorem r170 (V : Valuation τ sig (Elt Ideal)) (i : S24x201x64x1024.Idx) : res_main_v170 V i = (st13 (rv46 V i) (rv49 V i) (rv43 V i)).2 := by
  unfold res_main_v170; exact half_h (r := 17#32) (r' := 15#32) (r164 V i) (r163 V i) rfl rfl (by decide) (by decide)

theorem r171 (V : Valuation τ sig (Elt Ideal)) (i : S24x201x64x1024.Idx) : res_main_v171 V i = (st13 (rv46 V i) (rv49 V i) (rv43 V i)).1 := by
  unfold res_main_v171; exact sum_at (r164 V i) (r170 V i)

theorem r177 (V : Valuation τ sig (Elt Ideal)) (i : S24x201x64x1024.Idx) : res_main_v177 V i = (st14 (rv46 V i) (rv49 V i) (rv43 V i)).2 := by
  unfold res_main_v177; exact half_h (r := 29#32) (r' := 3#32) (r171 V i) (r170 V i) rfl rfl (by decide) (by decide)

theorem r178 (V : Valuation τ sig (Elt Ideal)) (i : S24x201x64x1024.Idx) : res_main_v178 V i = (st14 (rv46 V i) (rv49 V i) (rv43 V i)).1 := by
  unfold res_main_v178; exact sum_at (r171 V i) (r177 V i)

theorem r184 (V : Valuation τ sig (Elt Ideal)) (i : S24x201x64x1024.Idx) : res_main_v184 V i = (st15 (rv46 V i) (rv49 V i) (rv43 V i)).2 := by
  unfold res_main_v184; exact half_h (r := 16#32) (r' := 16#32) (r178 V i) (r177 V i) rfl rfl (by decide) (by decide)

theorem r185 (V : Valuation τ sig (Elt Ideal)) (i : S24x201x64x1024.Idx) : res_main_v185 V i = (st15 (rv46 V i) (rv49 V i) (rv43 V i)).1 := by
  unfold res_main_v185; exact sum_at (r178 V i) (r184 V i)

theorem r195 (V : Valuation τ sig (Elt Ideal)) (i : S24x201x64x1024.Idx) : res_main_v195 V i = (st16 (rv46 V i) (rv49 V i) (rv43 V i)).2 := by
  unfold res_main_v195; exact sum_at (sum_at (half_h (r := 24#32) (r' := 8#32) (r185 V i) (r184 V i) rfl rfl (by decide) (by decide)) (r64' V i)) rfl

theorem r196 (V : Valuation τ sig (Elt Ideal)) (i : S24x201x64x1024.Idx) : res_main_v196 V i = (st16 (rv46 V i) (rv49 V i) (rv43 V i)).1 := by
  unfold res_main_v196; exact sum_at (sum_at (r185 V i) (r49' V i)) (r195 V i)

theorem r202 (V : Valuation τ sig (Elt Ideal)) (i : S24x201x64x1024.Idx) : res_main_v202 V i = (st17 (rv46 V i) (rv49 V i) (rv43 V i)).2 := by
  unfold res_main_v202; exact half_h (r := 13#32) (r' := 19#32) (r196 V i) (r195 V i) rfl rfl (by decide) (by decide)

theorem r203 (V : Valuation τ sig (Elt Ideal)) (i : S24x201x64x1024.Idx) : res_main_v203 V i = (st17 (rv46 V i) (rv49 V i) (rv43 V i)).1 := by
  unfold res_main_v203; exact sum_at (r196 V i) (r202 V i)

theorem r209 (V : Valuation τ sig (Elt Ideal)) (i : S24x201x64x1024.Idx) : res_main_v209 V i = (st18 (rv46 V i) (rv49 V i) (rv43 V i)).2 := by
  unfold res_main_v209; exact half_h (r := 15#32) (r' := 17#32) (r203 V i) (r202 V i) rfl rfl (by decide) (by decide)

theorem r210 (V : Valuation τ sig (Elt Ideal)) (i : S24x201x64x1024.Idx) : res_main_v210 V i = (st18 (rv46 V i) (rv49 V i) (rv43 V i)).1 := by
  unfold res_main_v210; exact sum_at (r203 V i) (r209 V i)

theorem r216 (V : Valuation τ sig (Elt Ideal)) (i : S24x201x64x1024.Idx) : res_main_v216 V i = (st19 (rv46 V i) (rv49 V i) (rv43 V i)).2 := by
  unfold res_main_v216; exact half_h (r := 26#32) (r' := 6#32) (r210 V i) (r209 V i) rfl rfl (by decide) (by decide)

theorem r217 (V : Valuation τ sig (Elt Ideal)) (i : S24x201x64x1024.Idx) : res_main_v217 V i = (st19 (rv46 V i) (rv49 V i) (rv43 V i)).1 := by
  unfold res_main_v217; exact sum_at (r210 V i) (r216 V i)

theorem bitsU (V : Valuation τ sig (Elt Ideal)) (i : S24x201x64x1024.Idx) :
    xori (addi (res_main_v217 V) (res_main_v64 V)) (addi (addi (xori (res_main_v217 V) (ori (Host.shli (res_main_v216 V) (broadcastInDim S24x201x64x1024 ![] bcast_S_S24x201x64x1024 (constantI S_ 32 6#32))) (Host.shrui (res_main_v216 V) (broadcastInDim S24x201x64x1024 ![] bcast_S_S24x201x64x1024 (constantI S_ 32 26#32))))) (res_main_v46 V)) (broadcastInDim S24x201x64x1024 ![] bcast_S_S24x201x64x1024 (constantI S_ 32 5#32))) i
      = drawn (rv46 V i) (rv49 V i) (rv43 V i) := by
  have h1 := sum_at (r217 V i) (r64' V i)
  have h2 := sum_at (Y := broadcastInDim S24x201x64x1024 ![] bcast_S_S24x201x64x1024 (constantI S_ 32 5#32)) (sum_at (half_h (r := 6#32) (r' := 26#32) (r217 V i) (r216 V i) rfl rfl (by decide) (by decide) : xori (res_main_v217 V) (ori (Host.shli (res_main_v216 V) (broadcastInDim S24x201x64x1024 ![] bcast_S_S24x201x64x1024 (constantI S_ 32 6#32))) (Host.shrui (res_main_v216 V) (broadcastInDim S24x201x64x1024 ![] bcast_S_S24x201x64x1024 (constantI S_ 32 26#32)))) i = _) (rfl : res_main_v46 V i = (rv46 V i))) rfl
  exact congrArg₂ (· ^^^ ·) h1 h2

theorem r245 (V : Valuation τ sig (Elt Ideal)) (i : S24x201x64x1024.Idx) : res_main_v245 V i = (st0 (rv52 V i) (rv55 V i) (rv43 V i)).2 := by
  unfold res_main_v245; exact (BitVec.add_comm _ _)

theorem r246 (V : Valuation τ sig (Elt Ideal)) (i : S24x201x64x1024.Idx) : res_main_v246 V i = (st0 (rv52 V i) (rv55 V i) (rv43 V i)).1 := by
  unfold res_main_v246; exact sum_at ((sum_at (v := (rv52 V i)) (w := 0#32) rfl rfl).trans (BitVec.add_zero _)) (r245 V i)

theorem r252 (V : Valuation τ sig (Elt Ideal)) (i : S24x201x64x1024.Idx) : res_main_v252 V i = (st1 (rv52 V i) (rv55 V i) (rv43 V i)).2 := by
  unfold res_main_v252; exact half_h (r := 13#32) (r' := 19#32) (r246 V i) (r245 V i) rfl rfl (by decide) (by decide)

theorem r253 (V : Valuation τ sig (Elt Ideal)) (i : S24x201x64x1024.Idx) : res_main_v253 V i = (st1 (rv52 V i) (rv55 V i) (rv43 V i)).1 := by
  unfold res_main_v253; exact sum_at (r246 V i) (r252 V i)

theorem r259 (V : Valuation τ sig (Elt Ideal)) (i : S24x201x64x1024.Idx) : res_main_v259 V i = (st2 (rv52 V i) (rv55 V i) (rv43 V i)).2 := by
  unfold res_main_v259; exact half_h (r := 15#32) (r' := 17#32) (r253 V i) (r252 V i) rfl rfl (by decide) (by decide)

theorem r260 (V : Valuation τ sig (Elt Ideal)) (i : S24x201x64x1024.Idx) : res_main_v260 V i = (st2 (rv52 V i) (rv55 V i) (rv43 V i)).1 := by
  unfold res_main_v260; exact sum_at (r253 V i) (r259 V i)

theorem r266 (V : Valuation τ sig (Elt Ideal)) (i : S24x201x64x1024.Idx) : res_main_v266 V i = (st3 (rv52 V i) (rv55 V i) (rv43 V i)).2 := by
  unfold res_main_v266; exact half_h (r := 26#32) (r' := 6#32) (r260 V i) (r259 V i) rfl rfl (by decide) (by decide)

theorem r267 (V : Valuation τ sig (Elt Ideal)) (i : S24x201x64x1024.Idx) : res_main_v267 V i = (st3 (rv52 V i) (rv55 V i) (rv43 V i)).1 := by
  unfold res_main_v267; exact sum_at (r260 V i) (r266 V i)

theorem r277 (V : Valuation τ sig (Elt Ideal)) (i : S24x201x64x1024.Idx) : res_main_v277 V i = (st4 (rv52 V i) (rv55 V i) (rv43 V i)).2 := by
  unfold res_main_v277; exact sum_at (sum_at (half_h (r := 6#32) (r' := 26#32) (r267 V i) (r266 V i) rfl rfl (by decide) (by decide)) (r242' V i)) rfl

theorem r278 (V : Valuation τ sig (Elt Ideal)) (i : S24x201x64x1024.Idx) : res_main_v278 V i = (st4 (rv52 V i) (rv55 V i) (rv43 V i)).1 := by
  unfold res_main_v278; exact sum_at (sum_at (r267 V i) (r55' V i)) (r277 V i)

theorem r284 (V : Valuation τ sig (Elt Ideal)) (i : S24x201x64x1024.Idx) : res_main_v284 V i = (st5 (rv52 V i) (rv55 V i) (rv43 V i)).2 := by
  unfold res_main_v284; exact half_h (r := 17#32) (r' := 15#32) (r278 V i) (r277 V i) rfl rfl (by decide) (by decide)

theorem r285 (V : Valuation τ sig (Elt Ideal)) (i : S24x201x64x1024.Idx) : res_main_v285 V i = (st5 (rv52 V i) (rv55 V i) (rv43 V i)).1 := by
  unfold res_main_v285; exact sum_at (r278 V i) (r284 V i)

theorem r291 (V : Valuation τ sig (Elt Ideal)) (i : S24x201x64x1024.Idx) : res_main_v291 V i = (st6 (rv52 V i) (rv55 V i) (rv43 V i)).2 := by
  unfold res_main_v291; exact half_h (r := 29#32) (r' := 3#32) (r285 V i) (r284 V i) rfl rfl (by decide) (by decide)

theorem r292 (V : Valuation τ sig (Elt Ideal)) (i : S24x201x64x1024.Idx) : res_main_v292 V i = (st6 (rv52 V i) (rv55 V i) (rv43 V i)).1 := by
  unfold res_main_v292; exact sum_at (r285 V i) (r291 V i)

theorem r298 (V : Valuation τ sig (Elt Ideal)) (i : S24x201x64x1024.Idx) : res_main_v298 V i = (st7 (rv52 V i) (rv55 V i) (rv43 V i)).2 := by
  unfold res_main_v298; exact half_h (r := 16#32) (r' := 16#32) (r292 V i) (r291 V i) rfl rfl (by decide) (by decide)

theorem r299 (V : Valuation τ sig (Elt Ideal)) (i : S24x201x64x1024.Idx) : res_main_v299 V i = (st7 (rv52 V i) (rv55 V i) (rv43 V i)).1 := by
  unfold res_main_v299; exact sum_at (r292 V i) (r298 V i)

theorem r309 (V : Valuation τ sig (Elt Ideal)) (i : S24x201x64x1024.Idx) : res_main_v309 V i = (st8 (rv52 V i) (rv55 V i) (rv43 V i)).2 := by
  unfold res_main_v309; exact sum_at (sum_at (half_h (r := 24#32) (r' := 8#32) (r299 V i) (r298 V i) rfl rfl (by decide) (by decide)) (r52' V i)) rfl

theorem r310 (V : Valuation τ sig (Elt Ideal)) (i : S24x201x64x1024.Idx) : res_main_v310 V i = (st8 (rv52 V i) (rv55 V i) (rv43 V i)).1 := by
  unfold res_main_v310; exact sum_at (sum_at (r299 V i) (r242' V i)) (r309 V i)

theorem r316 (V : Valuation τ sig (Elt Ideal)) (i : S24x201x64x1024.Idx) : res_main_v316 V i = (st9 (rv52 V i) (rv55 V i) (rv43 V i)).2 := by
  unfold res_main_v316; exact half_h (r := 13#32) (r' := 19#32) (r310 V i) (r309 V i) rfl rfl (by decide) (by decide)

theorem r317 (V : Valuation τ sig (Elt Ideal)) (i : S24x201x64x1024.Idx) : res_main_v317 V i = (st9 (rv52 V i) (rv55 V i) (rv43 V i)).1 := by
  unfold res_main_v317; exact sum_at (r310 V i) (r316 V i)

theorem r323 (V : Valuation τ sig (Elt Ideal)) (i : S24x201x64x1024.Idx) : res_main_v323 V i = (st10 (rv52 V i) (rv55 V i) (rv43 V i)).2 := by
  unfold res_main_v323; exact half_h (r := 15#32) (r' := 17#32) (r317 V i) (r316 V i) rfl rfl (by decide) (by decide)

theorem r324 (V : Valuation τ sig (Elt Ideal)) (i : S24x201x64x1024.Idx) : res_main_v324 V i = (st10 (rv52 V i) (rv55 V i) (rv43 V i)).1 := by
  unfold res_main_v324; exact sum_at (r317 V i) (r323 V i)

theorem r330 (V : Valuation τ sig (Elt Ideal)) (i : S24x201x64x1024.Idx) : res_main_v330 V i = (st11 (rv52 V i) (rv55 V i) (rv43 V i)).2 := by
  unfold res_main_v330; exact half_h (r := 26#32) (r' := 6#32) (r324 V i) (r323 V i) rfl rfl (by decide) (by decide)

theorem r331 (V : Valuation τ sig (Elt Ideal)) (i : S24x201x64x1024.Idx) : res_main_v331 V i = (st11 (rv52 V i) (rv55 V i) (rv43 V i)).1 := by
  unfold res_main_v331; exact sum_at (r324 V i) (r330 V i)

theorem r341 (V : Valuation τ sig (Elt Ideal)) (i : S24x201x64x1024.Idx) : res_main_v341 V i = (st12 (rv52 V i) (rv55 V i) (rv43 V i)).2 := by
  unfold res_main_v341; exact sum_at (sum_at (half_h (r := 6#32) (r' := 26#32) (r331 V i) (r330 V i) rfl rfl (by decide) (by decide)) (r55' V i)) rfl

theorem r342 (V : Valuation τ sig (Elt Ideal)) (i : S24x201x64x1024.Idx) : res_main_v342 V i = (st12 (rv52 V i) (rv55 V i) (rv43 V i)).1 := by
  unfold res_main_v342; exact sum_at (sum_at (r331 V i) (r52' V i)) (r341 V i)

theorem r348 (V : Valuation τ sig (Elt Ideal)) (i : S24x201x64x1024.Idx) : res_main_v348 V i = (st13 (rv52 V i) (rv55 V i) (rv43 V i)).2 := by
  unfold res_main_v348; exact half_h (r := 17#32) (r' := 15#32) (r342 V i) (r341 V i) rfl rfl (by decide) (by decide)

theorem r349 (V : Valuation τ sig (Elt Ideal)) (i : S24x201x64x1024.Idx) : res_main_v349 V i = (st13 (rv52 V i) (rv55 V i) (rv43 V i)).1 := by
  unfold res_main_v349; exact sum_at (r342 V i) (r348 V i)

theorem r355 (V : Valuation τ sig (Elt Ideal)) (i : S24x201x64x1024.Idx) : res_main_v355 V i = (st14 (rv52 V i) (rv55 V i) (rv43 V i)).2 := by
  unfold res_main_v355; exact half_h (r := 29#32) (r' := 3#32) (r349 V i) (r348 V i) rfl rfl (by decide) (by decide)

theorem r356 (V : Valuation τ sig (Elt Ideal)) (i : S24x201x64x1024.Idx) : res_main_v356 V i = (st14 (rv52 V i) (rv55 V i) (rv43 V i)).1 := by
  unfold res_main_v356; exact sum_at (r349 V i) (r355 V i)

theorem r362 (V : Valuation τ sig (Elt Ideal)) (i : S24x201x64x1024.Idx) : res_main_v362 V i = (st15 (rv52 V i) (rv55 V i) (rv43 V i)).2 := by
  unfold res_main_v362; exact half_h (r := 16#32) (r' := 16#32) (r356 V i) (r355 V i) rfl rfl (by decide) (by decide)

theorem r363 (V : Valuation τ sig (Elt Ideal)) (i : S24x201x64x1024.Idx) : res_main_v363 V i = (st15 (rv52 V i) (rv55 V i) (rv43 V i)).1 := by
  unfold res_main_v363; exact sum_at (r356 V i) (r362 V i)

theorem r373 (V : Valuation τ sig (Elt Ideal)) (i : S24x201x64x1024.Idx) : res_main_v373 V i = (st16 (rv52 V i) (rv55 V i) (rv43 V i)).2 := by
  unfold res_main_v373; exact sum_at (sum_at (half_h (r := 24#32) (r' := 8#32) (r363 V i) (r362 V i) rfl rfl (by decide) (by decide)) (r242' V i)) rfl

theorem r374 (V : Valuation τ sig (Elt Ideal)) (i : S24x201x64x1024.Idx) : res_main_v374 V i = (st16 (rv52 V i) (rv55 V i) (rv43 V i)).1 := by
  unfold res_main_v374; exact sum_at (sum_at (r363 V i) (r55' V i)) (r373 V i)

theorem r380 (V : Valuation τ sig (Elt Ideal)) (i : S24x201x64x1024.Idx) : res_main_v380 V i = (st17 (rv52 V i) (rv55 V i) (rv43 V i)).2 := by
  unfold res_main_v380; exact half_h (r := 13#32) (r' := 19#32) (r374 V i) (r373 V i) rfl rfl (by decide) (by decide)

theorem r381 (V : Valuation τ sig (Elt Ideal)) (i : S24x201x64x1024.Idx) : res_main_v381 V i = (st17 (rv52 V i) (rv55 V i) (rv43 V i)).1 := by
  unfold res_main_v381; exact sum_at (r374 V i) (r380 V i)

theorem r387 (V : Valuation τ sig (Elt Ideal)) (i : S24x201x64x1024.Idx) : res_main_v387 V i = (st18 (rv52 V i) (rv55 V i) (rv43 V i)).2 := by
  unfold res_main_v387; exact half_h (r := 15#32) (r' := 17#32) (r381 V i) (r380 V i) rfl rfl (by decide) (by decide)

theorem r388 (V : Valuation τ sig (Elt Ideal)) (i : S24x201x64x1024.Idx) : res_main_v388 V i = (st18 (rv52 V i) (rv55 V i) (rv43 V i)).1 := by
  unfold res_main_v388; exact sum_at (r381 V i) (r387 V i)

theorem r394 (V : Valuation τ sig (Elt Ideal)) (i : S24x201x64x1024.Idx) : res_main_v394 V i = (st19 (rv52 V i) (rv55 V i) (rv43 V i)).2 := by
  unfold res_main_v394; exact half_h (r := 26#32) (r' := 6#32) (r388 V i) (r387 V i) rfl rfl (by decide) (by decide)

theorem r395 (V : Valuation τ sig (Elt Ideal)) (i : S24x201x64x1024.Idx) : res_main_v395 V i = (st19 (rv52 V i) (rv55 V i) (rv43 V i)).1 := by
  unfold res_main_v395; exact sum_at (r388 V i) (r394 V i)

theorem bitsV (V : Valuation τ sig (Elt Ideal)) (i : S24x201x64x1024.Idx) :
    xori (addi (res_main_v395 V) (res_main_v242 V)) (addi (addi (xori (res_main_v395 V) (ori (Host.shli (res_main_v394 V) (broadcastInDim S24x201x64x1024 ![] bcast_S_S24x201x64x1024 (constantI S_ 32 6#32))) (Host.shrui (res_main_v394 V) (broadcastInDim S24x201x64x1024 ![] bcast_S_S24x201x64x1024 (constantI S_ 32 26#32))))) (res_main_v52 V)) (broadcastInDim S24x201x64x1024 ![] bcast_S_S24x201x64x1024 (constantI S_ 32 5#32))) i
      = drawn (rv52 V i) (rv55 V i) (rv43 V i) := by
  have h1 := sum_at (r395 V i) (r242' V i)
  have h2 := sum_at (Y := broadcastInDim S24x201x64x1024 ![] bcast_S_S24x201x64x1024 (constantI S_ 32 5#32)) (sum_at (half_h (r := 6#32) (r' := 26#32) (r395 V i) (r394 V i) rfl rfl (by decide) (by decide) : xori (res_main_v395 V) (ori (Host.shli (res_main_v394 V) (broadcastInDim S24x201x64x1024 ![] bcast_S_S24x201x64x1024 (constantI S_ 32 6#32))) (Host.shrui (res_main_v394 V) (broadcastInDim S24x201x64x1024 ![] bcast_S_S24x201x64x1024 (constantI S_ 32 26#32)))) i = _) (rfl : res_main_v52 V i = (rv52 V i))) rfl
  exact congrArg₂ (· ^^^ ·) h1 h2

theorem r239 (V : Valuation τ sig (Elt Ideal)) (i : S24x201x64x1024.Idx) : res_main_v239 V i = uOf (rv46 V i) (rv49 V i) (rv43 V i) := by
  have h : unit (xori _ _ i) = unit (drawn (rv46 V i) (rv49 V i) (rv43 V i)) := congrArg unit (bitsU V i)
  unfold uOf; rw [← h]; unfold res_main_v239 unit
  rw [← shr_lit .host _ 9#32 (by decide)]
  show FloatOps.subf (FloatOps.maximumf _ _) _ = _
  exact congrArg (FloatOps.subf · _) (max_comm (α := EReal) _ _)

theorem r415 (V : Valuation τ sig (Elt Ideal)) (i : S24x201x64x1024.Idx) : res_main_v415 V i = vOf (rv52 V i) (rv55 V i) (rv43 V i) := by
  have h : unit (xori _ _ i) = unit (drawn (rv52 V i) (rv55 V i) (rv43 V i)) := congrArg unit (bitsV V i)
  unfold vOf; rw [← h]; unfold res_main_v415 unit
  rw [← shr_lit .host _ 9#32 (by decide)]
  exact max_comm (α := EReal) _ _

/-- The parameters of a result's lane. -/
def laneR (V : Valuation τ sig (Elt Ideal)) (j : S64x1024.Idx) : Lane where
  lam := res_main_v12 V j
  a := FloatOps.addf (lit 0xBD71A9FC#32) (FloatOps.mulf (lit 0x3CCB6849#32) (res_main_v18 V j))
  b := res_main_v18 V j
  ia := FloatOps.addf (lit 0x3F8FDBF5#32) (FloatOps.divf (lit 0x3F90FF97#32) (FloatOps.subf (res_main_v18 V j) (lit 0x4059999A#32)))
  ll := FloatOps.log (res_main_v12 V j)
  vr := FloatOps.subf (lit 0x3F6D7DBF#32) (FloatOps.divf (lit 0x4067D567#32) (FloatOps.subf (res_main_v18 V j) (lit 0x40000000#32)))

/-- The lane of a draw. -/
def laneOfDraw (i : S24x201x64x1024.Idx) : S64x1024.Idx := broadcastInDim S24x201x64x1024 ![2, 3] bcast_S64x1024_S24x201x64x1024_2_3 (fun j : S64x1024.Idx => j) i

theorem laneOfDraw_eq (i : S24x201x64x1024.Idx) : laneOfDraw i = ix2 (i 2 : Fin 64) (i 3 : Fin 1024) := by
  pointwise [laneOfDraw]

theorem lane_bcast {T : Type} (x : S64x1024.Idx → T) (i : S24x201x64x1024.Idx) :
    broadcastInDim S24x201x64x1024 ![2, 3] bcast_S64x1024_S24x201x64x1024_2_3 x i = x (laneOfDraw i) := rfl

theorem r418 (V : Valuation τ sig (Elt Ideal)) (i : S24x201x64x1024.Idx) : res_main_v418 V i = us (uOf (rv46 V i) (rv49 V i) (rv43 V i)) := by
  rw [← r239]; rfl

theorem r427 (V : Valuation τ sig (Elt Ideal)) (i : S24x201x64x1024.Idx) : res_main_v427 V i = cand (laneR V (laneOfDraw i)) (uOf (rv46 V i) (rv49 V i) (rv43 V i)) := by
  unfold cand; rw [← r418, ← r239]; unfold res_main_v427 res_main_v56 res_main_v58 res_main_v59
  rfl

theorem r440 (V : Valuation τ sig (Elt Ideal)) (i : S24x201x64x1024.Idx) : res_main_v440 V i = zz (cand (laneR V (laneOfDraw i)) (uOf (rv46 V i) (rv49 V i) (rv43 V i))) := by
  rw [← r427]; rfl

theorem r445 (V : Valuation τ sig (Elt Ideal)) (i : S24x201x64x1024.Idx) : res_main_v445 V i = logBase (zz (cand (laneR V (laneOfDraw i)) (uOf (rv46 V i) (rv49 V i) (rv43 V i)))) := by
  rw [← r440]; rfl

theorem neg_eq (x : R) : (FloatOps.hostNegf x : R) = FloatOps.subf (lit 0x00000000#32) x := by
  have h : lit 0x00000000#32 = (0 : EReal) := by unfold lit; pointwise
  rw [h]; exact (zero_sub (x : EReal)).symm

theorem not_eq (b : BitVec 1) : ~~~ b = IntOp.xori b 1#1 := by
  revert b; decide

theorem r513 (V : Valuation τ sig (Elt Ideal)) (i : S24x201x64x1024.Idx) : res_main_v513 V i = accept (laneR V (laneOfDraw i)) (uOf (rv46 V i) (rv49 V i) (rv43 V i)) (vOf (rv52 V i) (rv55 V i) (rv43 V i)) := by
  unfold accept lhs rhs lgam turned series
  rw [← not_eq, ← neg_eq, ← r445, ← r440, ← r427, ← r418, ← r415]
  unfold res_main_v513 res_main_v59 res_main_v58 res_main_v56
  rfl

end Cert.Proof.RI
-- ==== Proof.Nonneg.lean ====
/-
  What an accepted candidate can be: a natural number (or the top), for every rate of at least ten; and which pixels of an image
  between zero and one have such a rate.
-/
module

public import proofs.«01_k».proof.Proof.Host

@[expose] public section

noncomputable section

namespace Cert.Proof

open Idealize.ShloMosaic
open scoped Classical

/-! ## The constants as reals -/

theorem c_half : lit 0x3F000000#32 = ((1 / 2 : ℝ) : EReal) := by
  show Ideal.ofBits .f32 0x3F000000#32 = _
  simp [Ideal.ofBits, Ideal.ieee, -EReal.coe_mul]; norm_num; try rfl
theorem c_two : lit 0x40000000#32 = ((2 : ℝ) : EReal) := by
  show Ideal.ofBits .f32 0x40000000#32 = _
  simp [Ideal.ofBits, Ideal.ieee, -EReal.coe_mul]; norm_num; try rfl
theorem c_931 : lit 0x3F6E5604#32 = ((15619588 / 16777216 : ℝ) : EReal) := by
  show Ideal.ofBits .f32 0x3F6E5604#32 = _
  simp [Ideal.ofBits, Ideal.ieee, -EReal.coe_mul]; norm_num; try rfl
theorem c_253 : lit 0x4021EB85#32 = ((10611589 / 4194304 : ℝ) : EReal) := by
  show Ideal.ofBits .f32 0x4021EB85#32 = _
  simp [Ideal.ofBits, Ideal.ieee, -EReal.coe_mul]; norm_num; try rfl
theorem c_059 : lit 0xBD71A9FC#32 = ((-15837692 / 268435456 : ℝ) : EReal) := by
  show Ideal.ofBits .f32 0xBD71A9FC#32 = _
  simp [Ideal.ofBits, Ideal.ieee, -EReal.coe_mul]; norm_num; try rfl
theorem c_024 : lit 0x3CCB6849#32 = ((13330505 / 536870912 : ℝ) : EReal) := by
  show Ideal.ofBits .f32 0x3CCB6849#32 = _
  simp [Ideal.ofBits, Ideal.ieee, -EReal.coe_mul]; norm_num; try rfl
theorem c_43 : lit 0x3EDC28F6#32 = ((14428406 / 33554432 : ℝ) : EReal) := by
  show Ideal.ofBits .f32 0x3EDC28F6#32 = _
  simp [Ideal.ofBits, Ideal.ieee, -EReal.coe_mul]; norm_num; try rfl
theorem c_07 : lit 0x3D8F5C29#32 = ((9395241 / 134217728 : ℝ) : EReal) := by
  show Ideal.ofBits .f32 0x3D8F5C29#32 = _
  simp [Ideal.ofBits, Ideal.ieee, -EReal.coe_mul]; norm_num; try rfl
theorem c_1e5 : lit 0x47C35000#32 = ((100000 : ℝ) : EReal) := by
  show Ideal.ofBits .f32 0x47C35000#32 = _
  simp [Ideal.ofBits, Ideal.ieee, -EReal.coe_mul]; norm_num; try rfl

/-! ## Whole numbers -/

/-- A natural number, or the top. -/
def Whole (y : EReal) : Prop := y = ⊤ ∨ ∃ n : ℕ, y = ((n : ℝ) : EReal)

theorem Whole.nonneg {y : EReal} (h : Whole y) : 0 ≤ y := by
  rcases h with rfl | ⟨n, rfl⟩
  · exact le_top
  · exact_mod_cast Nat.cast_nonneg (α := ℝ) n

theorem Whole.zero : Whole 0 := .inr ⟨0, by simp⟩
theorem Whole.one : Whole 1 := .inr ⟨1, by simp⟩

theorem Whole.add {y z : EReal} (h : Whole y) (h' : Whole z) : Whole (y + z) := by
  rcases h with rfl | ⟨n, rfl⟩
  · exact .inl (EReal.top_add_of_ne_bot (ne_of_gt (lt_of_lt_of_le EReal.bot_lt_zero h'.nonneg)))
  · rcases h' with rfl | ⟨k, rfl⟩
    · exact .inl (EReal.coe_add_top _)
    · exact .inr ⟨n + k, by push_cast; rfl⟩

theorem floor_whole (y : R) (h : (0 : EReal) ≤ FloatOps.floor y) : Whole (FloatOps.floor y : R) := by
  change (0 : EReal) ≤ Ideal.liftRound Int.floor y at h
  change Whole (Ideal.liftRound Int.floor y)
  induction y using EReal.rec with
  | bot => exact absurd h (not_le.mpr EReal.bot_lt_zero)
  | top => exact .inl rfl
  | coe r =>
    change (0 : EReal) ≤ (((⌊r⌋ : ℤ) : ℝ) : EReal) at h
    have h' : 0 ≤ ⌊r⌋ := by exact_mod_cast h
    refine .inr ⟨⌊r⌋.toNat, ?_⟩
    show (((⌊r⌋ : ℤ) : ℝ) : EReal) = _
    congr 1
    exact_mod_cast (Int.toNat_of_nonneg h').symm

/-! ## An accepted candidate -/

theorem us_real {u : R} (h : (lit 0x3D8F5C29#32 : EReal) ≤ us u) :
    ∃ r : ℝ, u = ((r : ℝ) : EReal) ∧ us u = ((1 / 2 - |r| : ℝ) : EReal) ∧ (9395241 / 134217728 : ℝ) ≤ 1 / 2 - |r| := by
  rw [c_07] at h
  change _ ≤ (lit 0x3F000000#32 : EReal) - max u (-u) at h
  rw [c_half] at h
  induction u using EReal.rec with
  | bot => exact absurd h (by simp)
  | top => exact absurd h (by simp)
  | coe r =>
    have e : us ((r : ℝ) : EReal) = ((1 / 2 - |r| : ℝ) : EReal) := by
      show (lit 0x3F000000#32 : EReal) - max ((r : ℝ) : EReal) (-((r : ℝ) : EReal)) = _
      rw [c_half, ← EReal.coe_neg, ← EReal.coe_strictMono.monotone.map_max, ← EReal.coe_sub]; rfl
    refine ⟨r, rfl, e, ?_⟩
    have h2 : ((9395241 / 134217728 : ℝ) : EReal) ≤ us ((r : ℝ) : EReal) := by
      show _ ≤ (lit 0x3F000000#32 : EReal) - max ((r : ℝ) : EReal) (-((r : ℝ) : EReal))
      rw [c_half]; exact h
    rw [e] at h2
    exact_mod_cast h2

/-- The candidate's real is not negative in the middle of the range. -/
theorem middle (l r : ℝ) (hl : 10 ≤ l) (hr : (9395241 / 134217728 : ℝ) ≤ 1 / 2 - |r|) :
    0 ≤ (2 * (-15837692 / 268435456 + 13330505 / 536870912 * (15619588 / 16777216 + 10611589 / 4194304 * √l)) / (1 / 2 - |r|)
      + (15619588 / 16777216 + 10611589 / 4194304 * √l)) * r + l + 14428406 / 33554432 := by
  have hs : √l * √l = l := Real.mul_self_sqrt (by linarith)
  have hs3 : 3 ≤ √l := Real.le_sqrt_of_sq_le (by norm_num; linarith)
  generalize √l = s at *
  generalize ht : 1 / 2 - |r| = t at *
  have ht0 : 0 < t := lt_of_lt_of_le (by norm_num) hr
  have hrt : -(43 / 100 + 1 / 1000) ≤ r := by
    have := neg_abs_le r
    have : |r| ≤ 43 / 100 + 1 / 1000 := by
      have : |r| = 1 / 2 - t := by linarith
      rw [this]; norm_num at hr ⊢; linarith
    linarith
  have ha0 : 0 ≤ 2 * (-15837692 / 268435456 + 13330505 / 536870912 * (15619588 / 16777216 + 10611589 / 4194304 * s)) := by nlinarith
  have hq : 2 * (-15837692 / 268435456 + 13330505 / 536870912 * (15619588 / 16777216 + 10611589 / 4194304 * s)) / t
      ≤ 2 * (-15837692 / 268435456 + 13330505 / 536870912 * (15619588 / 16777216 + 10611589 / 4194304 * s)) / (7 / 101) := by
    apply div_le_div_of_nonneg_left ha0 (by norm_num)
    refine le_trans ?_ hr
    norm_num
  have hq0 : 0 ≤ 2 * (-15837692 / 268435456 + 13330505 / 536870912 * (15619588 / 16777216 + 10611589 / 4194304 * s)) / t := div_nonneg ha0 ht0.le
  generalize 2 * (-15837692 / 268435456 + 13330505 / 536870912 * (15619588 / 16777216 + 10611589 / 4194304 * s)) / t = q at *
  have hqs : q ≤ 183 / 100 * s := by
    refine hq.trans ?_
    rw [div_le_iff₀ (by norm_num)]
    nlinarith
  have hB : q + (15619588 / 16777216 + 10611589 / 4194304 * s) ≤ 44 / 10 * s + 94 / 100 := by norm_num; linarith
  have hB0 : 0 ≤ q + (15619588 / 16777216 + 10611589 / 4194304 * s) := by positivity
  generalize q + (15619588 / 16777216 + 10611589 / 4194304 * s) = B at *
  have : -(B * (43 / 100 + 1 / 1000)) ≤ B * r := by nlinarith
  nlinarith

/-- The candidate at a real rate and a real number of the middle range. -/
theorem cand_real (x : R) (l r : ℝ) (hx : lamX x = ((l : ℝ) : EReal)) (hl : 10 ≤ l) (hr : (9395241 / 134217728 : ℝ) ≤ 1 / 2 - |r|)
    (hu : us ((r : ℝ) : EReal) = ((1 / 2 - |r| : ℝ) : EReal)) : (0 : EReal) ≤ cand (laneX x) ((r : ℝ) : EReal) := by
  have hb : bX x = ((15619588 / 16777216 + 10611589 / 4194304 * √l : ℝ) : EReal) := by
    show (lit 0x3F6E5604#32 : EReal) + lit 0x4021EB85#32 * Ideal.sqrt (lamX x) = _
    rw [hx, c_931, c_253, show Ideal.sqrt ((l : ℝ) : EReal) = ((√l : ℝ) : EReal) from if_neg (not_lt.mpr (by linarith)), ← EReal.coe_mul, ← EReal.coe_add]
  have ha : (laneX x).a = ((-15837692 / 268435456 + 13330505 / 536870912 * (15619588 / 16777216 + 10611589 / 4194304 * √l) : ℝ) : EReal) := by
    show (lit 0xBD71A9FC#32 : EReal) + lit 0x3CCB6849#32 * bX x = _
    rw [hb, c_059, c_024, ← EReal.coe_mul, ← EReal.coe_add]
  have e : cand (laneX x) ((r : ℝ) : EReal) = Ideal.liftRound Int.floor (((2 * (-15837692 / 268435456 + 13330505 / 536870912 * (15619588 / 16777216 + 10611589 / 4194304 * √l)) / (1 / 2 - |r|)
      + (15619588 / 16777216 + 10611589 / 4194304 * √l)) * r + l + 14428406 / 33554432 : ℝ) : EReal) := by
    show Ideal.liftRound Int.floor (((Ideal.div ((lit 0x40000000#32 : EReal) * (laneX x).a) (us ((r : ℝ) : EReal)) + bX x) * ((r : ℝ) : EReal) + lamX x) + lit 0x3EDC28F6#32) = _
    rw [ha, hu, hb, hx, c_two, c_43, ← EReal.coe_mul]
    rw [show ∀ p q : ℝ, 0 < q → Ideal.div ((p : ℝ) : EReal) ((q : ℝ) : EReal) = ((p / q : ℝ) : EReal) from fun p q hq => by
      unfold Ideal.div
      rw [if_neg (by exact_mod_cast hq.ne'), ← EReal.coe_inv, ← EReal.coe_mul, div_eq_mul_inv]]
    · rw [← EReal.coe_add, ← EReal.coe_mul, ← EReal.coe_add, ← EReal.coe_add]
    · exact lt_of_lt_of_le (by norm_num) hr
  rw [e]
  show (0 : EReal) ≤ (((⌊_⌋ : ℤ) : ℝ) : EReal)
  have := Int.floor_nonneg.mpr (middle l r hl hr)
  exact_mod_cast this

theorem accept_whole (x u v : R) (l : ℝ) (hx : lamX x = ((l : ℝ) : EReal)) (hl : 10 ≤ l) (h : accept (laneX x) u v = 1#1) : Whole (cand (laneX x) u) := by
  refine floor_whole _ ?_
  show (0 : EReal) ≤ cand (laneX x) u
  unfold accept at h
  rcases (or_iff _ _).mp h with h | h
  · obtain ⟨r, rfl, hu, hr⟩ := us_real ((oge_iff _ _).mp ((and_iff _ _).mp h).1)
    exact cand_real x l r hx hl hr hu
  · have h1 := (xor_one_iff _).mp ((and_iff _ _).mp h).1
    unfold turned at h1
    rw [or_iff, not_or, olt_iff, lit_zero] at h1
    exact not_lt.mp h1.1

/-! ## The pixels -/

theorem per_zero : perX (0 : EReal) = (⊤ : EReal) := by
  show Ideal.div (lit 0x3F800000#32) ((lit 0x42C80000#32 : EReal) * 0) = ⊤
  rw [mul_zero, lit_one]
  unfold Ideal.div
  rw [if_pos rfl, if_pos zero_lt_one]

theorem nan_id (y : R) : nanX y = y := by
  unfold nanX
  rw [select_if, if_neg]
  rw [une_iff]; exact fun h => h rfl

theorem rate_zero : rateX (0 : EReal) = (0 : EReal) := by
  unfold rateX
  rw [per_zero, nan_id]
  have h : posX (⊤ : EReal) = (0 : EReal) := by
    unfold posX
    rw [select_if, if_pos, lit_zero]
    rw [oeq_iff, lit_top]
  rw [h]
  have h' : negX (0 : EReal) = (0 : EReal) := by
    unfold negX
    rw [select_if, lit_zero, ite_self]
  rw [h']
  exact zero_mul _

theorem low_zero : lowX (0 : EReal) = 1#1 := by
  unfold lowX
  rw [or_iff, olt_iff, rate_zero, lit_10]
  right
  exact_mod_cast (by norm_num : (0 : ℝ) < 10)

theorem per_real (x : ℝ) (hx : 0 < x) : perX ((x : ℝ) : EReal) = ((1 / (100 * x) : ℝ) : EReal) := by
  show Ideal.div (lit 0x3F800000#32) ((lit 0x42C80000#32 : EReal) * ((x : ℝ) : EReal)) = _
  rw [lit_100, show (100 : EReal) = ((100 : ℝ) : EReal) from rfl, ← EReal.coe_mul, Ideal.div_coe (by positivity), lit_one, one_mul]

theorem rate_real (x : ℝ) (hx : 0 < x) : rateX ((x : ℝ) : EReal) = ((1000 / (100 * x) : ℝ) : EReal) := by
  unfold rateX
  rw [per_real x hx, nan_id]
  have h : posX (((1 / (100 * x) : ℝ) : EReal)) = ((1 / (100 * x) : ℝ) : EReal) := by
    unfold posX
    rw [select_if, if_neg]
    rw [oeq_iff, lit_top]; exact EReal.coe_ne_top _
  rw [h]
  have h' : negX (((1 / (100 * x) : ℝ) : EReal)) = ((1 / (100 * x) : ℝ) : EReal) := by
    unfold negX
    rw [select_if, if_neg]
    rw [oeq_iff, lit_bot]; exact EReal.coe_ne_bot _
  rw [h']
  show ((1 / (100 * x) : ℝ) : EReal) * (lit 0x447A0000#32 : EReal) = _
  rw [lit_1000, show (1000 : EReal) = ((1000 : ℝ) : EReal) from rfl, ← EReal.coe_mul]
  congr 1; ring

theorem ten_le (x : ℝ) (hx : 0 < x) (hx1 : x ≤ 1) : 10 ≤ 1000 / (100 * x) := by
  rw [le_div_iff₀ (by positivity)]; linarith

theorem low_real (x : ℝ) (hx : 0 < x) (hx1 : x ≤ 1) : ¬ lowX ((x : ℝ) : EReal) = 1#1 := by
  unfold lowX
  rw [or_iff, olt_iff, une_iff, rate_real x hx, lit_10, show (10 : EReal) = ((10 : ℝ) : EReal) from rfl]
  rintro (h | h)
  · exact h rfl
  · have h' : 1000 / (100 * x) < 10 := by exact_mod_cast h
    exact absurd (ten_le x hx hx1) (not_le.mpr h')

/-- A pixel between zero and one: the sampler's rate is a real of at least ten. -/
theorem lam_ten (x : EReal) (h0 : 0 ≤ x) (h1 : x ≤ 1) : ∃ l : ℝ, lamX x = ((l : ℝ) : EReal) ∧ 10 ≤ l := by
  induction x using EReal.rec with
  | bot => exact absurd h0 (by simp)
  | top => exact absurd h1 (not_le.mpr (EReal.coe_lt_top 1))
  | coe x =>
    have h0' : 0 ≤ x := by exact_mod_cast h0
    have h1' : x ≤ 1 := by exact_mod_cast h1
    rcases h0'.eq_or_lt with rfl | hx
    · refine ⟨100000, ?_, by norm_num⟩
      rw [EReal.coe_zero]
      unfold lamX
      rw [select_if, if_pos low_zero, c_1e5]
    · refine ⟨_, ?_, ten_le x hx h1'⟩
      unfold lamX
      rw [select_if, if_neg (low_real x hx h1'), rate_real x hx]

/-- A pixel is dark, has no frequency and no rate; or it has all of them. -/
theorem pixel (x : EReal) (h0 : 0 ≤ x) (h1 : x ≤ 1) :
    (lowX x = 1#1 ∧ rateX x = (0 : EReal) ∧ freqX x = (0 : EReal)) ∨ (¬ lowX x = 1#1 ∧ rateX x ≠ (0 : EReal) ∧ freqX x ≠ (0 : EReal)) := by
  induction x using EReal.rec with
  | bot => exact absurd h0 (by simp)
  | top => exact absurd h1 (not_le.mpr (EReal.coe_lt_top 1))
  | coe x =>
    have h0' : 0 ≤ x := by exact_mod_cast h0
    have h1' : x ≤ 1 := by exact_mod_cast h1
    rcases h0'.eq_or_lt with rfl | hx
    · exact .inl ⟨low_zero, rate_zero, mul_zero _⟩
    · refine .inr ⟨low_real x hx h1', ?_, ?_⟩
      · rw [rate_real x hx]
        have := (lt_of_lt_of_le (by norm_num : (0 : ℝ) < 10) (ten_le x hx h1')).ne'
        exact_mod_cast this
      · show (lit 0x42C80000#32 : EReal) * ((x : ℝ) : EReal) ≠ 0
        rw [lit_100, show (100 : EReal) = ((100 : ℝ) : EReal) from rfl, ← EReal.coe_mul]
        have : (100 * x) ≠ 0 := by positivity
        exact_mod_cast this

/-! ## The draws of an image -/

section Image

variable (x : Fin 64 → Fin 1024 → R) (tab : Fin 24 → Fin 4 → BitVec 32) (h0 : ∀ r q, (0 : EReal) ≤ x r q) (h1 : ∀ r q, (x r q : EReal) ≤ 1)
include h0 h1

theorem ok_whole (i t l : ℕ) (h : (dataOf x tab).ok i t l) : Whole ((dataOf x tab).kc i t l) := by
  obtain ⟨k, e, hk⟩ := lam_ten (x (rowOf l) (colOf l)) (h0 _ _) (h1 _ _)
  exact accept_whole (x (rowOf l) (colOf l)) _ _ k e hk h

theorem drew_whole (M t l : ℕ) : Whole ((dataOf x tab).drew M t l) := by
  unfold Data.drew
  induction M with
  | zero => exact Whole.zero
  | succ M ih =>
    unfold lastv
    split
    · next h => exact ok_whole x tab h0 h1 M t l h
    · exact ih

theorem res_whole (M t l : ℕ) : Whole ((dataOf x tab).res M t l) := by
  unfold Data.res
  split
  · split
    · exact Whole.one
    · exact drew_whole x tab h0 h1 M t l
  · exact Whole.zero

theorem sums_whole (M t l : ℕ) : Whole ((dataOf x tab).sums M l t) := by
  induction t with
  | zero => exact Whole.zero
  | succ t ih => exact ih.add (res_whole x tab h0 h1 M t l)

end Image

end Cert.Proof
-- ==== Proof.Folds.lean ====
/-
  Folds of words and of numbers: the largest and the smallest of many words read as integers, the sum that picks the last accepted
  candidate, and a prefix sum as a window's sum.
-/
module

public import proofs.«01_k».proof.Proof.Model

@[expose] public section

noncomputable section

namespace Cert.Proof

open Idealize.ShloMosaic
open scoped Classical

theorem toInt_max (x y : BitVec 32) : (IntOp.maxsi x y).toInt = max x.toInt y.toInt := by
  unfold IntOp.maxsi
  by_cases h : y.toInt < x.toInt
  · rw [if_pos (by rw [BitVec.slt_iff_toInt_lt]; exact h), max_eq_left h.le]
  · rw [if_neg (by rw [BitVec.slt_iff_toInt_lt]; exact h), max_eq_right (not_lt.mp h)]
theorem toInt_min (x y : BitVec 32) : (IntOp.minsi x y).toInt = min x.toInt y.toInt := by
  unfold IntOp.minsi
  by_cases h : x.toInt < y.toInt
  · rw [if_pos (by rw [BitVec.slt_iff_toInt_lt]; exact h), min_eq_left h.le]
  · rw [if_neg (by rw [BitVec.slt_iff_toInt_lt]; exact h), min_eq_right (not_lt.mp h)]

theorem le_fold_maxsi {ι : Type} (s : Finset ι) (b : BitVec 32) (g : ι → BitVec 32) (n : ℤ) :
    n ≤ (s.fold IntOp.maxsi b g).toInt ↔ n ≤ b.toInt ∨ ∃ x ∈ s, n ≤ (g x).toInt := by
  induction s using Finset.induction_on with
  | empty => simp
  | insert a s ha ih =>
    rw [Finset.fold_insert ha, toInt_max, le_max_iff, ih, Finset.exists_mem_insert]
    tauto
theorem le_fold_minsi {ι : Type} (s : Finset ι) (b : BitVec 32) (g : ι → BitVec 32) (n : ℤ) :
    n ≤ (s.fold IntOp.minsi b g).toInt ↔ n ≤ b.toInt ∧ ∀ x ∈ s, n ≤ (g x).toInt := by
  induction s using Finset.induction_on with
  | empty => simp
  | insert a s ha ih =>
    rw [Finset.fold_insert ha, toInt_min, le_min_iff, ih, Finset.forall_mem_insert]
    tauto

theorem round_toInt (i : Fin 24) : (BitVec.ofNat 32 i.val).toInt = (i.val : ℤ) := by revert i; decide

/-- The first accepting round of a draw, 23 where none accepts. -/
theorem le_first (p : Fin 24 → Prop) [DecidablePred p] (n : ℕ) :
    (n : ℤ) ≤ ((Finset.univ : Finset (Fin 24)).fold IntOp.minsi 2147483647#32 fun i => if p i then BitVec.ofNat 32 i.val else 23#32).toInt
      ↔ n < 24 ∧ ∀ i : Fin 24, i.val < n → ¬ p i := by
  rw [le_fold_minsi]
  have h23 : (23#32 : BitVec 32).toInt = 23 := by decide
  have hm : (2147483647#32 : BitVec 32).toInt = 2147483647 := by decide
  constructor
  · rintro ⟨-, h⟩
    have hv : ∀ i : Fin 24, p i → n ≤ i.val := fun i hp => by
      have := h i (Finset.mem_univ _)
      rw [if_pos hp, round_toInt] at this
      omega
    refine ⟨?_, fun i hi hp => absurd (hv i hp) (by omega)⟩
    by_cases hp : p 23
    · have : n ≤ 23 := hv 23 hp
      omega
    · have := h 23 (Finset.mem_univ _)
      rw [if_neg hp, h23] at this
      omega
  · rintro ⟨hn, h⟩
    refine ⟨by rw [hm]; omega, fun i _ => ?_⟩
    by_cases hp : p i
    · rw [if_pos hp, round_toInt]
      by_contra hlt
      exact h i (by omega) hp
    · rw [if_neg hp, h23]; omega

/-- The last round of several that holds, as a word: where it is round `i`. -/
theorem eq_last (p : Fin 24 → Prop) [DecidablePred p] (i : Fin 24) :
    BitVec.ofNat 32 i.val = ((Finset.univ : Finset (Fin 24)).fold IntOp.maxsi 2147483648#32 fun i => if p i then BitVec.ofNat 32 i.val else 4294967295#32)
      ↔ p i ∧ ∀ j : Fin 24, i < j → ¬ p j := by
  have hm : (2147483648#32 : BitVec 32).toInt = -2147483648 := by decide
  have h1 : (4294967295#32 : BitVec 32).toInt = -1 := by decide
  have key : ∀ n : ℕ, (n : ℤ) ≤ ((Finset.univ : Finset (Fin 24)).fold IntOp.maxsi 2147483648#32 fun i => if p i then BitVec.ofNat 32 i.val else 4294967295#32).toInt
      ↔ ∃ j : Fin 24, p j ∧ n ≤ j.val := fun n => by
    rw [le_fold_maxsi, hm]
    constructor
    · rintro (h | ⟨j, -, h⟩)
      · omega
      · by_cases hp : p j
        · rw [if_pos hp, round_toInt] at h
          exact ⟨j, hp, by omega⟩
        · rw [if_neg hp, h1] at h
          omega
    · rintro ⟨j, hp, h⟩
      refine .inr ⟨j, Finset.mem_univ _, ?_⟩
      rw [if_pos hp, round_toInt]; omega
  generalize ((Finset.univ : Finset (Fin 24)).fold IntOp.maxsi 2147483648#32 fun i => if p i then BitVec.ofNat 32 i.val else 4294967295#32) = w at key ⊢
  constructor
  · intro e
    have ew : w.toInt = (i.val : ℤ) := by rw [← e, round_toInt]
    obtain ⟨j, hp, hj⟩ := (key i.val).mp ew.ge
    have hno : ∀ j : Fin 24, i < j → ¬ p j := fun j hij hp => by
      have := (key (i.val + 1)).mpr ⟨j, hp, hij⟩
      rw [ew] at this
      push_cast at this
      omega
    have : j = i := by
      by_contra hne
      exact hno j (lt_of_le_of_ne hj (Ne.symm hne)) hp
    exact ⟨this ▸ hp, hno⟩
  · rintro ⟨hp, hno⟩
    refine BitVec.eq_of_toInt_eq ?_
    rw [round_toInt]
    have hle := (key i.val).mpr ⟨i, hp, le_rfl⟩
    have hlt : ¬ ((i.val + 1 : ℕ) : ℤ) ≤ w.toInt := fun h => by
      obtain ⟨j, hpj, hj⟩ := (key _).mp h
      exact hno j hj hpj
    push_cast at hlt
    omega

theorem lastv_spec (p : ℕ → Prop) (k : ℕ → EReal) (M : ℕ) :
    ((∀ i < M, ¬ p i) ∧ lastv p k 0 M = 0) ∨ ∃ j < M, p j ∧ (∀ i, j < i → i < M → ¬ p i) ∧ lastv p k 0 M = k j := by
  induction M with
  | zero => exact .inl ⟨fun i hi => absurd hi (Nat.not_lt_zero i), rfl⟩
  | succ M ih =>
    by_cases h : p M
    · exact .inr ⟨M, Nat.lt_succ_self M, h, fun i hi hi' => absurd hi (by omega), if_pos h⟩
    · have e : lastv p k 0 (M + 1) = lastv p k 0 M := if_neg h
      rw [e]
      rcases ih with ⟨hn, h0⟩ | ⟨j, hj, hp, hn, h0⟩
      · refine .inl ⟨fun i hi hp => ?_, h0⟩
        rcases Nat.lt_succ_iff_lt_or_eq.mp hi with hl | rfl
        · exact hn i hl hp
        · exact h hp
      · refine .inr ⟨j, by omega, hp, fun i hi hi' hp' => ?_, h0⟩
        rcases Nat.lt_succ_iff_lt_or_eq.mp hi' with hl | rfl
        · exact hn i hi hl hp'
        · exact h hp'

/-- The sum that picks the last accepted of `M` rounds. -/
theorem sum_last (p : ℕ → Prop) (k : ℕ → EReal) (M : ℕ) (hM : M ≤ 24) :
    (∑ i : Fin 24, if (p i.val ∧ i.val < M) ∧ ∀ j : Fin 24, i < j → ¬ (p j.val ∧ j.val < M) then k i.val else 0) = lastv p k 0 M := by
  rcases lastv_spec p k M with ⟨hn, h0⟩ | ⟨j, hj, hp, hn, h0⟩
  · rw [h0]
    refine Finset.sum_eq_zero fun i _ => if_neg fun h => hn i.val h.1.2 h.1.1
  · rw [h0, Finset.sum_eq_single (⟨j, by omega⟩ : Fin 24)]
    · exact if_pos ⟨⟨hp, hj⟩, fun i hi h => hn i.val hi h.2 h.1⟩
    · intro i _ hne
      refine if_neg fun h => ?_
      rcases lt_trichotomy i.val j with hl | he | hg
      · exact h.2 ⟨j, by omega⟩ hl ⟨hp, hj⟩
      · exact hne (Fin.ext he)
      · exact hn i.val hg h.1.2 h.1.1
    · intro h; exact absurd (Finset.mem_univ _) h

/-- A window of 201 entries ending at entry `t`, nothing before the first: the sum of the first `t + 1`. -/
theorem window_sum (y : ℕ → EReal) (t : ℕ) (ht : t < 201) :
    (∑ n ∈ Finset.range 201, if 200 ≤ t + n then y (t + n - 200) else 0) = ∑ n ∈ Finset.range (t + 1), y n := by
  have e : 201 = (200 - t) + (t + 1) := by omega
  rw [e, Finset.sum_range_add]
  rw [Finset.sum_eq_zero fun n hn => if_neg (by have := Finset.mem_range.mp hn; omega), zero_add]
  refine Finset.sum_congr rfl fun n _ => ?_
  rw [if_pos (by omega), show t + (200 - t + n) - 200 = n by omega]

theorem foldl_sum (N : ℕ) (g : ℕ → EReal) : (List.finRange N).foldl (fun r n => r + g n.val) 0 = ∑ n ∈ Finset.range N, g n := by
  have h : ∀ (l : List (Fin N)) (a : EReal), l.foldl (fun r n => r + g n.val) a = a + (l.map fun n => g n.val).sum := fun l => by
    induction l with
    | nil => intro a; simp
    | cons n l ih => intro a; rw [List.foldl_cons, ih, List.map_cons, List.sum_cons, add_assoc]
  rw [h, zero_add, Finset.sum_range, Fin.sum_univ_def]

theorem sums_eq (D : Data) (M l : ℕ) (t : ℕ) : D.sums M l t = ∑ n ∈ Finset.range t, D.res M n l := by
  induction t with
  | zero => rfl
  | succ t ih => rw [Finset.sum_range_succ, ← ih]; rfl

end Cert.Proof
-- ==== Proof.RI.Value.lean ====
/-
  The reference's result as the draws of the image.
-/
module

public import proofs.«01_k».proof.Proof.RI.Draw
public import proofs.«01_k».proof.Proof.Nonneg
public import proofs.«01_k».proof.Proof.Folds
public import Idealize.ShloMosaic.Lib.Routing.OpsSet
public import Idealize.ShloMosaic.Lib.Routing.OpsPair

@[expose] public section

set_option maxRecDepth 8192

noncomputable section

namespace Cert.Proof.RI

open Cert.ReferenceIdeal Cert.ReferenceIdeal.Gen Cert.ReferenceIdeal.Value
open Idealize.ShloMosaic
open scoped Classical

/-! ## A draw at an index -/

section Draws

variable (V : Valuation τ sig (Elt Ideal))

def px (r : Fin 64) (q : Fin 1024) : R := V (Proc.devRef .tc main_arg0) (ix2 r q)
def datR : Data := dataOf (px V) (fun r q => lit0 (S24x4.rowMajor (ix2 r q)))

/-- The lane of a pixel. -/
def ln (r : Fin 64) (q : Fin 1024) : ℕ := 1024 * r.val + q.val

theorem lane_at (r : Fin 64) (q : Fin 1024) : laneR V (ix2 r q) = (datR V).lane (ln r q) := by
  show _ = laneX (px V (rowOf (1024 * r.val + q.val)) (colOf (1024 * r.val + q.val)))
  rw [rowOf_lane, colOf_lane]
  rfl

theorem key0 (i : Fin 24) (t : Fin 201) (r : Fin 64) (q : Fin 1024) : rv46 V (ix4 i t r q) = (datR V).key i.val 0 := by
  have e : rv46 V (ix4 i t r q) = res_main_c V (ix2 i (0 : Fin 4)) := by
    unfold rv46 res_main_v46
    pointwise
  rw [e]
  show lit0 (S24x4.rowMajor (ix2 i (0 : Fin 4))) = lit0 (S24x4.rowMajor (ix2 ⟨i.val % 24, _⟩ (0 : Fin 4)))
  congr 3
  exact Fin.ext (Nat.mod_eq_of_lt i.isLt).symm
theorem key1 (i : Fin 24) (t : Fin 201) (r : Fin 64) (q : Fin 1024) : rv49 V (ix4 i t r q) = (datR V).key i.val 1 := by
  have e : rv49 V (ix4 i t r q) = res_main_c V (ix2 i (1 : Fin 4)) := by
    unfold rv49 res_main_v49
    pointwise
  rw [e]
  show lit0 (S24x4.rowMajor (ix2 i (1 : Fin 4))) = lit0 (S24x4.rowMajor (ix2 ⟨i.val % 24, _⟩ (1 : Fin 4)))
  congr 3
  exact Fin.ext (Nat.mod_eq_of_lt i.isLt).symm
theorem key2 (i : Fin 24) (t : Fin 201) (r : Fin 64) (q : Fin 1024) : rv52 V (ix4 i t r q) = (datR V).key i.val 2 := by
  have e : rv52 V (ix4 i t r q) = res_main_c V (ix2 i (2 : Fin 4)) := by
    unfold rv52 res_main_v52
    pointwise
  rw [e]
  show lit0 (S24x4.rowMajor (ix2 i (2 : Fin 4))) = lit0 (S24x4.rowMajor (ix2 ⟨i.val % 24, _⟩ (2 : Fin 4)))
  congr 3
  exact Fin.ext (Nat.mod_eq_of_lt i.isLt).symm
theorem key3 (i : Fin 24) (t : Fin 201) (r : Fin 64) (q : Fin 1024) : rv55 V (ix4 i t r q) = (datR V).key i.val 3 := by
  have e : rv55 V (ix4 i t r q) = res_main_c V (ix2 i (3 : Fin 4)) := by
    unfold rv55 res_main_v55
    pointwise
  rw [e]
  show lit0 (S24x4.rowMajor (ix2 i (3 : Fin 4))) = lit0 (S24x4.rowMajor (ix2 ⟨i.val % 24, _⟩ (3 : Fin 4)))
  congr 3
  exact Fin.ext (Nat.mod_eq_of_lt i.isLt).symm

theorem count_at (i : Fin 24) (t : Fin 201) (r : Fin 64) (q : Fin 1024) : rv43 V (ix4 i t r q) = word t.val (ln r q) := by
  show BitVec.ofNat 32 t.val * 65536#32 + BitVec.ofNat 32 r.val * 1024#32 + BitVec.ofNat 32 q.val = BitVec.ofNat 32 (t.val * 65536 + (1024 * r.val + q.val))
  rw [show (65536#32 : BitVec 32) = BitVec.ofNat 32 65536 from rfl, show (1024#32 : BitVec 32) = BitVec.ofNat 32 1024 from rfl,
    ← BitVec.ofNat_mul, ← BitVec.ofNat_mul, ← BitVec.ofNat_add, ← BitVec.ofNat_add]
  exact congrArg (BitVec.ofNat 32) (by omega)

theorem lane_draw (i : Fin 24) (t : Fin 201) (r : Fin 64) (q : Fin 1024) : laneR V (laneOfDraw (ix4 i t r q)) = (datR V).lane (ln r q) := by
  rw [laneOfDraw_eq]
  exact lane_at V r q

theorem ok_at (i : Fin 24) (t : Fin 201) (r : Fin 64) (q : Fin 1024) : res_main_v513 V (ix4 i t r q) = 1#1 ↔ (datR V).ok i.val t.val (ln r q) := by
  rw [r513, lane_draw, key0, key1, key2, key3, count_at]; rfl
theorem kc_at (i : Fin 24) (t : Fin 201) (r : Fin 64) (q : Fin 1024) : res_main_v427 V (ix4 i t r q) = (datR V).kc i.val t.val (ln r q) := by
  rw [r427, lane_draw, key0, key1, count_at]; rfl
theorem round_at (i : Fin 24) (t : Fin 201) (r : Fin 64) (q : Fin 1024) : res_main_v514 V (ix4 i t r q) = BitVec.ofNat 32 i.val := rfl

theorem lift_at (h : S24x201x64x1024.Reduces [0] S201x64x1024) (t : Fin 201) (r : Fin 64) (q : Fin 1024) (k : Fin 24) :
    h.lift (ix3 t r q) k = ix4 k t r q := by
  funext a
  apply Fin.ext
  fin_cases a <;> rfl

theorem red0 : S24x201x64x1024.Reduces [0] S201x64x1024 := by decide

theorem reduce_at {α : Type} (f : α → α → α) [Std.Commutative f] [Std.Associative f] (x : S24x201x64x1024.Idx → α) (init : S_.Idx → α)
    (t : Fin 201) (r : Fin 64) (q : Fin 1024) : Host.reduce f x init reducesTo_S24x201x64x1024_S201x64x1024_d0 h_S_ (ix3 t r q)
      = (Finset.univ : Finset (Fin 24)).fold f (init (Shape.Idx.first h_S_)) fun i => x (ix4 i t r q) := by
  rw [Host.reduce_eq_fold_single _ _ _ _ red0]
  exact Finset.fold_congr fun i _ => congrArg x (lift_at red0 t r q i)
theorem sum_at0 (x : S24x201x64x1024.Idx → EReal) (a : EReal) (t : Fin 201) (r : Fin 64) (q : Fin 1024) :
    Ideal.hostReduceAdd reducesTo_S24x201x64x1024_S201x64x1024_d0 x a (ix3 t r q) = a + ∑ i : Fin 24, x (ix4 i t r q) := by
  rw [Ideal.hostReduceAdd_single _ red0]
  exact congrArg (a + ·) (Finset.sum_congr rfl fun i _ => congrArg x (lift_at red0 t r q i))
theorem idx3 (x : S201x64x1024.Idx) : ∃ (t : Fin 201) (r : Fin 64) (q : Fin 1024), x = ix3 t r q :=
  ⟨x 0, x 1, x 2, by funext a; fin_cases a <;> rfl⟩
theorem idx0 (x : S_.Idx → BitVec 32) (i : S24x201x64x1024.Idx) : broadcastInDim S24x201x64x1024 ![] bcast_S_S24x201x64x1024 x i = x (ix0 : S_.Idx) :=
  congrArg x (funext fun a => a.elim0)

theorem cmpi_eq_iff (a b : BitVec 32) : IntOp.cmpi .eq a b = 1#1 ↔ a = b := by
  show BitVec.ofBool (a == b) = 1#1 ↔ _
  by_cases h : a = b
  · simp [h]
  · rw [beq_eq_false_iff_ne.mpr h]; exact ⟨fun h' => absurd h' (by decide), fun h' => absurd h' h⟩

/-- The number of a window's entry. -/
theorem entry (n : Fin (⟨3, ![201, 1, 1]⟩ : Shape).numel) :
    (((⟨3, ![201, 1, 1]⟩ : Shape).rowMajor.symm n) 0).val = n.val ∧ (((⟨3, ![201, 1, 1]⟩ : Shape).rowMajor.symm n) 1).val = 0
      ∧ (((⟨3, ![201, 1, 1]⟩ : Shape).rowMajor.symm n) 2).val = 0 := by
  have h := Shape.rowMajor_val_three ((⟨3, ![201, 1, 1]⟩ : Shape).rowMajor.symm n)
  rw [Equiv.apply_symm_apply] at h
  have h1 : (((⟨3, ![201, 1, 1]⟩ : Shape).rowMajor.symm n) 1).val < 1 := (((⟨3, ![201, 1, 1]⟩ : Shape).rowMajor.symm n) 1).isLt
  have h2 : (((⟨3, ![201, 1, 1]⟩ : Shape).rowMajor.symm n) 2).val < 1 := (((⟨3, ![201, 1, 1]⟩ : Shape).rowMajor.symm n) 2).isLt
  have h' : n.val = ((((⟨3, ![201, 1, 1]⟩ : Shape).rowMajor.symm n) 0).val * 1 + (((⟨3, ![201, 1, 1]⟩ : Shape).rowMajor.symm n) 1).val) * 1
    + (((⟨3, ![201, 1, 1]⟩ : Shape).rowMajor.symm n) 2).val := h
  omega

theorem window_at (y : S201x64x1024.Idx → EReal) (v : EReal) (hv : v = 0) (t : Fin 201) (r : Fin 64) (q : Fin 1024) :
    Host.reduceWindow (· + ·) ![201, 1, 1] ![1, 1, 1] ![200, 0, 0] ![0, 0, 0] y (fun _ : (⟨0, ![]⟩ : Shape).Idx => v)
      reduceWindows_S201x64x1024_S201x64x1024_w201s1p200_0_w1s1p0_0_w1s1p0_0 (by decide) (ix3 t r q)
      = ∑ n ∈ Finset.range (t.val + 1), if h : n < 201 then y (ix3 ⟨n, h⟩ r q) else 0 := by
  subst hv
  have ht := t.isLt
  rw [← window_sum (fun n => if h : n < 201 then y (ix3 ⟨n, h⟩ r q) else 0) t.val ht]
  have hN : (⟨3, ![201, 1, 1]⟩ : Shape).numel = 201 := by decide
  rw [show Finset.range 201 = Finset.range (⟨3, ![201, 1, 1]⟩ : Shape).numel by rw [hN]]
  rw [← foldl_sum]
  unfold Host.reduceWindow
  refine congrFun (congrFun (congrArg List.foldl (funext fun a => funext fun n => congrArg (a + ·) ?_)) _) _
  obtain ⟨e0, e1, e2⟩ := entry n
  have hn : n.val < 201 := lt_of_lt_of_eq n.isLt hN
  by_cases h : 200 ≤ t.val + n.val
  · rw [if_pos h, dif_pos (show t.val + n.val - 200 < 201 by omega), dif_pos]
    · refine congrArg y (funext fun a => Fin.ext ?_)
      match a with
      | ⟨0, _⟩ => show t.val * 1 + (((⟨3, ![201, 1, 1]⟩ : Shape).rowMajor.symm n) 0).val - 200 = t.val + n.val - 200; rw [e0, Nat.mul_one]
      | ⟨1, _⟩ => show r.val * 1 + (((⟨3, ![201, 1, 1]⟩ : Shape).rowMajor.symm n) 1).val - 0 = r.val; rw [e1]; omega
      | ⟨2, _⟩ => show q.val * 1 + (((⟨3, ![201, 1, 1]⟩ : Shape).rowMajor.symm n) 2).val - 0 = q.val; rw [e2]; omega
    · intro a
      have hr := r.isLt
      have hq := q.isLt
      match a with
      | ⟨0, _⟩ =>
        show 200 ≤ t.val * 1 + (((⟨3, ![201, 1, 1]⟩ : Shape).rowMajor.symm n) 0).val ∧ t.val * 1 + (((⟨3, ![201, 1, 1]⟩ : Shape).rowMajor.symm n) 0).val - 200 < 201
        rw [e0]; omega
      | ⟨1, _⟩ =>
        show 0 ≤ r.val * 1 + (((⟨3, ![201, 1, 1]⟩ : Shape).rowMajor.symm n) 1).val ∧ r.val * 1 + (((⟨3, ![201, 1, 1]⟩ : Shape).rowMajor.symm n) 1).val - 0 < 64
        rw [e1]; omega
      | ⟨2, _⟩ =>
        show 0 ≤ q.val * 1 + (((⟨3, ![201, 1, 1]⟩ : Shape).rowMajor.symm n) 2).val ∧ q.val * 1 + (((⟨3, ![201, 1, 1]⟩ : Shape).rowMajor.symm n) 2).val - 0 < 1024
        rw [e2]; omega
  · rw [if_neg h, dif_neg]
    intro hin
    have := (hin ⟨0, by decide⟩).1
    have h' : 200 ≤ t.val * 1 + (((⟨3, ![201, 1, 1]⟩ : Shape).rowMajor.symm n) 0).val := this
    rw [e0] at h'
    omega

/-- A whole number of at most 200 as a word; anything larger is slot 0. -/
theorem slot_word (y : R) (hy : Whole y) : ∃ n : ℕ, n ≤ 200
    ∧ FloatOps.fptosi 32 (Scalar.select (FloatOps.cmpf .ogt y (lit 0x43480000#32)) (lit 0x00000000#32) y) = BitVec.ofNat 32 n
    ∧ ∀ k : ℕ, 1 ≤ k → k ≤ 200 → (n = k ↔ (y : EReal) = ((k : ℕ) : EReal)) := by
  have hw : ∀ n : ℕ, n ≤ 200 → Ideal.fptosi 32 ((n : ℝ) : EReal) = BitVec.ofNat 32 n := fun n hn => by
    unfold Ideal.fptosi
    rw [Ideal.toIntClamped_coe, if_pos (Nat.cast_nonneg n), Int.floor_natCast]
    rw [min_eq_right (by norm_num; omega), max_eq_right (by norm_num)]
    exact BitVec.ofInt_natCast 32 n
  have hg : FloatOps.cmpf .ogt y (lit 0x43480000#32) = 1#1 ↔ (200 : EReal) < y := by rw [ogt_iff, lit_200]
  have hs : Scalar.select (FloatOps.cmpf .ogt y (lit 0x43480000#32)) (lit 0x00000000#32) y = if (200 : EReal) < y then 0 else y := by
    rw [select_if]
    exact (if_congr hg rfl rfl).trans (if_congr Iff.rfl lit_zero rfl)
  rw [hs]
  by_cases h : (200 : EReal) < y
  · rw [if_pos h]
    refine ⟨0, by omega, ?_, fun k hk hk' => ⟨fun h => by omega, fun e => ?_⟩⟩
    · have := hw 0 (by omega)
      rw [Nat.cast_zero, EReal.coe_zero] at this
      exact this
    · rw [e] at h
      have : 200 < k := by exact_mod_cast h
      omega
  · rw [if_neg h]
    rcases hy with rfl | ⟨n, rfl⟩
    · exact absurd (EReal.coe_lt_top 200) h
    · have hn : n ≤ 200 := by
        have h' : ((n : ℝ) : EReal) ≤ ((200 : ℝ) : EReal) := not_lt.mp h
        exact_mod_cast h'
      refine ⟨n, hn, hw n hn, fun k _ _ => ⟨fun h => by rw [h]; rfl, fun h => ?_⟩⟩
      have h' : ((n : ℝ) : EReal) = ((k : ℝ) : EReal) := h
      exact_mod_cast h'

/-! ## The rounds -/

/-- The first accepting round of every draw, -/
def firstA : S201x64x1024.Idx → BitVec 32 :=
  Host.reduce IntOp.minsi (select (res_main_v513 V) (res_main_v514 V) (broadcastInDim S24x201x64x1024 ![] bcast_S_S24x201x64x1024 (constantI S_ 32 23#32)))
    (constantI S_ 32 2147483647#32) reducesTo_S24x201x64x1024_S201x64x1024_d0 h_S_
/-- the last of them, -/
def lastA : S_.Idx → BitVec 32 := Host.reduce IntOp.maxsi (firstA V) (constantI S_ 32 2147483648#32) reducesTo_S201x64x1024_S_d0_1_2 h_S_
/-- and the last accepting round up to there. -/
def chosenA : S201x64x1024.Idx → BitVec 32 :=
  Host.reduce IntOp.maxsi (select (andi (res_main_v513 V) (cmpi .sle (res_main_v514 V) (broadcastInDim S24x201x64x1024 ![] bcast_S_S24x201x64x1024 (lastA V))))
    (res_main_v514 V) (broadcastInDim S24x201x64x1024 ![] bcast_S_S24x201x64x1024 (constantI S_ 32 4294967295#32)))
    (constantI S_ 32 2147483648#32) reducesTo_S24x201x64x1024_S201x64x1024_d0 h_S_

theorem first_at (t : Fin 201) (r : Fin 64) (q : Fin 1024) : firstA V (ix3 t r q)
    = (Finset.univ : Finset (Fin 24)).fold IntOp.minsi 2147483647#32 fun i => if (datR V).ok i.val t.val (ln r q) then BitVec.ofNat 32 i.val else 23#32 := by
  unfold firstA
  rw [reduce_at]
  refine Finset.fold_congr fun i _ => ?_
  show Scalar.select (res_main_v513 V (ix4 i t r q)) (res_main_v514 V (ix4 i t r q)) 23#32 = _
  rw [select_if, round_at]
  exact if_congr (ok_at V i t r q) rfl rfl

theorem le_last (n : ℕ) : (n : ℤ) ≤ (lastA V (ix0 : S_.Idx)).toInt ↔ n < 24 ∧ ∃ t : Fin 201, ∃ r : Fin 64, ∃ q : Fin 1024, ∀ i < n, ¬ (datR V).ok i t.val (ln r q) := by
  have hm : (2147483648#32 : BitVec 32).toInt = -2147483648 := by decide
  unfold lastA
  rw [Host.reduce_eq_fold, le_fold_maxsi]
  have hf : ∀ t r q, (n : ℤ) ≤ (firstA V (ix3 t r q)).toInt ↔ n < 24 ∧ ∀ i < n, ¬ (datR V).ok i t.val (ln r q) := fun t r q => by
    rw [first_at, le_first]
    refine and_congr_right fun hn => ⟨fun h i hi => h ⟨i, by omega⟩ hi, fun h i hi => h i.val hi⟩
  constructor
  · rintro (h | ⟨x, -, h⟩)
    · have h' : (n : ℤ) ≤ (2147483648#32 : BitVec 32).toInt := h
      rw [hm] at h'; omega
    · obtain ⟨t, r, q, rfl⟩ := idx3 x
      rw [hf] at h
      exact ⟨h.1, _, _, _, h.2⟩
  · rintro ⟨hn, t, r, q, h⟩
    refine .inr ⟨ix3 t r q, Finset.mem_filter.mpr ⟨Finset.mem_univ _, funext fun a => a.elim0⟩, ?_⟩
    rw [hf]; exact ⟨hn, h⟩

section Counted

variable (M : ℕ) (hM : (datR V).Rounds M)
include hM

theorem M_le : M ≤ 24 := by
  by_contra h
  exact absurd ((hM 24).mp (by omega)).1 (lt_irrefl _)

theorem le_last_iff (n : ℕ) : (n : ℤ) ≤ (lastA V (ix0 : S_.Idx)).toInt ↔ n < M := by
  rw [le_last, hM]
  refine and_congr_right fun _ => ⟨?_, ?_⟩
  · rintro ⟨t, r, q, h⟩
    have := r.isLt
    have := q.isLt
    exact ⟨t.val, t.isLt, ln r q, by unfold ln; omega, h⟩
  · rintro ⟨t, ht, l, hl, h⟩
    refine ⟨⟨t, ht⟩, ⟨l / 1024, by omega⟩, ⟨l % 1024, by omega⟩, ?_⟩
    have e : ln ⟨l / 1024, by omega⟩ ⟨l % 1024, by omega⟩ = l := by show 1024 * (l / 1024) + l % 1024 = l; omega
    rw [e]; exact h

theorem chosen_at (t : Fin 201) (r : Fin 64) (q : Fin 1024) : chosenA V (ix3 t r q)
    = (Finset.univ : Finset (Fin 24)).fold IntOp.maxsi 2147483648#32 fun i => if (datR V).ok i.val t.val (ln r q) ∧ i.val < M then BitVec.ofNat 32 i.val else 4294967295#32 := by
  unfold chosenA
  rw [reduce_at]
  refine Finset.fold_congr fun i _ => ?_
  show Scalar.select (IntOp.andi (res_main_v513 V (ix4 i t r q))
    (IntOp.cmpi .sle (res_main_v514 V (ix4 i t r q)) (broadcastInDim S24x201x64x1024 ![] bcast_S_S24x201x64x1024 (lastA V) (ix4 i t r q))))
    (res_main_v514 V (ix4 i t r q)) 4294967295#32 = _
  rw [select_if, round_at, idx0]
  refine if_congr ?_ rfl rfl
  rw [and_iff]
  refine and_congr (ok_at V i t r q) ?_
  rw [← le_last_iff V M hM i.val, ← round_toInt i]
  show BitVec.ofBool ((BitVec.ofNat 32 i.val).sle (lastA V ix0)) = 1#1 ↔ _
  rw [← BitVec.sle_iff_toInt_le]
  cases (BitVec.ofNat 32 i.val).sle (lastA V ix0) <;> decide

theorem drew_sum (t : Fin 201) (r : Fin 64) (q : Fin 1024) :
    (Host.reduceAdd (F := Ideal) (φ := .f32) (select (cmpi .eq (res_main_v514 V) (broadcastInDim S24x201x64x1024 ![0, 1, 2, 3] bcast_S1x201x64x1024_S24x201x64x1024_0_1_2_3
      (broadcastInDim S1x201x64x1024 ![1, 2, 3] bcast_S201x64x1024_S1x201x64x1024_1_2_3 (chosenA V)))) (res_main_v427 V)
      (broadcastInDim S24x201x64x1024 ![] bcast_S_S24x201x64x1024 (constant S_ .f32 0x00000000#32))) (constant S_ .f32 0x00000000#32)
      reducesTo_S24x201x64x1024_S201x64x1024_d0 h_S_ (ix3 t r q) : EReal) = (datR V).drew M t.val (ln r q) := by
  refine (sum_at0 _ _ t r q).trans ?_
  rw [show (constant (F := Ideal) S_ .f32 0x00000000#32 (Shape.Idx.first h_S_) : EReal) = 0 from lit_zero, zero_add]
  unfold Data.drew
  rw [← sum_last _ _ M (M_le V M hM)]
  refine Finset.sum_congr rfl fun i _ => ?_
  show (Scalar.select (IntOp.cmpi .eq (res_main_v514 V (ix4 i t r q)) (broadcastInDim S24x201x64x1024 ![0, 1, 2, 3] bcast_S1x201x64x1024_S24x201x64x1024_0_1_2_3
      (broadcastInDim S1x201x64x1024 ![1, 2, 3] bcast_S201x64x1024_S1x201x64x1024_1_2_3 (chosenA V)) (ix4 i t r q)))
      (res_main_v427 V (ix4 i t r q)) (lit 0x00000000#32) : EReal) = _
  rw [select_if, round_at, kc_at, lit_zero]
  refine if_congr ?_ rfl rfl
  have e : broadcastInDim S24x201x64x1024 ![0, 1, 2, 3] bcast_S1x201x64x1024_S24x201x64x1024_0_1_2_3
      (broadcastInDim S1x201x64x1024 ![1, 2, 3] bcast_S201x64x1024_S1x201x64x1024_1_2_3 (chosenA V)) (ix4 i t r q) = chosenA V (ix3 t r q) := by
    pointwise
  rw [e, chosen_at V M hM]
  exact (cmpi_eq_iff _ _).trans (eq_last (fun i : Fin 24 => (datR V).ok i.val t.val (ln r q) ∧ i.val < M) i)

/-- The interval drawn, zero where the pixel has no rate. -/
theorem v534_at (t : Fin 201) (r : Fin 64) (q : Fin 1024) :
    (res_main_v534 V (ix3 t r q) : EReal) = if rateX (px V r q) = (0 : EReal) then (0 : EReal) else (datR V).drew M t.val (ln r q) := by
  have e : broadcastInDim S201x64x1024 ![0, 1, 2] bcast_S1x64x1024_S201x64x1024_0_1_2 (cmpf .oeq (broadcastInDim S1x64x1024 ![1, 2] bcast_S64x1024_S1x64x1024_1_2 (res_main_v6 V))
      (broadcastInDim S1x64x1024 ![] bcast_S_S1x64x1024 (constant S_ .f32 0x00000000#32))) (ix3 t r q) = FloatOps.cmpf .oeq (res_main_v6 V (ix2 r q)) (lit 0x00000000#32) := by
    pointwise
    rw [lit_zero]
  have h : (res_main_v534 V (ix3 t r q) : EReal) = Scalar.select (FloatOps.cmpf .oeq (res_main_v6 V (ix2 r q)) (lit 0x00000000#32)) (lit 0x00000000#32)
      ((datR V).drew M t.val (ln r q)) := by
    rw [← e, ← drew_sum V M hM t r q]
    rfl
  rw [h, select_if, lit_zero]
  refine if_congr ?_ rfl rfl
  rw [oeq_iff]
  rfl

section Pixels

variable (h0 : ∀ r q, (0 : EReal) ≤ px V r q) (h1 : ∀ r q, (px V r q : EReal) ≤ 1)
include h0 h1

/-- The interval used: one where a pixel with a frequency drew none. -/
def usedA : S201x64x1024.Idx → R :=
  select (andi (broadcastInDim S201x64x1024 ![0, 1, 2] bcast_S1x64x1024_S201x64x1024_0_1_2 (broadcastInDim S1x64x1024 ![1, 2] bcast_S64x1024_S1x64x1024_1_2
    (cmpf .une (res_main_v1 V) (broadcastInDim S64x1024 ![] bcast_S_S64x1024 (constant S_ .f32 0x00000000#32)))))
    (cmpf .oeq (res_main_v534 V) (broadcastInDim S201x64x1024 ![] bcast_S_S201x64x1024 (constant S_ .f32 0x00000000#32))))
    (broadcastInDim S201x64x1024 ![] bcast_S_S201x64x1024 (id (constant S_ .f32 0x3F800000#32))) (res_main_v534 V)

theorem used_at (t : Fin 201) (r : Fin 64) (q : Fin 1024) : (usedA V (ix3 t r q) : EReal) = (datR V).res M t.val (ln r q) := by
  have e : broadcastInDim S201x64x1024 ![0, 1, 2] bcast_S1x64x1024_S201x64x1024_0_1_2 (broadcastInDim S1x64x1024 ![1, 2] bcast_S64x1024_S1x64x1024_1_2
    (cmpf .une (res_main_v1 V) (broadcastInDim S64x1024 ![] bcast_S_S64x1024 (constant S_ .f32 0x00000000#32)))) (ix3 t r q)
      = FloatOps.cmpf .une (freqX (px V r q)) (lit 0x00000000#32) := by
    have e' : ∀ f : S64x1024.Idx → BitVec 1, broadcastInDim S201x64x1024 ![0, 1, 2] bcast_S1x64x1024_S201x64x1024_0_1_2 (broadcastInDim S1x64x1024 ![1, 2] bcast_S64x1024_S1x64x1024_1_2 f) (ix3 t r q) = f (ix2 r q) := fun f => by
      pointwise
    rw [e']; rfl
  have h : (usedA V (ix3 t r q) : EReal) = Scalar.select (IntOp.andi (FloatOps.cmpf .une (freqX (px V r q)) (lit 0x00000000#32)) (FloatOps.cmpf .oeq (res_main_v534 V (ix3 t r q)) (lit 0x00000000#32)))
      (lit 0x3F800000#32) (res_main_v534 V (ix3 t r q)) := by
    rw [← e]; rfl
  have ha : (datR V).act (ln r q) ↔ ¬ lowX (px V r q) = 1#1 := by
    show (¬ lowX (px V (rowOf (1024 * r.val + q.val)) (colOf (1024 * r.val + q.val))) = 1#1) ↔ _
    rw [rowOf_lane, colOf_lane]
  have hc : IntOp.andi (FloatOps.cmpf .une (freqX (px V r q)) (lit 0x00000000#32)) (FloatOps.cmpf .oeq (res_main_v534 V (ix3 t r q)) (lit 0x00000000#32)) = 1#1
      ↔ freqX (px V r q) ≠ 0 ∧ @Eq EReal (res_main_v534 V (ix3 t r q)) 0 := by rw [and_iff, une_iff, oeq_iff, lit_zero]
  rw [h, select_if]
  refine (if_congr hc lit_one rfl).trans ?_
  rw [v534_at V M hM]
  unfold Data.res
  rcases pixel (px V r q) (h0 r q) (h1 r q) with ⟨hl, hr, hf⟩ | ⟨hl, hr, hf⟩
  · rw [if_pos hr, if_neg (fun h => h.1 hf), if_neg (fun h => ha.mp h.2 hl)]
  · have hd : (201 : ℕ) > t.val ∧ (datR V).act (ln r q) := ⟨t.isLt, ha.mpr hl⟩
    refine Eq.trans ?_ (if_pos hd).symm
    rw [if_neg hr]
    exact if_congr ⟨fun h => h.2, fun h => ⟨hf, h⟩⟩ rfl rfl

theorem sums_at (t : Fin 201) (r : Fin 64) (q : Fin 1024) : (res_main_v543 V (ix3 t r q) : EReal) = (datR V).sums M (ln r q) (t.val + 1) := by
  refine (window_at (usedA V) (lit 0x00000000#32) lit_zero t r q).trans ?_
  rw [sums_eq]
  refine Finset.sum_congr rfl fun n hn => ?_
  have hn' : n < 201 := by have := Finset.mem_range.mp hn; have := t.isLt; omega
  rw [dif_pos hn']
  exact used_at V M hM h0 h1 ⟨n, hn'⟩ r q

/-- The slot of a draw: the prefix sum, or none. -/
theorem slot_at (t : Fin 201) (l : Fin 65536) : ∃ n : ℕ, n ≤ 200 ∧ res_main_v548 V (ix2 t l) = BitVec.ofNat 32 n
    ∧ ∀ k : ℕ, 1 ≤ k → k ≤ 200 → (n = k ↔ (datR V).sums M l.val (t.val + 1) = ((k : ℕ) : EReal)) := by
  have e : ∀ f : S201x64x1024.Idx → R, shapeCast S201x65536 f shapeCasts_S201x64x1024_S201x65536 (ix2 t l) = f (ix3 t (rowOf l.val) (colOf l.val)) := fun f => by
    pointwise
    refine congrArg (fun z => f (ix3 t z (colOf l.val))) (Fin.ext ?_)
    show l.val / 1024 = l.val / 1024 % 64
    have := l.isLt
    omega
  have hl : ln (rowOf l.val) (colOf l.val) = l.val := by
    show 1024 * (l.val / 1024 % 64) + l.val % 1024 = l.val
    have := l.isLt
    omega
  have h : res_main_v548 V (ix2 t l) = FloatOps.fptosi 32 (Scalar.select (FloatOps.cmpf .ogt (res_main_v543 V (ix3 t (rowOf l.val) (colOf l.val))) (lit 0x43480000#32)) (lit 0x00000000#32)
      (res_main_v543 V (ix3 t (rowOf l.val) (colOf l.val)))) := by
    unfold res_main_v548
    exact congrArg (FloatOps.fptosi 32) (e _)
  rw [h, sums_at V M hM h0 h1, hl]
  exact slot_word _ (sums_whole (px V) _ h0 h1 M _ _)

end Pixels

end Counted

end Draws

end Cert.Proof.RI
-- ==== Proof.RI.Result.lean ====
/-
  The reference's marks: the entries its scatter sets.
-/
module

public import proofs.«01_k».proof.Proof.RI.Value

@[expose] public section

set_option maxRecDepth 8192

noncomputable section

namespace Cert.Proof.RI

open Cert.ReferenceIdeal Cert.ReferenceIdeal.Gen Cert.ReferenceIdeal.Value
open Idealize.ShloMosaic Idealize.ShloMosaic.Routing
open scoped Classical

variable (V : Valuation τ sig (Elt Ideal))

/-- The slots, a negative one counted from the end. -/
def slotA : S201x65536.Idx → BitVec 32 :=
  select (cmpi .slt (res_main_v548 V) (broadcastInDim S201x65536 ![] bcast_S_S201x65536 (constantI S_ 32 0#32)))
    (addi (res_main_v548 V) (broadcastInDim S201x65536 ![] bcast_S_S201x65536 (constantI S_ 32 201#32))) (res_main_v548 V)

/-- The lanes, likewise. -/
def colA : S201x65536.Idx → BitVec 32 :=
  select (cmpi .slt (res_main_v550 V) (broadcastInDim S201x65536 ![] bcast_S_S201x65536 (constantI S_ 32 0#32)))
    (addi (res_main_v550 V) (broadcastInDim S201x65536 ![] bcast_S_S201x65536 (constantI S_ 32 65536#32))) (res_main_v550 V)

/-- The places the scatter sets. -/
def placeA : S201x65536x2.Idx → BitVec 32 :=
  concatenate S201x65536x2 2 [⟨S201x65536x1, (broadcastInDim S201x65536x1 ![0, 1] bcast_S201x65536_S201x65536x1_0_1 (slotA V))⟩,
    ⟨S201x65536x1, (broadcastInDim S201x65536x1 ![0, 1] bcast_S201x65536_S201x65536x1_0_1 (colA V))⟩] concatenates_S201x65536x1_S201x65536x1_S201x65536x2_d2

/-- The table of slots by lanes. -/
def setA : S201x65536.Idx → R :=
  Host.scatter scatter_S201x65536_S201x65536x2_S201x65536_n_01_01_2 (fun _ b => b) (broadcastInDim S201x65536 ![] bcast_S_S201x65536 (constant S_ .f32 0x00000000#32)) (placeA V)
    (broadcastInDim S201x65536 ![] bcast_S_S201x65536 (constant S_ .f32 0x3F800000#32))

/-- The result. -/
def outA : S200x64x1024.Idx → BitVec 1 :=
  cmpf .une (extractStridedSlice S200x64x1024 ![1, 0, 0] (shapeCast S201x64x1024 (setA V) shapeCasts_S201x65536_S201x64x1024) slices_S201x64x1024_S200x64x1024_1_0_0)
    (broadcastInDim S200x64x1024 ![] bcast_S_S200x64x1024 (constant S_ .f32 0x00000000#32))

theorem place_slot (t : Fin 201) (l : Fin 65536) : placeA V (ix3 t l 0) = slotA V (ix2 t l) := by
  have e : ∀ f g : S201x65536.Idx → BitVec 32, concatenate S201x65536x2 2 [⟨S201x65536x1, (broadcastInDim S201x65536x1 ![0, 1] bcast_S201x65536_S201x65536x1_0_1 f)⟩,
    ⟨S201x65536x1, (broadcastInDim S201x65536x1 ![0, 1] bcast_S201x65536_S201x65536x1_0_1 g)⟩] concatenates_S201x65536x1_S201x65536x1_S201x65536x2_d2 (ix3 t l 0) = f (ix2 t l) := fun f g => by
    pointwise
  exact e _ _

theorem place_col (t : Fin 201) (l : Fin 65536) : placeA V (ix3 t l 1) = colA V (ix2 t l) := by
  have e : ∀ f g : S201x65536.Idx → BitVec 32, concatenate S201x65536x2 2 [⟨S201x65536x1, (broadcastInDim S201x65536x1 ![0, 1] bcast_S201x65536_S201x65536x1_0_1 f)⟩,
    ⟨S201x65536x1, (broadcastInDim S201x65536x1 ![0, 1] bcast_S201x65536_S201x65536x1_0_1 g)⟩] concatenates_S201x65536x1_S201x65536x1_S201x65536x2_d2 (ix3 t l 1) = g (ix2 t l) := fun f g => by
    pointwise
  exact e _ _

theorem small (n : ℕ) (h : n < 2 ^ 31) : (BitVec.ofNat 32 n).toNat = n ∧ (BitVec.ofNat 32 n).toInt = n := by
  have e : (BitVec.ofNat 32 n).toNat = n := by rw [BitVec.toNat_ofNat]; omega
  refine ⟨e, ?_⟩
  rw [BitVec.toInt_eq_toNat_of_lt (by rw [e]; omega), e]

theorem col_at (t : Fin 201) (l : Fin 65536) : (colA V (ix2 t l)).toInt = l.val := by
  have e : res_main_v550 V (ix2 t l) = BitVec.ofNat 32 l.val := by
    unfold res_main_v550
    pointwise
  have h : colA V (ix2 t l) = Scalar.select (IntOp.cmpi .slt (res_main_v550 V (ix2 t l)) 0#32) (IntOp.addi (res_main_v550 V (ix2 t l)) 65536#32) (res_main_v550 V (ix2 t l)) := rfl
  have hl := l.isLt
  obtain ⟨h1, h2⟩ := small l.val (by omega)
  rw [h, e, wrap_of_lt _ _ (by rw [h1]; omega), h2]

theorem slotw_at (t : Fin 201) (l : Fin 65536) (n : ℕ) (hn : n ≤ 200) (e : res_main_v548 V (ix2 t l) = BitVec.ofNat 32 n) :
    (slotA V (ix2 t l)).toInt = n := by
  have h : slotA V (ix2 t l) = Scalar.select (IntOp.cmpi .slt (res_main_v548 V (ix2 t l)) 0#32) (IntOp.addi (res_main_v548 V (ix2 t l)) 201#32) (res_main_v548 V (ix2 t l)) := rfl
  obtain ⟨h1, h2⟩ := small n (by omega)
  rw [h, e, wrap_of_lt _ _ (by rw [h1]; omega), h2]

/-- Where an update lands. -/
theorem lands (t : Fin 201) (l : Fin 65536) (n : Fin 201) (p : Fin 65536) :
    scatter_S201x65536_S201x65536x2_S201x65536_n_01_01_2.resultIdx? (ix2 t l) (placeA V) = some (ix2 n p) ↔ (slotA V (ix2 t l)).toInt = n.val ∧ l = p := by
  refine (scatter_lands2 (R := 201) (C := 65536) (A := 201) (B := 65536) scatter_S201x65536_S201x65536x2_S201x65536_n_01_01_2 rfl rfl rfl (placeA V) t l n p).trans ?_
  show (placeA V (ix3 t l 0)).toInt = _ ∧ (placeA V (ix3 t l 1)).toInt = _ ↔ _
  rw [place_slot, place_col, col_at]
  exact and_congr Iff.rfl ⟨fun h => Fin.ext (by exact_mod_cast h), fun h => by rw [h]⟩

theorem set_iff (n : Fin 201) (p : Fin 65536) : setA V (ix2 n p) ≠ (0 : EReal) ↔ ∃ t : Fin 201, (slotA V (ix2 t p)).toInt = n.val := by
  constructor
  · intro h
    by_contra hn
    refine h ((scatter_set_miss _ _ _ _ _ fun k hk => ?_).trans lit_zero)
    obtain ⟨t, l, rfl⟩ : ∃ t l, k = ix2 t l := ⟨k 0, k 1, by funext a; match a with | ⟨0, _⟩ => rfl | ⟨1, _⟩ => rfl⟩
    obtain ⟨h1, rfl⟩ := (lands V t l n p).mp hk
    exact hn ⟨t, h1⟩
  · rintro ⟨t, ht⟩
    have : setA V (ix2 n p) = (1 : EReal) := (scatter_set_hit _ _ _ _ _ (lit 0x3F800000#32) (fun _ _ => rfl) (ix2 t p) ((lands V t p n p).mpr ⟨ht, rfl⟩)).trans lit_one
    rw [this]
    exact one_ne_zero

theorem row_at (f : S201x65536.Idx → R) (s : Fin 200) (r : Fin 64) (q : Fin 1024) (n : Fin 201) (l : Fin 65536) (hn : n.val = s.val + 1) (hl : l.val = 1024 * r.val + q.val) :
    cmpf .une (extractStridedSlice S200x64x1024 ![1, 0, 0] (shapeCast S201x64x1024 f shapeCasts_S201x65536_S201x64x1024) slices_S201x64x1024_S200x64x1024_1_0_0)
      (broadcastInDim S200x64x1024 ![] bcast_S_S200x64x1024 (constant S_ .f32 0x00000000#32)) (ix3 s r q) = FloatOps.cmpf .une (f (ix2 n l)) (lit 0x00000000#32) := by
  have e : extractStridedSlice S200x64x1024 ![1, 0, 0] (shapeCast S201x64x1024 f shapeCasts_S201x65536_S201x64x1024) slices_S201x64x1024_S200x64x1024_1_0_0 (ix3 s r q) = f (ix2 n l) := by
    pointwise
    exact congrArg₂ (fun a b => f (ix2 a b)) (Fin.ext (by show 1 + s.val = n.val; omega)) (Fin.ext (by show r.val * 1024 + q.val = l.val; omega))
  rw [← e]
  rfl

theorem out_iff (M : ℕ) (hM : (datR V).Rounds M) (h0 : ∀ r q, (0 : EReal) ≤ px V r q) (h1 : ∀ r q, (px V r q : EReal) ≤ 1)
    (s : Fin 200) (r : Fin 64) (q : Fin 1024) : outA V (ix3 s r q) = 1#1 ↔ (datR V).Mark M (1024 * r.val + q.val) ((s.val + 1 : ℕ) : EReal) := by
  have hs := s.isLt
  have hr := r.isLt
  have hq := q.isLt
  have h : outA V (ix3 s r q) = FloatOps.cmpf .une (setA V (ix2 (⟨s.val + 1, by omega⟩ : Fin 201) (⟨1024 * r.val + q.val, by omega⟩ : Fin 65536))) (lit 0x00000000#32) :=
    row_at (setA V) s r q _ _ rfl rfl
  rw [h, une_iff, lit_zero]
  refine (set_iff V _ _).trans ?_
  constructor
  · rintro ⟨t, ht⟩
    obtain ⟨n, hn, hw, hk⟩ := slot_at V M hM h0 h1 t ⟨1024 * r.val + q.val, by omega⟩
    rw [slotw_at V _ _ n hn hw] at ht
    have hns : n = s.val + 1 := by exact_mod_cast ht
    exact ⟨t.val + 1, by omega, by have := t.isLt; omega, (hk (s.val + 1) (by omega) (by omega)).mp hns⟩
  · rintro ⟨t, ht1, ht2, ht⟩
    obtain ⟨n, hn, hw, hk⟩ := slot_at V M hM h0 h1 ⟨t - 1, by omega⟩ ⟨1024 * r.val + q.val, by omega⟩
    refine ⟨⟨t - 1, by omega⟩, ?_⟩
    rw [slotw_at V _ _ n hn hw]
    have hns : n = s.val + 1 := (hk (s.val + 1) (by omega) (by omega)).mpr (by
      show (datR V).sums M (1024 * r.val + q.val) (t - 1 + 1) = _
      rw [Nat.sub_add_cancel ht1, ht])
    rw [hns]

end Cert.Proof.RI

end
-- ==== Proof.Pre.lean ====
/-
  The precondition read: every pixel lies between 0 and 1.
-/
module

public import proofs.«01_k».proof.Pre_unit_inputs
public import proofs.«01_k».proof.Proof.Host
public import Idealize.ShloMosaic.Lib.ReduceAll

@[expose] public section

noncomputable section

namespace Cert.Proof

open Idealize.ShloMosaic

/-- The side conditions of the precondition's operations. -/
theorem pre_facts : Cert.Pre_unit_inputs.Facts := ⟨by decide, by decide, by decide⟩

theorem pre_pixels (h : Cert.Pre_unit_inputs.Facts) (x : Cert.Pre_unit_inputs.S64x1024.Idx → R) (e : Cert.Pre_unit_inputs.fn (F := Ideal) x = fun _ => 1#1)
    (i : Cert.Pre_unit_inputs.S64x1024.Idx) : (0 : EReal) ≤ x i ∧ (x i : EReal) ≤ 1 := by
  have e0 : Cert.Pre_unit_inputs.fn (F := Ideal) x (fun a => a.elim0) = 1#1 := by rw [e]
  unfold Cert.Pre_unit_inputs.fn at e0
  have hi := Host.reduce_andi_eq_one _ _ _ _ _ e0 i (funext fun a => a.elim0)
  change IntOp.andi (FloatOps.cmpf .oge (x i) (lit 0x00000000#32)) (FloatOps.cmpf .ole (x i) (lit 0x3F800000#32)) = 1#1 at hi
  rw [and_iff, oge_iff, ole_iff, lit_zero, lit_one] at hi
  exact hi

end Cert.Proof

end
-- ==== Proof.lean ====
/-
  The certificate's claims put together: the three frames from the programs' runs (`Proof/K/Run.lean`, `Proof/KI/Run.lean`, the
  reference's run), the idealization (no operation rewritten), and the equality of the kernel's result with the reference's
  (`Proof/KI/Value.lean`, `Proof/RI/Result.lean`: both are the marks of one family of draws, `Proof/Model.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.KI.Value
public import proofs.«01_k».proof.Proof.RI.Result
public import proofs.«01_k».proof.Proof.Nonneg
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.StableHlo Idealize.SL.Sem

/-- The kernel's run at the bit patterns, read at the argument and the counters. -/
theorem frame_p : Cert.quiescent_Kernel := fun m ρ _ =>
  θ_run_mono (K.run_main (F := Bits) m ρ) fun _ h => ⟨fun c => (h.1 c).1, h.2⟩

/-- The same at the extended reals. -/
theorem frame_pi : Cert.quiescent_KernelIdeal := fun m ρ _ =>
  θ_run_mono (KI.run_main (F := Ideal) m ρ) fun _ h => ⟨fun c => (h.1 c).1, h.2⟩

/-- The reference's run, read likewise; it has no counter. -/
theorem frame_ri : Cert.quiescent_ReferenceIdeal := fun m ρ _ =>
  θ_run_mono (Cert.ReferenceIdeal.Value.run (F := Ideal) m ρ) fun r h => ⟨fun c => (h c).2, sem_eq_zero_of_no_sems (by decide) r.2⟩

/-- Two bits that are 1 in the same case are equal. -/
theorem bit_ext (a b : BitVec 1) (h : a = 1#1 ↔ b = 1#1) : a = b := by
  revert h; revert a b; decide

/-- The two programs hold one table of keys. -/
theorem table_eq : (Cert.ReferenceIdeal.lit0 : Fin 96 → BitVec 32) = Cert.KernelIdeal.lit0 := rfl

section Equal

variable (m : (ℓ : Loc Cert.KernelIdeal.nD Cert.KernelIdeal.τ Cert.KernelIdeal.sig) → Buf (Elt Ideal) ℓ)
  (V : Valuation Cert.ReferenceIdeal.τ Cert.ReferenceIdeal.sig (Elt Ideal)) (c : Dev Cert.KernelIdeal.nD)
  (hx : ∀ i, V (Proc.devRef .tc Cert.ReferenceIdeal.main_arg0) i = KI.img m c i)
include hx

/-- From one image the reference draws what the kernel draws. -/
theorem data_eq : RI.datR V = KI.datD m c := by
  unfold RI.datR KI.datD
  have e : RI.px V = fun r q => KI.img m c (ix2 r q) := funext fun r => funext fun q => hx _
  rw [e, table_eq]

theorem result_eq (h : ∀ i, (0 : EReal) ≤ KI.img m c i ∧ (KI.img m c i : EReal) ≤ 1) :
    RI.outA V = Cert.KernelIdeal.Gen.V8 m (KI.outs m) c Cert.KernelIdeal.main_v42 := by
  have hp : ∀ r q, (0 : EReal) ≤ RI.px V r q ∧ (RI.px V r q : EReal) ≤ 1 := fun r q => by
    rw [show RI.px V r q = KI.img m c (ix2 r q) from hx _]; exact h _
  funext j
  obtain ⟨s, r, q, rfl⟩ : ∃ s r q, j = ix3 s r q := ⟨j 0, j 1, j 2, by funext a; match a with | ⟨0, _⟩ => rfl | ⟨1, _⟩ => rfl | ⟨2, _⟩ => rfl⟩
  refine bit_ext _ _ ?_
  have hM := KI.rounds_rds m c
  rw [← data_eq m V c hx] at hM
  refine (RI.out_iff V (KI.rds m c) hM (fun r q => (hp r q).1) (fun r q => (hp r q).2) s r q).trans ?_
  rw [data_eq m V c hx]
  exact (KI.result_iff m c (fun t l => (res_whole _ _ (fun r q => (h _).1) (fun r q => (h _).2) (KI.rds m c) t l).nonneg) s r q).symm

end Equal

/-- The kernel's result is the reference's. -/
theorem value_eq : Cert.algebraic_KernelIdeal_ReferenceIdeal_pre_unit_inputs (hPre_unit_inputs := pre_facts) := fun m g m' g' hpre hx =>
  ⟨fun c => Cert.KernelIdeal.Gen.V8 m (KI.outs m) c Cert.KernelIdeal.main_v42,
    θ_run_mono (KI.run_main (F := Ideal) m g) fun _ h c => ⟨(h.1 c).2, (h.1 c).1⟩,
    θ_run_mono (Cert.ReferenceIdeal.Value.run (F := Ideal) m' g') fun _ h c =>
      ⟨(h c).1.trans (result_eq m (launchContents m' c) c (fun i => congrFun (hx c) i) (fun i => pre_pixels pre_facts _ (hpre c) i)), (h c).2⟩⟩

theorem claim : Cert.Claim :=
  ⟨Cert.Kernel.Gen.facts, Cert.KernelIdeal.Gen.facts, Cert.ReferenceIdeal.Gen.facts, pre_facts,
    frame_p, frame_pi, fun m ρ _ => frame_pi m ρ trivial, frame_ri, fun m ρ _ => frame_ri m ρ trivial, trivial, value_eq⟩

end Cert.Proof

end
